-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear [hPre_clear : Cert.Pre_clear.Facts] (m : (ℓ : Loc Cert.KernelIdeal.nD Cert.KernelIdeal.τ Cert.KernelIdeal.sig) → Buf (Elt Ideal) ℓ) : Prop :=
  ∀ c : Dev Cert.KernelIdeal.nD,
    (Cert.Pre_clear.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_GuardedIdeal (m : (ℓ : Loc Cert.GuardedIdeal.nD Cert.GuardedIdeal.τ Cert.GuardedIdeal.sig) → Buf (Elt Ideal) ℓ) : Prop :=
  True

def Pre_GuardedIdeal_clear [hPre_clear : Cert.Pre_clear.Facts] (m : (ℓ : Loc Cert.GuardedIdeal.nD Cert.GuardedIdeal.τ Cert.GuardedIdeal.sig) → Buf (Elt Ideal) ℓ) : Prop :=
  ∀ c : Dev Cert.GuardedIdeal.nD,
    (Cert.Pre_clear.fn (F := Ideal) (m ((c.tc : Thread Cert.GuardedIdeal.nD Cert.GuardedIdeal.τ).loc Cert.GuardedIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_clear [hKernelIdeal : Cert.KernelIdeal.Facts] [hPre_clear : Cert.Pre_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_GuardedIdeal [hGuardedIdeal : Cert.GuardedIdeal.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0))
      ∧ r.2.sem = fun _ => 0)

def quiescent_GuardedIdeal_pre_clear [hGuardedIdeal : Cert.GuardedIdeal.Facts] [hPre_clear : Cert.Pre_clear.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal_clear m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0))
      ∧ r.2.sem = fun _ => 0)

def preserves_Kernel_KernelIdeal : Prop :=
  IdealRules.named_const.Statement Cert.KernelIdeal.κ "root_span" .f32 0x3F72DCE8#32 ((Real.sqrt (7549747 / 8388608) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_GuardedIdeal_pre_clear [hKernelIdeal : Cert.KernelIdeal.Facts] [hGuardedIdeal : Cert.GuardedIdeal.Facts] [hPre_clear : Cert.Pre_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.GuardedIdeal.nD Cert.GuardedIdeal.τ Cert.GuardedIdeal.sig) → Buf (Elt Ideal) ℓ) (g' : Dev Cert.GuardedIdeal.nD → PrngReg), Pre_KernelIdeal_clear m →
    (∀ c : Dev Cert.KernelIdeal.nD,
      m' ((c.tc : Thread Cert.GuardedIdeal.nD Cert.GuardedIdeal.τ).loc Cert.GuardedIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.GuardedIdeal.defs (F := Ideal)) (onTc (τ := Cert.GuardedIdeal.τ) (Cert.GuardedIdeal.main (F := Ideal))) ⟨m', fun _ => 0, g'⟩ (fun r => ∀ c : Dev Cert.GuardedIdeal.nD,
          r.2.mem ((c.tc : Thread Cert.GuardedIdeal.nD Cert.GuardedIdeal.τ).loc Cert.GuardedIdeal.main_v20) = v0 c
          ∧ r.2.mem ((c.tc : Thread Cert.GuardedIdeal.nD Cert.GuardedIdeal.τ).loc Cert.GuardedIdeal.main_v219) = v1 c
          ∧ r.2.mem ((c.tc : Thread Cert.GuardedIdeal.nD Cert.GuardedIdeal.τ).loc Cert.GuardedIdeal.main_arg0) = m' ((c.tc : Thread Cert.GuardedIdeal.nD Cert.GuardedIdeal.τ).loc Cert.GuardedIdeal.main_arg0))

def Claim : Prop :=
  ∃ (hKernel : Cert.Kernel.Facts) (hKernelIdeal : Cert.KernelIdeal.Facts) (hReferenceIdeal : Cert.ReferenceIdeal.Facts) (hGuardedIdeal : Cert.GuardedIdeal.Facts) (hPre_clear : Cert.Pre_clear.Facts),
    quiescent_Kernel (hKernel := hKernel)
    ∧ quiescent_KernelIdeal (hKernelIdeal := hKernelIdeal)
    ∧ quiescent_KernelIdeal_pre_clear (hKernelIdeal := hKernelIdeal) (hPre_clear := hPre_clear)
    ∧ quiescent_ReferenceIdeal (hReferenceIdeal := hReferenceIdeal)
    ∧ quiescent_GuardedIdeal (hGuardedIdeal := hGuardedIdeal)
    ∧ quiescent_GuardedIdeal_pre_clear (hGuardedIdeal := hGuardedIdeal) (hPre_clear := hPre_clear)
    ∧ preserves_Kernel_KernelIdeal
    ∧ algebraic_KernelIdeal_ReferenceIdeal (hKernelIdeal := hKernelIdeal) (hReferenceIdeal := hReferenceIdeal)
    ∧ algebraic_KernelIdeal_GuardedIdeal_pre_clear (hKernelIdeal := hKernelIdeal) (hGuardedIdeal := hGuardedIdeal) (hPre_clear := hPre_clear)
-- ==== Pre_clear.lean ====
abbrev S32x1000000 : Shape := ⟨2, ![32, 1000000]⟩
abbrev S_ : Shape := ⟨0, ![]⟩
abbrev S32 : Shape := ⟨1, ![32]⟩
abbrev S32x1 : Shape := ⟨2, ![32, 1]⟩

class Facts : Prop where
  reducesTo_S32x1000000_S32_d1 : S32x1000000.ReducesTo [1] S32
  h_S_ : 0 < S_.numel
  bcast_S32_S32x1_0 : S32.BroadcastsInDim S32x1 (![0] : Fin 1 → Fin S32x1.rank)
  bcast_S32x1_S32x1000000_0_1 : S32x1.BroadcastsInDim S32x1000000 (![0, 1] : Fin 2 → Fin S32x1000000.rank)
  bcast_S_S32x1 : S_.BroadcastsInDim S32x1 (![] : Fin 0 → Fin S32x1.rank)
  bcast_S_S32x1000000 : S_.BroadcastsInDim S32x1000000 (![] : Fin 0 → Fin S32x1000000.rank)

variable [Facts]

def fn_where {F : FTy → Type} [FloatOps F] (arg0 : IVec S32x1000000 1) (arg1 : FVec F S_ .f32) (arg2 : FVec F S32x1000000 .f32) : FVec F S32x1000000 .f32 :=
  let v0 : FVec F S_ .f32 := id arg1
  let v1 : FVec F S32x1000000 .f32 := broadcastInDim S32x1000000 ![] bcast_S_S32x1000000 v0
  let v2 : FVec F S32x1000000 .f32 := select arg0 v1 arg2
  v2

def fn_part12 {F : FTy → Type} [FloatOps F] (main_v20 : FVec F S32x1000000 .f32) (main_v218 : IVec S32x1000000 1) : IVec S32x1000000 1 :=
  let main_cst_67 : FVec F S_ .f32 := constant S_ .f32 0x00000000#32
  let main_v219 : FVec F S32x1000000 .f32 := fn_where (F := F) main_v218 main_cst_67 main_v20
  let main_cst_68 : FVec F S_ .f32 := constant S_ .f32 0xFF800000#32
  let main_v220 : FVec F S32 .f32 := (fun x v => Host.reduce FloatOps.maximumf x v reducesTo_S32x1000000_S32_d1 h_S_) main_v219 main_cst_68
  let main_v221 : FVec F S32x1 .f32 := broadcastInDim S32x1 ![0] bcast_S32_S32x1_0 main_v220
  let main_v222 : FVec F S32x1000000 .f32 := broadcastInDim S32x1000000 ![0, 1] bcast_S32x1_S32x1000000_0_1 main_v221
  let main_v223 : IVec S32x1000000 1 := cmpf .oeq main_v20 main_v222
  let main_v224 : IVec S32x1000000 1 := ori main_v218 main_v223
  main_v224

def fn_part11 {F : FTy → Type} [FloatOps F] (main_v20 : FVec F S32x1000000 .f32) (main_v23 : FVec F S32x1000000 .f32) (main_v199 : FVec F S32x1000000 .f32) (main_cst_61 : FVec F S_ .f32) : IVec S32x1000000 1 :=
  let main_v200 : FVec F S32x1000000 .f32 := broadcastInDim S32x1000000 ![] bcast_S_S32x1000000 main_cst_61
  let main_v201 : FVec F S32x1000000 .f32 := subf main_v199 main_v200
  let main_cst_62 : FVec F S_ .f32 := constant S_ .f32 0x3F800000#32
  let main_v202 : FVec F S32x1000000 .f32 := broadcastInDim S32x1000000 ![] bcast_S_S32x1000000 main_cst_62
  let main_v203 : FVec F S32x1000000 .f32 := mulf main_v201 main_v202
  let main_cst_63 : FVec F S_ .f32 := constant S_ .f32 0x00800000#32
  let main_v204 : FVec F S32x1000000 .f32 := broadcastInDim S32x1000000 ![] bcast_S_S32x1000000 main_cst_63
  let main_v205 : FVec F S32x1000000 .f32 := addf main_v203 main_v204
  let main_cst_64 : FVec F S_ .f32 := constant S_ .f32 0x00800000#32
  let main_v206 : FVec F S32x1000000 .f32 := broadcastInDim S32x1000000 ![] bcast_S_S32x1000000 main_cst_64
  let main_v207 : FVec F S32x1000000 .f32 := maximumf main_v206 main_v205
  let main_v208 : FVec F S32x1000000 .f32 := Host.log main_v207
  let main_v209 : FVec F S32x1000000 .f32 := Host.negf main_v208
  let main_v210 : FVec F S32x1000000 .f32 := Host.log main_v209
  let main_v211 : FVec F S32x1000000 .f32 := Host.negf main_v210
  let main_v212 : FVec F S32x1000000 .f32 := addf main_v211 main_v23
  let main_cst_65 : FVec F S_ .f32 := constant S_ .f32 0xFF800000#32
  let main_v213 : FVec F S32 .f32 := (fun x v => Host.reduce FloatOps.maximumf x v reducesTo_S32x1000000_S32_d1 h_S_) main_v212 main_cst_65
  let main_v214 : FVec F S32x1 .f32 := broadcastInDim S32x1 ![0] bcast_S32_S32x1_0 main_v213
  let main_cst_66 : FVec F S_ .f32 := constant S_ .f32 0x1E3CE508#32
  let main_v215 : FVec F S32x1 .f32 := broadcastInDim S32x1 ![] bcast_S_S32x1 main_cst_66
  let main_v216 : FVec F S32x1 .f32 := subf main_v214 main_v215
  let main_v217 : FVec F S32x1000000 .f32 := broadcastInDim S32x1000000 ![0, 1] bcast_S32x1_S32x1000000_0_1 main_v216
  let main_v218 : IVec S32x1000000 1 := cmpf .olt main_v212 main_v217
  fn_part12 (F := F) main_v20 main_v218

def fn_part10 {F : FTy → Type} [FloatOps F] (main_v20 : FVec F S32x1000000 .f32) (main_v23 : FVec F S32x1000000 .f32) (main_v176 : IVec S32x1000000 32) (main_v182 : IVec S32x1000000 32) : IVec S32x1000000 1 :=
  let main_v183 : IVec S32x1000000 32 := addi main_v176 main_v182
  let main_c_55 : IVec S_ 32 := constantI S_ 32 6#32
  let main_v184 : IVec S32x1000000 32 := broadcastInDim S32x1000000 ![] bcast_S_S32x1000000 main_c_55
  let main_v185 : IVec S32x1000000 32 := Host.shli main_v182 main_v184
  let main_c_56 : IVec S_ 32 := constantI S_ 32 26#32
  let main_v186 : IVec S32x1000000 32 := broadcastInDim S32x1000000 ![] bcast_S_S32x1000000 main_c_56
  let main_v187 : IVec S32x1000000 32 := Host.shrui main_v182 main_v186
  let main_v188 : IVec S32x1000000 32 := ori main_v185 main_v187
  let main_v189 : IVec S32x1000000 32 := xori main_v183 main_v188
  let main_c_57 : IVec S_ 32 := constantI S_ 32 466688987#32
  let main_v190 : IVec S32x1000000 32 := broadcastInDim S32x1000000 ![] bcast_S_S32x1000000 main_c_57
  let main_v191 : IVec S32x1000000 32 := addi main_v183 main_v190
  let main_c_58 : IVec S_ 32 := constantI S_ 32 5#32
  let main_v192 : IVec S32x1000000 32 := broadcastInDim S32x1000000 ![] bcast_S_S32x1000000 main_c_58
  let main_v193 : IVec S32x1000000 32 := addi main_v189 main_v192
  let main_v194 : IVec S32x1000000 32 := xori main_v191 main_v193
  let main_c_59 : IVec S_ 32 := constantI S_ 32 9#32
  let main_v195 : IVec S32x1000000 32 := broadcastInDim S32x1000000 ![] bcast_S_S32x1000000 main_c_59
  let main_v196 : IVec S32x1000000 32 := Host.shrui main_v194 main_v195
  let main_c_60 : IVec S_ 32 := constantI S_ 32 1065353216#32
  let main_v197 : IVec S32x1000000 32 := broadcastInDim S32x1000000 ![] bcast_S_S32x1000000 main_c_60
  let main_v198 : IVec S32x1000000 32 := ori main_v196 main_v197
  let main_v199 : FVec F S32x1000000 .f32 := bitcastToFloat .f32 main_v198
  let main_cst_61 : FVec F S_ .f32 := constant S_ .f32 0x3F800000#32
  fn_part11 (F := F) main_v20 main_v23 main_v199 main_cst_61

def fn_part9 {F : FTy → Type} [FloatOps F] (main_v20 : FVec F S32x1000000 .f32) (main_v23 : FVec F S32x1000000 .f32) (main_v161 : IVec S32x1000000 32) (main_v162 : IVec S32x1000000 32) (main_v163 : IVec S32x1000000 32) : IVec S32x1000000 1 :=
  let main_v164 : IVec S32x1000000 32 := Host.shli main_v161 main_v163
  let main_c_50 : IVec S_ 32 := constantI S_ 32 19#32
  let main_v165 : IVec S32x1000000 32 := broadcastInDim S32x1000000 ![] bcast_S_S32x1000000 main_c_50
  let main_v166 : IVec S32x1000000 32 := Host.shrui main_v161 main_v165
  let main_v167 : IVec S32x1000000 32 := ori main_v164 main_v166
  let main_v168 : IVec S32x1000000 32 := xori main_v162 main_v167
  let main_v169 : IVec S32x1000000 32 := addi main_v162 main_v168
  let main_c_51 : IVec S_ 32 := constantI S_ 32 15#32
  let main_v170 : IVec S32x1000000 32 := broadcastInDim S32x1000000 ![] bcast_S_S32x1000000 main_c_51
  let main_v171 : IVec S32x1000000 32 := Host.shli main_v168 main_v170
  let main_c_52 : IVec S_ 32 := constantI S_ 32 17#32
  let main_v172 : IVec S32x1000000 32 := broadcastInDim S32x1000000 ![] bcast_S_S32x1000000 main_c_52
  let main_v173 : IVec S32x1000000 32 := Host.shrui main_v168 main_v172
  let main_v174 : IVec S32x1000000 32 := ori main_v171 main_v173
  let main_v175 : IVec S32x1000000 32 := xori main_v169 main_v174
  let main_v176 : IVec S32x1000000 32 := addi main_v169 main_v175
  let main_c_53 : IVec S_ 32 := constantI S_ 32 26#32
  let main_v177 : IVec S32x1000000 32 := broadcastInDim S32x1000000 ![] bcast_S_S32x1000000 main_c_53
  let main_v178 : IVec S32x1000000 32 := Host.shli main_v175 main_v177
  let main_c_54 : IVec S_ 32 := constantI S_ 32 6#32
  let main_v179 : IVec S32x1000000 32 := broadcastInDim S32x1000000 ![] bcast_S_S32x1000000 main_c_54
  let main_v180 : IVec S32x1000000 32 := Host.shrui main_v175 main_v179
  let main_v181 : IVec S32x1000000 32 := ori main_v178 main_v180
  let main_v182 : IVec S32x1000000 32 := xori main_v176 main_v181
  fn_part10 (F := F) main_v20 main_v23 main_v176 main_v182

def fn_part8 {F : FTy → Type} [FloatOps F] (main_v20 : FVec F S32x1000000 .f32) (main_v23 : FVec F S32x1000000 .f32) (main_v143 : IVec S32x1000000 32) (main_v144 : IVec S32x1000000 32) (main_v145 : IVec S32x1000000 32) : IVec S32x1000000 1 :=
  let main_v146 : IVec S32x1000000 32 := Host.shli main_v143 main_v145
  let main_c_44 : IVec S_ 32 := constantI S_ 32 16#32
  let main_v147 : IVec S32x1000000 32 := broadcastInDim S32x1000000 ![] bcast_S_S32x1000000 main_c_44
  let main_v148 : IVec S32x1000000 32 := Host.shrui main_v143 main_v147
  let main_v149 : IVec S32x1000000 32 := ori main_v146 main_v148
  let main_v150 : IVec S32x1000000 32 := xori main_v144 main_v149
  let main_v151 : IVec S32x1000000 32 := addi main_v144 main_v150
  let main_c_45 : IVec S_ 32 := constantI S_ 32 24#32
  let main_v152 : IVec S32x1000000 32 := broadcastInDim S32x1000000 ![] bcast_S_S32x1000000 main_c_45
  let main_v153 : IVec S32x1000000 32 := Host.shli main_v150 main_v152
  let main_c_46 : IVec S_ 32 := constantI S_ 32 8#32
  let main_v154 : IVec S32x1000000 32 := broadcastInDim S32x1000000 ![] bcast_S_S32x1000000 main_c_46
  let main_v155 : IVec S32x1000000 32 := Host.shrui main_v150 main_v154
  let main_v156 : IVec S32x1000000 32 := ori main_v153 main_v155
  let main_v157 : IVec S32x1000000 32 := xori main_v151 main_v156
  let main_c_47 : IVec S_ 32 := constantI S_ 32 1#32
  let main_v158 : IVec S32x1000000 32 := broadcastInDim S32x1000000 ![] bcast_S_S32x1000000 main_c_47
  let main_v159 : IVec S32x1000000 32 := addi main_v151 main_v158
  let main_c_48 : IVec S_ 32 := constantI S_ 32 466688991#32
  let main_v160 : IVec S32x1000000 32 := broadcastInDim S32x1000000 ![] bcast_S_S32x1000000 main_c_48
  let main_v161 : IVec S32x1000000 32 := addi main_v157 main_v160
  let main_v162 : IVec S32x1000000 32 := addi main_v159 main_v161
  let main_c_49 : IVec S_ 32 := constantI S_ 32 13#32
  let main_v163 : IVec S32x1000000 32 := broadcastInDim S32x1000000 ![] bcast_S_S32x1000000 main_c_49
  fn_part9 (F := F) main_v20 main_v23 main_v161 main_v162 main_v163

def fn_part7 {F : FTy → Type} [FloatOps F] (main_v20 : FVec F S32x1000000 .f32) (main_v23 : FVec F S32x1000000 .f32) (main_v125 : IVec S32x1000000 32) (main_v127 : IVec S32x1000000 32) : IVec S32x1000000 1 :=
  let main_c_38 : IVec S_ 32 := constantI S_ 32 4#32
  let main_v128 : IVec S32x1000000 32 := broadcastInDim S32x1000000 ![] bcast_S_S32x1000000 main_c_38
  let main_v129 : IVec S32x1000000 32 := addi main_v125 main_v128
  let main_v130 : IVec S32x1000000 32 := addi main_v127 main_v129
  let main_c_39 : IVec S_ 32 := constantI S_ 32 17#32
  let main_v131 : IVec S32x1000000 32 := broadcastInDim S32x1000000 ![] bcast_S_S32x1000000 main_c_39
  let main_v132 : IVec S32x1000000 32 := Host.shli main_v129 main_v131
  let main_c_40 : IVec S_ 32 := constantI S_ 32 15#32
  let main_v133 : IVec S32x1000000 32 := broadcastInDim S32x1000000 ![] bcast_S_S32x1000000 main_c_40
  let main_v134 : IVec S32x1000000 32 := Host.shrui main_v129 main_v133
  let main_v135 : IVec S32x1000000 32 := ori main_v132 main_v134
  let main_v136 : IVec S32x1000000 32 := xori main_v130 main_v135
  let main_v137 : IVec S32x1000000 32 := addi main_v130 main_v136
  let main_c_41 : IVec S_ 32 := constantI S_ 32 29#32
  let main_v138 : IVec S32x1000000 32 := broadcastInDim S32x1000000 ![] bcast_S_S32x1000000 main_c_41
  let main_v139 : IVec S32x1000000 32 := Host.shli main_v136 main_v138
  let main_c_42 : IVec S_ 32 := constantI S_ 32 3#32
  let main_v140 : IVec S32x1000000 32 := broadcastInDim S32x1000000 ![] bcast_S_S32x1000000 main_c_42
  let main_v141 : IVec S32x1000000 32 := Host.shrui main_v136 main_v140
  let main_v142 : IVec S32x1000000 32 := ori main_v139 main_v141
  let main_v143 : IVec S32x1000000 32 := xori main_v137 main_v142
  let main_v144 : IVec S32x1000000 32 := addi main_v137 main_v143
  let main_c_43 : IVec S_ 32 := constantI S_ 32 16#32
  let main_v145 : IVec S32x1000000 32 := broadcastInDim S32x1000000 ![] bcast_S_S32x1000000 main_c_43
  fn_part8 (F := F) main_v20 main_v23 main_v143 main_v144 main_v145

def fn_part6 {F : FTy → Type} [FloatOps F] (main_v20 : FVec F S32x1000000 .f32) (main_v23 : FVec F S32x1000000 .f32) (main_v104 : IVec S32x1000000 32) (main_v105 : IVec S32x1000000 32) (main_v107 : IVec S32x1000000 32) (main_v108 : IVec S32x1000000 32) : IVec S32x1000000 1 :=
  let main_v109 : IVec S32x1000000 32 := Host.shrui main_v104 main_v108
  let main_v110 : IVec S32x1000000 32 := ori main_v107 main_v109
  let main_v111 : IVec S32x1000000 32 := xori main_v105 main_v110
  let main_v112 : IVec S32x1000000 32 := addi main_v105 main_v111
  let main_c_33 : IVec S_ 32 := constantI S_ 32 26#32
  let main_v113 : IVec S32x1000000 32 := broadcastInDim S32x1000000 ![] bcast_S_S32x1000000 main_c_33
  let main_v114 : IVec S32x1000000 32 := Host.shli main_v111 main_v113
  let main_c_34 : IVec S_ 32 := constantI S_ 32 6#32
  let main_v115 : IVec S32x1000000 32 := broadcastInDim S32x1000000 ![] bcast_S_S32x1000000 main_c_34
  let main_v116 : IVec S32x1000000 32 := Host.shrui main_v111 main_v115
  let main_v117 : IVec S32x1000000 32 := ori main_v114 main_v116
  let main_v118 : IVec S32x1000000 32 := xori main_v112 main_v117
  let main_v119 : IVec S32x1000000 32 := addi main_v112 main_v118
  let main_c_35 : IVec S_ 32 := constantI S_ 32 6#32
  let main_v120 : IVec S32x1000000 32 := broadcastInDim S32x1000000 ![] bcast_S_S32x1000000 main_c_35
  let main_v121 : IVec S32x1000000 32 := Host.shli main_v118 main_v120
  let main_c_36 : IVec S_ 32 := constantI S_ 32 26#32
  let main_v122 : IVec S32x1000000 32 := broadcastInDim S32x1000000 ![] bcast_S_S32x1000000 main_c_36
  let main_v123 : IVec S32x1000000 32 := Host.shrui main_v118 main_v122
  let main_v124 : IVec S32x1000000 32 := ori main_v121 main_v123
  let main_v125 : IVec S32x1000000 32 := xori main_v119 main_v124
  let main_c_37 : IVec S_ 32 := constantI S_ 32 0#32
  let main_v126 : IVec S32x1000000 32 := broadcastInDim S32x1000000 ![] bcast_S_S32x1000000 main_c_37
  let main_v127 : IVec S32x1000000 32 := addi main_v119 main_v126
  fn_part7 (F := F) main_v20 main_v23 main_v125 main_v127

def fn_part5 {F : FTy → Type} [FloatOps F] (main_v20 : FVec F S32x1000000 .f32) (main_v23 : FVec F S32x1000000 .f32) (main_v86 : IVec S32x1000000 32) (main_v87 : IVec S32x1000000 32) (main_v89 : IVec S32x1000000 32) (main_v90 : IVec S32x1000000 32) : IVec S32x1000000 1 :=
  let main_v91 : IVec S32x1000000 32 := Host.shrui main_v86 main_v90
  let main_v92 : IVec S32x1000000 32 := ori main_v89 main_v91
  let main_v93 : IVec S32x1000000 32 := xori main_v87 main_v92
  let main_c_27 : IVec S_ 32 := constantI S_ 32 466688987#32
  let main_v94 : IVec S32x1000000 32 := broadcastInDim S32x1000000 ![] bcast_S_S32x1000000 main_c_27
  let main_v95 : IVec S32x1000000 32 := addi main_v87 main_v94
  let main_c_28 : IVec S_ 32 := constantI S_ 32 2#32
  let main_v96 : IVec S32x1000000 32 := broadcastInDim S32x1000000 ![] bcast_S_S32x1000000 main_c_28
  let main_v97 : IVec S32x1000000 32 := addi main_v93 main_v96
  let main_v98 : IVec S32x1000000 32 := addi main_v95 main_v97
  let main_c_29 : IVec S_ 32 := constantI S_ 32 13#32
  let main_v99 : IVec S32x1000000 32 := broadcastInDim S32x1000000 ![] bcast_S_S32x1000000 main_c_29
  let main_v100 : IVec S32x1000000 32 := Host.shli main_v97 main_v99
  let main_c_30 : IVec S_ 32 := constantI S_ 32 19#32
  let main_v101 : IVec S32x1000000 32 := broadcastInDim S32x1000000 ![] bcast_S_S32x1000000 main_c_30
  let main_v102 : IVec S32x1000000 32 := Host.shrui main_v97 main_v101
  let main_v103 : IVec S32x1000000 32 := ori main_v100 main_v102
  let main_v104 : IVec S32x1000000 32 := xori main_v98 main_v103
  let main_v105 : IVec S32x1000000 32 := addi main_v98 main_v104
  let main_c_31 : IVec S_ 32 := constantI S_ 32 15#32
  let main_v106 : IVec S32x1000000 32 := broadcastInDim S32x1000000 ![] bcast_S_S32x1000000 main_c_31
  let main_v107 : IVec S32x1000000 32 := Host.shli main_v104 main_v106
  let main_c_32 : IVec S_ 32 := constantI S_ 32 17#32
  let main_v108 : IVec S32x1000000 32 := broadcastInDim S32x1000000 ![] bcast_S_S32x1000000 main_c_32
  fn_part6 (F := F) main_v20 main_v23 main_v104 main_v105 main_v107 main_v108

def fn_part4 {F : FTy → Type} [FloatOps F] (main_v20 : FVec F S32x1000000 .f32) (main_v23 : FVec F S32x1000000 .f32) (main_v66 : IVec S32x1000000 32) (main_v72 : IVec S32x1000000 32) : IVec S32x1000000 1 :=
  let main_v73 : IVec S32x1000000 32 := addi main_v66 main_v72
  let main_c_21 : IVec S_ 32 := constantI S_ 32 29#32
  let main_v74 : IVec S32x1000000 32 := broadcastInDim S32x1000000 ![] bcast_S_S32x1000000 main_c_21
  let main_v75 : IVec S32x1000000 32 := Host.shli main_v72 main_v74
  let main_c_22 : IVec S_ 32 := constantI S_ 32 3#32
  let main_v76 : IVec S32x1000000 32 := broadcastInDim S32x1000000 ![] bcast_S_S32x1000000 main_c_22
  let main_v77 : IVec S32x1000000 32 := Host.shrui main_v72 main_v76
  let main_v78 : IVec S32x1000000 32 := ori main_v75 main_v77
  let main_v79 : IVec S32x1000000 32 := xori main_v73 main_v78
  let main_v80 : IVec S32x1000000 32 := addi main_v73 main_v79
  let main_c_23 : IVec S_ 32 := constantI S_ 32 16#32
  let main_v81 : IVec S32x1000000 32 := broadcastInDim S32x1000000 ![] bcast_S_S32x1000000 main_c_23
  let main_v82 : IVec S32x1000000 32 := Host.shli main_v79 main_v81
  let main_c_24 : IVec S_ 32 := constantI S_ 32 16#32
  let main_v83 : IVec S32x1000000 32 := broadcastInDim S32x1000000 ![] bcast_S_S32x1000000 main_c_24
  let main_v84 : IVec S32x1000000 32 := Host.shrui main_v79 main_v83
  let main_v85 : IVec S32x1000000 32 := ori main_v82 main_v84
  let main_v86 : IVec S32x1000000 32 := xori main_v80 main_v85
  let main_v87 : IVec S32x1000000 32 := addi main_v80 main_v86
  let main_c_25 : IVec S_ 32 := constantI S_ 32 24#32
  let main_v88 : IVec S32x1000000 32 := broadcastInDim S32x1000000 ![] bcast_S_S32x1000000 main_c_25
  let main_v89 : IVec S32x1000000 32 := Host.shli main_v86 main_v88
  let main_c_26 : IVec S_ 32 := constantI S_ 32 8#32
  let main_v90 : IVec S32x1000000 32 := broadcastInDim S32x1000000 ![] bcast_S_S32x1000000 main_c_26
  fn_part5 (F := F) main_v20 main_v23 main_v86 main_v87 main_v89 main_v90

def fn_part3 {F : FTy → Type} [FloatOps F] (main_v20 : FVec F S32x1000000 .f32) (main_v23 : FVec F S32x1000000 .f32) (main_v48 : IVec S32x1000000 32) (main_v54 : IVec S32x1000000 32) : IVec S32x1000000 1 :=
  let main_v55 : IVec S32x1000000 32 := addi main_v48 main_v54
  let main_c_15 : IVec S_ 32 := constantI S_ 32 6#32
  let main_v56 : IVec S32x1000000 32 := broadcastInDim S32x1000000 ![] bcast_S_S32x1000000 main_c_15
  let main_v57 : IVec S32x1000000 32 := Host.shli main_v54 main_v56
  let main_c_16 : IVec S_ 32 := constantI S_ 32 26#32
  let main_v58 : IVec S32x1000000 32 := broadcastInDim S32x1000000 ![] bcast_S_S32x1000000 main_c_16
  let main_v59 : IVec S32x1000000 32 := Host.shrui main_v54 main_v58
  let main_v60 : IVec S32x1000000 32 := ori main_v57 main_v59
  let main_v61 : IVec S32x1000000 32 := xori main_v55 main_v60
  let main_c_17 : IVec S_ 32 := constantI S_ 32 1#32
  let main_v62 : IVec S32x1000000 32 := broadcastInDim S32x1000000 ![] bcast_S_S32x1000000 main_c_17
  let main_v63 : IVec S32x1000000 32 := addi main_v55 main_v62
  let main_c_18 : IVec S_ 32 := constantI S_ 32 466688988#32
  let main_v64 : IVec S32x1000000 32 := broadcastInDim S32x1000000 ![] bcast_S_S32x1000000 main_c_18
  let main_v65 : IVec S32x1000000 32 := addi main_v61 main_v64
  let main_v66 : IVec S32x1000000 32 := addi main_v63 main_v65
  let main_c_19 : IVec S_ 32 := constantI S_ 32 17#32
  let main_v67 : IVec S32x1000000 32 := broadcastInDim S32x1000000 ![] bcast_S_S32x1000000 main_c_19
  let main_v68 : IVec S32x1000000 32 := Host.shli main_v65 main_v67
  let main_c_20 : IVec S_ 32 := constantI S_ 32 15#32
  let main_v69 : IVec S32x1000000 32 := broadcastInDim S32x1000000 ![] bcast_S_S32x1000000 main_c_20
  let main_v70 : IVec S32x1000000 32 := Host.shrui main_v65 main_v69
  let main_v71 : IVec S32x1000000 32 := ori main_v68 main_v70
  let main_v72 : IVec S32x1000000 32 := xori main_v66 main_v71
  fn_part4 (F := F) main_v20 main_v23 main_v66 main_v72

def fn_part2 {F : FTy → Type} [FloatOps F] (main_v20 : FVec F S32x1000000 .f32) (main_v23 : FVec F S32x1000000 .f32) (main_v33 : IVec S32x1000000 32) (main_v34 : IVec S32x1000000 32) (main_v35 : IVec S32x1000000 32) : IVec S32x1000000 1 :=
  let main_v36 : IVec S32x1000000 32 := Host.shli main_v33 main_v35
  let main_c_10 : IVec S_ 32 := constantI S_ 32 19#32
  let main_v37 : IVec S32x1000000 32 := broadcastInDim S32x1000000 ![] bcast_S_S32x1000000 main_c_10
  let main_v38 : IVec S32x1000000 32 := Host.shrui main_v33 main_v37
  let main_v39 : IVec S32x1000000 32 := ori main_v36 main_v38
  let main_v40 : IVec S32x1000000 32 := xori main_v34 main_v39
  let main_v41 : IVec S32x1000000 32 := addi main_v34 main_v40
  let main_c_11 : IVec S_ 32 := constantI S_ 32 15#32
  let main_v42 : IVec S32x1000000 32 := broadcastInDim S32x1000000 ![] bcast_S_S32x1000000 main_c_11
  let main_v43 : IVec S32x1000000 32 := Host.shli main_v40 main_v42
  let main_c_12 : IVec S_ 32 := constantI S_ 32 17#32
  let main_v44 : IVec S32x1000000 32 := broadcastInDim S32x1000000 ![] bcast_S_S32x1000000 main_c_12
  let main_v45 : IVec S32x1000000 32 := Host.shrui main_v40 main_v44
  let main_v46 : IVec S32x1000000 32 := ori main_v43 main_v45
  let main_v47 : IVec S32x1000000 32 := xori main_v41 main_v46
  let main_v48 : IVec S32x1000000 32 := addi main_v41 main_v47
  let main_c_13 : IVec S_ 32 := constantI S_ 32 26#32
  let main_v49 : IVec S32x1000000 32 := broadcastInDim S32x1000000 ![] bcast_S_S32x1000000 main_c_13
  let main_v50 : IVec S32x1000000 32 := Host.shli main_v47 main_v49
  let main_c_14 : IVec S_ 32 := constantI S_ 32 6#32
  let main_v51 : IVec S32x1000000 32 := broadcastInDim S32x1000000 ![] bcast_S_S32x1000000 main_c_14
  let main_v52 : IVec S32x1000000 32 := Host.shrui main_v47 main_v51
  let main_v53 : IVec S32x1000000 32 := ori main_v50 main_v52
  let main_v54 : IVec S32x1000000 32 := xori main_v48 main_v53
  fn_part3 (F := F) main_v20 main_v23 main_v48 main_v54

def fn_part1 {F : FTy → Type} [FloatOps F] (main_v16 : FVec F S32x1000000 .f32) (main_v17 : FVec F S32 .f32) : IVec S32x1000000 1 :=
  let main_v18 : FVec F S32x1 .f32 := broadcastInDim S32x1 ![0] bcast_S32_S32x1_0 main_v17
  let main_v19 : FVec F S32x1000000 .f32 := broadcastInDim S32x1000000 ![0, 1] bcast_S32x1_S32x1000000_0_1 main_v18
  let main_v20 : FVec F S32x1000000 .f32 := Host.divf main_v16 main_v19
  let main_cst_5 : FVec F S_ .f32 := constant S_ .f32 0x0DA24260#32
  let main_v21 : FVec F S32x1000000 .f32 := broadcastInDim S32x1000000 ![] bcast_S_S32x1000000 main_cst_5
  let main_v22 : FVec F S32x1000000 .f32 := addf main_v20 main_v21
  let main_v23 : FVec F S32x1000000 .f32 := Host.log main_v22
  let main_v24 : IVec S32x1000000 32 := iotaInDim S32x1000000 32 0
  let main_c : IVec S_ 32 := constantI S_ 32 1000000#32
  let main_v25 : IVec S32x1000000 32 := broadcastInDim S32x1000000 ![] bcast_S_S32x1000000 main_c
  let main_v26 : IVec S32x1000000 32 := muli main_v24 main_v25
  let main_v27 : IVec S32x1000000 32 := iotaInDim S32x1000000 32 1
  let main_v28 : IVec S32x1000000 32 := addi main_v26 main_v27
  let main_c_6 : IVec S_ 32 := constantI S_ 32 0#32
  let main_v29 : IVec S32x1000000 32 := broadcastInDim S32x1000000 ![] bcast_S_S32x1000000 main_c_6
  let main_c_7 : IVec S_ 32 := constantI S_ 32 0#32
  let main_v30 : IVec S32x1000000 32 := broadcastInDim S32x1000000 ![] bcast_S_S32x1000000 main_c_7
  let main_v31 : IVec S32x1000000 32 := addi main_v29 main_v30
  let main_c_8 : IVec S_ 32 := constantI S_ 32 1#32
  let main_v32 : IVec S32x1000000 32 := broadcastInDim S32x1000000 ![] bcast_S_S32x1000000 main_c_8
  let main_v33 : IVec S32x1000000 32 := addi main_v28 main_v32
  let main_v34 : IVec S32x1000000 32 := addi main_v31 main_v33
  let main_c_9 : IVec S_ 32 := constantI S_ 32 13#32
  let main_v35 : IVec S32x1000000 32 := broadcastInDim S32x1000000 ![] bcast_S_S32x1000000 main_c_9
  fn_part2 (F := F) main_v20 main_v23 main_v33 main_v34 main_v35

def fn {F : FTy → Type} [FloatOps F] (main_arg0 : FVec F S32x1000000 .f32) : IVec S32x1000000 1 :=
  let main_v0 : FVec F S32x1000000 .f32 := Host.absf main_arg0
  let main_cst : FVec F S_ .f32 := constant S_ .f32 0x7F800000#32
  let main_v1 : FVec F S32 .f32 := (fun x v => Host.reduce FloatOps.minimumf x v reducesTo_S32x1000000_S32_d1 h_S_) main_v0 main_cst
  let main_v2 : FVec F S32x1 .f32 := broadcastInDim S32x1 ![0] bcast_S32_S32x1_0 main_v1
  let main_cst_0 : FVec F S_ .f32 := constant S_ .f32 0xFF800000#32
  let main_v3 : FVec F S32 .f32 := (fun x v => Host.reduce FloatOps.maximumf x v reducesTo_S32x1000000_S32_d1 h_S_) main_v0 main_cst_0
  let main_v4 : FVec F S32x1 .f32 := broadcastInDim S32x1 ![0] bcast_S32_S32x1_0 main_v3
  let main_v5 : FVec F S32x1000000 .f32 := broadcastInDim S32x1000000 ![0, 1] bcast_S32x1_S32x1000000_0_1 main_v2
  let main_v6 : FVec F S32x1000000 .f32 := subf main_v0 main_v5
  let main_v7 : FVec F S32x1 .f32 := subf main_v4 main_v2
  let main_cst_1 : FVec F S_ .f32 := constant S_ .f32 0x2B8CBCCC#32
  let main_v8 : FVec F S32x1 .f32 := broadcastInDim S32x1 ![] bcast_S_S32x1 main_cst_1
  let main_v9 : FVec F S32x1 .f32 := addf main_v7 main_v8
  let main_v10 : FVec F S32x1000000 .f32 := broadcastInDim S32x1000000 ![0, 1] bcast_S32x1_S32x1000000_0_1 main_v9
  let main_v11 : FVec F S32x1000000 .f32 := Host.divf main_v6 main_v10
  let main_v12 : FVec F S32x1000000 .f32 := mulf main_v11 main_v11
  let main_cst_2 : FVec F S_ .f32 := constant S_ .f32 0x3F666666#32
  let main_v13 : FVec F S32x1000000 .f32 := broadcastInDim S32x1000000 ![] bcast_S_S32x1000000 main_cst_2
  let main_v14 : FVec F S32x1000000 .f32 := mulf main_v12 main_v13
  let main_cst_3 : FVec F S_ .f32 := constant S_ .f32 0x3DCCCCCD#32
  let main_v15 : FVec F S32x1000000 .f32 := broadcastInDim S32x1000000 ![] bcast_S_S32x1000000 main_cst_3
  let main_v16 : FVec F S32x1000000 .f32 := addf main_v14 main_v15
  let main_cst_4 : FVec F S_ .f32 := constant S_ .f32 0x00000000#32
  let main_v17 : FVec F S32 .f32 := (fun x v => Host.reduceAdd x v reducesTo_S32x1000000_S32_d1 h_S_) main_v16 main_cst_4
  fn_part1 (F := F) main_v16 main_v17
-- ==== Kernel.lean ====
abbrev S32x1000000 : Shape := ⟨2, ![32, 1000000]⟩
abbrev S32x4 : Shape := ⟨2, ![32, 4]⟩
abbrev S32x32768 : Shape := ⟨2, ![32, 32768]⟩
abbrev S32x128 : Shape := ⟨2, ![32, 128]⟩
abbrev S32 : Shape := ⟨1, ![32]⟩
abbrev S32x1 : Shape := ⟨2, ![32, 1]⟩

abbrev nBuf : Space → Nat
  | .hbm => 5
  | .vmem => 16
  | .smem => 0
  | _ => 0

abbrev bufTy : (tb : Table) → Fin (tcTables nBuf tb) → BufTy
  | .hbm, ⟨0, _⟩ => ⟨S32x1000000, .f32⟩
  | .hbm, ⟨1, _⟩ => ⟨S32x4, .f32⟩
  | .hbm, ⟨2, _⟩ => ⟨S32x1000000, .f32⟩
  | .hbm, ⟨3, _⟩ => ⟨S32x1, .i32⟩
  | .hbm, ⟨4, _⟩ => ⟨S32, .i32⟩
  | .local _ .vmem, ⟨0, _⟩ => ⟨S32x32768, .f32⟩
  | .local _ .vmem, ⟨1, _⟩ => ⟨S32x32768, .f32⟩
  | .local _ .vmem, ⟨2, _⟩ => ⟨S32x4, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x32768, .f32⟩
  | .local _ .vmem, ⟨8, _⟩ => ⟨S32x32768, .f32⟩
  | .local _ .vmem, ⟨9, _⟩ => ⟨S32x4, .f32⟩
  | .local _ .vmem, ⟨10, _⟩ => ⟨S32x32768, .f32⟩
  | .local _ .vmem, ⟨11, _⟩ => ⟨S32x32768, .f32⟩
  | .local _ .vmem, ⟨12, _⟩ => ⟨S32x1, .i32⟩
  | .local _ .vmem, ⟨13, _⟩ => ⟨S32x128, .f32⟩
  | .local _ .vmem, ⟨14, _⟩ => ⟨S32x128, .f32⟩
  | .local _ .vmem, ⟨15, _⟩ => ⟨S32x128, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8

abbrev nD : Nat := 1
abbrev τ : Topo := Topo.v7x

variable {F : FTy → Type} [FloatOps F]

abbrev grid0 : Pipeline.Grid := ⟨1, ![31], ![false]⟩

def k0_cond3 (i : grid0.Coords) : BitVec 1 :=
  let arg0 : BitVec 32 := BitVec.ofNat 32 (i 0).val
  let c30_i32_16 : BitVec 32 := 30#32
  let v23 : BitVec 1 := Scalar.cmpi .eq arg0 c30_i32_16
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![31], ![false]⟩

def k1_cond1 (i : grid1.Coords) : BitVec 1 :=
  let arg0 : BitVec 32 := BitVec.ofNat 32 (i 0).val
  let c30_i32 : BitVec 32 := 30#32
  let v50214 : BitVec 1 := Scalar.cmpi .eq arg0 c30_i32
  let v50215 : BitVec 32 := Scalar.extui v50214
  let c0_i32_15620 : BitVec 32 := 0#32
  let v50216 : BitVec 1 := Scalar.cmpi .ne v50215 c0_i32_15620
  v50216

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== KernelIdeal.lean ====
variable {F : FTy → Type} [FloatOps F] [Named F]
def κ : String → Option EReal := fun
  | "root_span" => some ((Real.sqrt (7549747 / 8388608) : ℝ) : EReal)
  | _ => none
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩

abbrev nBuf : Space → Nat
  | .hbm => 289
  | .vmem => 0
  | .smem => 0
  | _ => 0

abbrev hbmTy0_0 (i : Nat) : BufTy := match i % 128 with
  | 0 => ⟨S32x1000000, .f32⟩
  | 1 => ⟨S32x1000000, .f32⟩
  | 2 => ⟨S_, .f32⟩
  | 3 => ⟨S32, .f32⟩
  | 4 => ⟨S32x1, .f32⟩
  | 5 => ⟨S_, .f32⟩
  | 6 => ⟨S32, .f32⟩
  | 7 => ⟨S32x1, .f32⟩
  | 8 => ⟨S32x1000000, .f32⟩
  | 9 => ⟨S32x1000000, .f32⟩
  | 10 => ⟨S32x1, .f32⟩
  | 11 => ⟨S_, .f32⟩
  | 12 => ⟨S32x1, .f32⟩
  | 13 => ⟨S32x1, .f32⟩
  | 14 => ⟨S32x1000000, .f32⟩
  | 15 => ⟨S32x1000000, .f32⟩
  | 16 => ⟨S32x1000000, .f32⟩
  | 17 => ⟨S_, .f32⟩
  | 18 => ⟨S32x1000000, .f32⟩
  | 19 => ⟨S32x1000000, .f32⟩
  | 20 => ⟨S_, .f32⟩
  | 21 => ⟨S32x1000000, .f32⟩
  | 22 => ⟨S32x1000000, .f32⟩
  | 23 => ⟨S_, .f32⟩
  | 24 => ⟨S32, .f32⟩
  | 25 => ⟨S32x1, .f32⟩
  | 26 => ⟨S32x1000000, .f32⟩
  | 27 => ⟨S32x1000000, .f32⟩
  | 28 => ⟨S32x1000000, .f32⟩
  | 29 => ⟨S32x1000000, .i32⟩
  | 30 => ⟨S_, .i32⟩
  | 31 => ⟨S32x1000000, .i32⟩
  | 32 => ⟨S32x1000000, .i32⟩
  | 33 => ⟨S32x1000000, .i32⟩
  | 34 => ⟨S32x1000000, .i32⟩
  | 35 => ⟨S_, .i32⟩
  | 36 => ⟨S32x1000000, .i32⟩
  | 37 => ⟨S_, .i32⟩
  | 38 => ⟨S32x1000000, .i32⟩
  | 39 => ⟨S32x1000000, .i32⟩
  | 40 => ⟨S_, .i32⟩
  | 41 => ⟨S32x1000000, .i32⟩
  | 42 => ⟨S32x1000000, .i32⟩
  | 43 => ⟨S32x1000000, .i32⟩
  | 44 => ⟨S_, .i32⟩
  | 45 => ⟨S32x1000000, .i32⟩
  | 46 => ⟨S32x1000000, .i32⟩
  | 47 => ⟨S_, .i32⟩
  | 48 => ⟨S32x1000000, .i32⟩
  | 49 => ⟨S32x1000000, .i32⟩
  | 50 => ⟨S32x1000000, .i32⟩
  | 51 => ⟨S32x1000000, .i32⟩
  | 52 => ⟨S32x1000000, .i32⟩
  | 53 => ⟨S_, .i32⟩
  | 54 => ⟨S32x1000000, .i32⟩
  | 55 => ⟨S32x1000000, .i32⟩
  | 56 => ⟨S_, .i32⟩
  | 57 => ⟨S32x1000000, .i32⟩
  | 58 => ⟨S32x1000000, .i32⟩
  | 59 => ⟨S32x1000000, .i32⟩
  | 60 => ⟨S32x1000000, .i32⟩
  | 61 => ⟨S32x1000000, .i32⟩
  | 62 => ⟨S_, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S32x1000000, .i32⟩
  | 69 => ⟨S32x1000000, .i32⟩
  | 70 => ⟨S32x1000000, .i32⟩
  | 71 => ⟨S_, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S32x1000000, .i32⟩
  | 78 => ⟨S32x1000000, .i32⟩
  | 79 => ⟨S_, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S32x1000000, .i32⟩
  | 86 => ⟨S_, .i32⟩
  | 87 => ⟨S32x1000000, .i32⟩
  | 88 => ⟨S32x1000000, .i32⟩
  | 89 => ⟨S_, .i32⟩
  | 90 => ⟨S32x1000000, .i32⟩
  | 91 => ⟨S32x1000000, .i32⟩
  | 92 => ⟨S32x1000000, .i32⟩
  | 93 => ⟨S32x1000000, .i32⟩
  | 94 => ⟨S32x1000000, .i32⟩
  | 95 => ⟨S_, .i32⟩
  | 96 => ⟨S32x1000000, .i32⟩
  | 97 => ⟨S32x1000000, .i32⟩
  | 98 => ⟨S_, .i32⟩
  | 99 => ⟨S32x1000000, .i32⟩
  | 100 => ⟨S32x1000000, .i32⟩
  | 101 => ⟨S32x1000000, .i32⟩
  | 102 => ⟨S32x1000000, .i32⟩
  | 103 => ⟨S32x1000000, .i32⟩
  | 104 => ⟨S_, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S32x1000000, .i32⟩
  | 111 => ⟨S32x1000000, .i32⟩
  | 112 => ⟨S32x1000000, .i32⟩
  | 113 => ⟨S_, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S32x1000000, .i32⟩
  | 120 => ⟨S32x1000000, .i32⟩
  | 121 => ⟨S_, .i32⟩
  | 122 => ⟨S32x1000000, .i32⟩
  | 123 => ⟨S32x1000000, .i32⟩
  | 124 => ⟨S_, .i32⟩
  | 125 => ⟨S32x1000000, .i32⟩
  | 126 => ⟨S32x1000000, .i32⟩
  | 127 => ⟨S32x1000000, .i32⟩
  | _ => ⟨S32x1000000, .f32⟩

abbrev hbmTy0_1 (i : Nat) : BufTy := match i % 128 with
  | 0 => ⟨S_, .i32⟩
  | 1 => ⟨S32x1000000, .i32⟩
  | 2 => ⟨S32x1000000, .i32⟩
  | 3 => ⟨S_, .i32⟩
  | 4 => ⟨S32x1000000, .i32⟩
  | 5 => ⟨S32x1000000, .i32⟩
  | 6 => ⟨S32x1000000, .i32⟩
  | 7 => ⟨S32x1000000, .i32⟩
  | 8 => ⟨S32x1000000, .i32⟩
  | 9 => ⟨S_, .i32⟩
  | 10 => ⟨S32x1000000, .i32⟩
  | 11 => ⟨S32x1000000, .i32⟩
  | 12 => ⟨S_, .i32⟩
  | 13 => ⟨S32x1000000, .i32⟩
  | 14 => ⟨S32x1000000, .i32⟩
  | 15 => ⟨S32x1000000, .i32⟩
  | 16 => ⟨S32x1000000, .i32⟩
  | 17 => ⟨S32x1000000, .i32⟩
  | 18 => ⟨S_, .i32⟩
  | 19 => ⟨S32x1000000, .i32⟩
  | 20 => ⟨S32x1000000, .i32⟩
  | 21 => ⟨S_, .i32⟩
  | 22 => ⟨S32x1000000, .i32⟩
  | 23 => ⟨S32x1000000, .i32⟩
  | 24 => ⟨S32x1000000, .i32⟩
  | 25 => ⟨S32x1000000, .i32⟩
  | 26 => ⟨S32x1000000, .i32⟩
  | 27 => ⟨S_, .i32⟩
  | 28 => ⟨S32x1000000, .i32⟩
  | 29 => ⟨S32x1000000, .i32⟩
  | 30 => ⟨S_, .i32⟩
  | 31 => ⟨S32x1000000, .i32⟩
  | 32 => ⟨S32x1000000, .i32⟩
  | 33 => ⟨S32x1000000, .i32⟩
  | 34 => ⟨S32x1000000, .i32⟩
  | 35 => ⟨S_, .i32⟩
  | 36 => ⟨S32x1000000, .i32⟩
  | 37 => ⟨S32x1000000, .i32⟩
  | 38 => ⟨S_, .i32⟩
  | 39 => ⟨S32x1000000, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S32x1000000, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S32x1000000, .i32⟩
  | 58 => ⟨S32x1000000, .i32⟩
  | 59 => ⟨S32x1000000, .i32⟩
  | 60 => ⟨S_, .i32⟩
  | 61 => ⟨S32x1000000, .i32⟩
  | 62 => ⟨S32x1000000, .i32⟩
  | 63 => ⟨S_, .i32⟩
  | 64 => ⟨S32x1000000, .i32⟩
  | 65 => ⟨S32x1000000, .i32⟩
  | 66 => ⟨S32x1000000, .i32⟩
  | 67 => ⟨S32x1000000, .i32⟩
  | 68 => ⟨S32x1000000, .i32⟩
  | 69 => ⟨S_, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S32x1000000, .i32⟩
  | 76 => ⟨S32x1000000, .i32⟩
  | 77 => ⟨S_, .i32⟩
  | 78 => ⟨S32x1000000, .i32⟩
  | 79 => ⟨S32x1000000, .i32⟩
  | 80 => ⟨S_, .i32⟩
  | 81 => ⟨S32x1000000, .i32⟩
  | 82 => ⟨S32x1000000, .i32⟩
  | 83 => ⟨S32x1000000, .i32⟩
  | 84 => ⟨S_, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S32x1000000, .i32⟩
  | 100 => ⟨S32x1000000, .i32⟩
  | 101 => ⟨S32x1000000, .i32⟩
  | 102 => ⟨S_, .i32⟩
  | 103 => ⟨S32x1000000, .i32⟩
  | 104 => ⟨S32x1000000, .i32⟩
  | 105 => ⟨S_, .i32⟩
  | 106 => ⟨S32x1000000, .i32⟩
  | 107 => ⟨S32x1000000, .i32⟩
  | 108 => ⟨S32x1000000, .i32⟩
  | 109 => ⟨S32x1000000, .i32⟩
  | 110 => ⟨S32x1000000, .i32⟩
  | 111 => ⟨S_, .i32⟩
  | 112 => ⟨S32x1000000, .i32⟩
  | 113 => ⟨S32x1000000, .i32⟩
  | 114 => ⟨S_, .i32⟩
  | 115 => ⟨S32x1000000, .i32⟩
  | 116 => ⟨S32x1000000, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S_, .i32⟩
  | 123 => ⟨S32x1000000, .i32⟩
  | 124 => ⟨S32x1000000, .i32⟩
  | 125 => ⟨S32x1000000, .i32⟩
  | 126 => ⟨S_, .i32⟩
  | 127 => ⟨S32x1000000, .i32⟩
  | _ => ⟨S32x1000000, .f32⟩

abbrev hbmTy0_2 (i : Nat) : BufTy := match i % 128 with
  | 0 => ⟨S32x1000000, .i32⟩
  | 1 => ⟨S_, .i32⟩
  | 2 => ⟨S32x1000000, .i32⟩
  | 3 => ⟨S32x1000000, .i32⟩
  | 4 => ⟨S32x1000000, .f32⟩
  | 5 => ⟨S_, .f32⟩
  | 6 => ⟨S32x1000000, .f32⟩
  | 7 => ⟨S32x1000000, .f32⟩
  | 8 => ⟨S_, .f32⟩
  | 9 => ⟨S32x1000000, .f32⟩
  | 10 => ⟨S32x1000000, .f32⟩
  | 11 => ⟨S_, .f32⟩
  | 12 => ⟨S32x1000000, .f32⟩
  | 13 => ⟨S32x1000000, .f32⟩
  | 14 => ⟨S_, .f32⟩
  | 15 => ⟨S32x1000000, .f32⟩
  | 16 => ⟨S32x1000000, .f32⟩
  | 17 => ⟨S32x1000000, .f32⟩
  | 18 => ⟨S32x1000000, .f32⟩
  | 19 => ⟨S32x1000000, .f32⟩
  | 20 => ⟨S32x1000000, .f32⟩
  | 21 => ⟨S32x1000000, .f32⟩
  | 22 => ⟨S_, .f32⟩
  | 23 => ⟨S32, .f32⟩
  | 24 => ⟨S32x1, .f32⟩
  | 25 => ⟨S32x1000000, .i32⟩
  | 26 => ⟨S32x1000000, .f32⟩
  | 27 => ⟨S32x1000000, .i1⟩
  | 28 => ⟨S_, .i32⟩
  | 29 => ⟨S32x1000000, .i32⟩
  | 30 => ⟨S32x1000000, .i32⟩
  | 31 => ⟨S_, .i32⟩
  | 32 => ⟨S32, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_5 : Ref sig .tc := ⟨.hbm, 35, rfl⟩
abbrev main_v27 : Ref sig .tc := ⟨.hbm, 36, rfl⟩
abbrev main_c_6 : Ref sig .tc := ⟨.hbm, 37, rfl⟩
abbrev main_v28 : Ref sig .tc := ⟨.hbm, 38, rfl⟩
abbrev main_v29 : Ref sig .tc := ⟨.hbm, 39, rfl⟩
abbrev main_c_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_8 : Ref sig .tc := ⟨.hbm, 44, rfl⟩
abbrev main_v33 : Ref sig .tc := ⟨.hbm, 45, rfl⟩
abbrev main_v34 : Ref sig .tc := ⟨.hbm, 46, rfl⟩
abbrev main_c_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_10 : Ref sig .tc := ⟨.hbm, 53, rfl⟩
abbrev main_v40 : Ref sig .tc := ⟨.hbm, 54, rfl⟩
abbrev main_v41 : Ref sig .tc := ⟨.hbm, 55, rfl⟩
abbrev main_c_11 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_12 : Ref sig .tc := ⟨.hbm, 62, rfl⟩
abbrev main_v47 : Ref sig .tc := ⟨.hbm, 63, rfl⟩
abbrev main_v48 : Ref sig .tc := ⟨.hbm, 64, rfl⟩
abbrev main_c_13 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_14 : Ref sig .tc := ⟨.hbm, 71, rfl⟩
abbrev main_v54 : Ref sig .tc := ⟨.hbm, 72, rfl⟩
abbrev main_v55 : Ref sig .tc := ⟨.hbm, 73, rfl⟩
abbrev main_c_15 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_16 : Ref sig .tc := ⟨.hbm, 79, rfl⟩
abbrev main_v60 : Ref sig .tc := ⟨.hbm, 80, rfl⟩
abbrev main_v61 : Ref sig .tc := ⟨.hbm, 81, rfl⟩
abbrev main_c_17 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_18 : Ref sig .tc := ⟨.hbm, 86, rfl⟩
abbrev main_v65 : Ref sig .tc := ⟨.hbm, 87, rfl⟩
abbrev main_v66 : Ref sig .tc := ⟨.hbm, 88, rfl⟩
abbrev main_c_19 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_20 : Ref sig .tc := ⟨.hbm, 95, rfl⟩
abbrev main_v72 : Ref sig .tc := ⟨.hbm, 96, rfl⟩
abbrev main_v73 : Ref sig .tc := ⟨.hbm, 97, rfl⟩
abbrev main_c_21 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_22 : Ref sig .tc := ⟨.hbm, 104, rfl⟩
abbrev main_v79 : Ref sig .tc := ⟨.hbm, 105, rfl⟩
abbrev main_v80 : Ref sig .tc := ⟨.hbm, 106, rfl⟩
abbrev main_c_23 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_24 : Ref sig .tc := ⟨.hbm, 113, rfl⟩
abbrev main_v86 : Ref sig .tc := ⟨.hbm, 114, rfl⟩
abbrev main_v87 : Ref sig .tc := ⟨.hbm, 115, rfl⟩
abbrev main_c_25 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_26 : Ref sig .tc := ⟨.hbm, 121, rfl⟩
abbrev main_v92 : Ref sig .tc := ⟨.hbm, 122, rfl⟩
abbrev main_v93 : Ref sig .tc := ⟨.hbm, 123, rfl⟩
abbrev main_c_27 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_28 : Ref sig .tc := ⟨.hbm, 128, rfl⟩
abbrev main_v97 : Ref sig .tc := ⟨.hbm, 129, rfl⟩
abbrev main_v98 : Ref sig .tc := ⟨.hbm, 130, rfl⟩
abbrev main_c_29 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_30 : Ref sig .tc := ⟨.hbm, 137, rfl⟩
abbrev main_v104 : Ref sig .tc := ⟨.hbm, 138, rfl⟩
abbrev main_v105 : Ref sig .tc := ⟨.hbm, 139, rfl⟩
abbrev main_c_31 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_32 : Ref sig .tc := ⟨.hbm, 146, rfl⟩
abbrev main_v111 : Ref sig .tc := ⟨.hbm, 147, rfl⟩
abbrev main_v112 : Ref sig .tc := ⟨.hbm, 148, rfl⟩
abbrev main_c_33 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_34 : Ref sig .tc := ⟨.hbm, 155, rfl⟩
abbrev main_v118 : Ref sig .tc := ⟨.hbm, 156, rfl⟩
abbrev main_v119 : Ref sig .tc := ⟨.hbm, 157, rfl⟩
abbrev main_c_35 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_c_36 : Ref sig .tc := ⟨.hbm, 163, rfl⟩
abbrev main_v124 : Ref sig .tc := ⟨.hbm, 164, rfl⟩
abbrev main_v125 : Ref sig .tc := ⟨.hbm, 165, rfl⟩
abbrev main_c_37 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_c_38 : Ref sig .tc := ⟨.hbm, 170, rfl⟩
abbrev main_v129 : Ref sig .tc := ⟨.hbm, 171, rfl⟩
abbrev main_v130 : Ref sig .tc := ⟨.hbm, 172, rfl⟩
abbrev main_c_39 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_40 : Ref sig .tc := ⟨.hbm, 179, rfl⟩
abbrev main_v136 : Ref sig .tc := ⟨.hbm, 180, rfl⟩
abbrev main_v137 : Ref sig .tc := ⟨.hbm, 181, rfl⟩
abbrev main_c_41 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_c_42 : Ref sig .tc := ⟨.hbm, 188, rfl⟩
abbrev main_v143 : Ref sig .tc := ⟨.hbm, 189, rfl⟩
abbrev main_v144 : Ref sig .tc := ⟨.hbm, 190, rfl⟩
abbrev main_c_43 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_c_44 : Ref sig .tc := ⟨.hbm, 197, rfl⟩
abbrev main_v150 : Ref sig .tc := ⟨.hbm, 198, rfl⟩
abbrev main_v151 : Ref sig .tc := ⟨.hbm, 199, rfl⟩
abbrev main_c_45 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_c_46 : Ref sig .tc := ⟨.hbm, 205, rfl⟩
abbrev main_v156 : Ref sig .tc := ⟨.hbm, 206, rfl⟩
abbrev main_v157 : Ref sig .tc := ⟨.hbm, 207, rfl⟩
abbrev main_c_47 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_c_48 : Ref sig .tc := ⟨.hbm, 212, rfl⟩
abbrev main_v161 : Ref sig .tc := ⟨.hbm, 213, rfl⟩
abbrev main_v162 : Ref sig .tc := ⟨.hbm, 214, rfl⟩
abbrev main_c_49 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_c_50 : Ref sig .tc := ⟨.hbm, 221, rfl⟩
abbrev main_v168 : Ref sig .tc := ⟨.hbm, 222, rfl⟩
abbrev main_v169 : Ref sig .tc := ⟨.hbm, 223, rfl⟩
abbrev main_c_51 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_c_52 : Ref sig .tc := ⟨.hbm, 230, rfl⟩
abbrev main_v175 : Ref sig .tc := ⟨.hbm, 231, rfl⟩
abbrev main_v176 : Ref sig .tc := ⟨.hbm, 232, rfl⟩
abbrev main_c_53 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_c_54 : Ref sig .tc := ⟨.hbm, 239, rfl⟩
abbrev main_v182 : Ref sig .tc := ⟨.hbm, 240, rfl⟩
abbrev main_v183 : Ref sig .tc := ⟨.hbm, 241, rfl⟩
abbrev main_c_55 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_c_56 : Ref sig .tc := ⟨.hbm, 247, rfl⟩
abbrev main_v188 : Ref sig .tc := ⟨.hbm, 248, rfl⟩
abbrev main_v189 : Ref sig .tc := ⟨.hbm, 249, rfl⟩
abbrev main_c_57 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_c_58 : Ref sig .tc := ⟨.hbm, 254, rfl⟩
abbrev main_v193 : Ref sig .tc := ⟨.hbm, 255, rfl⟩
abbrev main_v194 : Ref sig .tc := ⟨.hbm, 256, rfl⟩
abbrev main_c_59 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_cst_60 : Ref sig .tc := ⟨.hbm, 261, rfl⟩
abbrev main_v198 : Ref sig .tc := ⟨.hbm, 262, rfl⟩
abbrev main_v199 : Ref sig .tc := ⟨.hbm, 263, rfl⟩
abbrev main_cst_61 : Ref sig .tc := ⟨.hbm, 264, rfl⟩
abbrev main_v200 : Ref sig .tc := ⟨.hbm, 265, rfl⟩
abbrev main_v201 : Ref sig .tc := ⟨.hbm, 266, rfl⟩
abbrev main_cst_62 : Ref sig .tc := ⟨.hbm, 267, rfl⟩
abbrev main_v202 : Ref sig .tc := ⟨.hbm, 268, rfl⟩
abbrev main_v203 : Ref sig .tc := ⟨.hbm, 269, rfl⟩
abbrev main_cst_63 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_cst_64 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_c_65 : Ref sig .tc := ⟨.hbm, 284, rfl⟩
abbrev main_call0_v0 : Ref sig .tc := ⟨.hbm, 285, rfl⟩
abbrev main_v216 : Ref sig .tc := ⟨.hbm, 286, rfl⟩
abbrev main_c_66 : Ref sig .tc := ⟨.hbm, 287, rfl⟩
abbrev main_v217 : Ref sig .tc := ⟨.hbm, 288, rfl⟩

abbrev nD : Nat := 1
abbrev τ : Topo := Topo.v7x

variable {F : FTy → Type} [FloatOps F]
-- ==== GuardedIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩

abbrev nBuf : Space → Nat
  | .hbm => 292
  | .vmem => 0
  | .smem => 0
  | _ => 0

abbrev hbmTy0_0 (i : Nat) : BufTy := match i % 128 with
  | 0 => ⟨S32x1000000, .f32⟩
  | 1 => ⟨S32x1000000, .f32⟩
  | 2 => ⟨S_, .f32⟩
  | 3 => ⟨S32, .f32⟩
  | 4 => ⟨S32x1, .f32⟩
  | 5 => ⟨S_, .f32⟩
  | 6 => ⟨S32, .f32⟩
  | 7 => ⟨S32x1, .f32⟩
  | 8 => ⟨S32x1000000, .f32⟩
  | 9 => ⟨S32x1000000, .f32⟩
  | 10 => ⟨S32x1, .f32⟩
  | 11 => ⟨S_, .f32⟩
  | 12 => ⟨S32x1, .f32⟩
  | 13 => ⟨S32x1, .f32⟩
  | 14 => ⟨S32x1000000, .f32⟩
  | 15 => ⟨S32x1000000, .f32⟩
  | 16 => ⟨S32x1000000, .f32⟩
  | 17 => ⟨S_, .f32⟩
  | 18 => ⟨S32x1000000, .f32⟩
  | 19 => ⟨S32x1000000, .f32⟩
  | 20 => ⟨S_, .f32⟩
  | 21 => ⟨S32x1000000, .f32⟩
  | 22 => ⟨S32x1000000, .f32⟩
  | 23 => ⟨S_, .f32⟩
  | 24 => ⟨S32, .f32⟩
  | 25 => ⟨S32x1, .f32⟩
  | 26 => ⟨S32x1000000, .f32⟩
  | 27 => ⟨S32x1000000, .f32⟩
  | 28 => ⟨S_, .f32⟩
  | 29 => ⟨S32x1000000, .f32⟩
  | 30 => ⟨S32x1000000, .f32⟩
  | 31 => ⟨S32x1000000, .f32⟩
  | 32 => ⟨S32x1000000, .i32⟩
  | 33 => ⟨S_, .i32⟩
  | 34 => ⟨S32x1000000, .i32⟩
  | 35 => ⟨S32x1000000, .i32⟩
  | 36 => ⟨S32x1000000, .i32⟩
  | 37 => ⟨S32x1000000, .i32⟩
  | 38 => ⟨S_, .i32⟩
  | 39 => ⟨S32x1000000, .i32⟩
  | 40 => ⟨S_, .i32⟩
  | 41 => ⟨S32x1000000, .i32⟩
  | 42 => ⟨S32x1000000, .i32⟩
  | 43 => ⟨S_, .i32⟩
  | 44 => ⟨S32x1000000, .i32⟩
  | 45 => ⟨S32x1000000, .i32⟩
  | 46 => ⟨S32x1000000, .i32⟩
  | 47 => ⟨S_, .i32⟩
  | 48 => ⟨S32x1000000, .i32⟩
  | 49 => ⟨S32x1000000, .i32⟩
  | 50 => ⟨S_, .i32⟩
  | 51 => ⟨S32x1000000, .i32⟩
  | 52 => ⟨S32x1000000, .i32⟩
  | 53 => ⟨S32x1000000, .i32⟩
  | 54 => ⟨S32x1000000, .i32⟩
  | 55 => ⟨S32x1000000, .i32⟩
  | 56 => ⟨S_, .i32⟩
  | 57 => ⟨S32x1000000, .i32⟩
  | 58 => ⟨S32x1000000, .i32⟩
  | 59 => ⟨S_, .i32⟩
  | 60 => ⟨S32x1000000, .i32⟩
  | 61 => ⟨S32x1000000, .i32⟩
  | 62 => ⟨S32x1000000, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S_, .i32⟩
  | 69 => ⟨S32x1000000, .i32⟩
  | 70 => ⟨S32x1000000, .i32⟩
  | 71 => ⟨S32x1000000, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S_, .i32⟩
  | 78 => ⟨S32x1000000, .i32⟩
  | 79 => ⟨S32x1000000, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S32x1000000, .i32⟩
  | 89 => ⟨S_, .i32⟩
  | 90 => ⟨S32x1000000, .i32⟩
  | 91 => ⟨S32x1000000, .i32⟩
  | 92 => ⟨S_, .i32⟩
  | 93 => ⟨S32x1000000, .i32⟩
  | 94 => ⟨S32x1000000, .i32⟩
  | 95 => ⟨S32x1000000, .i32⟩
  | 96 => ⟨S32x1000000, .i32⟩
  | 97 => ⟨S32x1000000, .i32⟩
  | 98 => ⟨S_, .i32⟩
  | 99 => ⟨S32x1000000, .i32⟩
  | 100 => ⟨S32x1000000, .i32⟩
  | 101 => ⟨S_, .i32⟩
  | 102 => ⟨S32x1000000, .i32⟩
  | 103 => ⟨S32x1000000, .i32⟩
  | 104 => ⟨S32x1000000, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S32x1000000, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S32x1000000, .i32⟩
  | 123 => ⟨S32x1000000, .i32⟩
  | 124 => ⟨S_, .i32⟩
  | 125 => ⟨S32x1000000, .i32⟩
  | 126 => ⟨S32x1000000, .i32⟩
  | 127 => ⟨S_, .i32⟩
  | _ => ⟨S32x1000000, .f32⟩

abbrev hbmTy0_1 (i : Nat) : BufTy := match i % 128 with
  | 0 => ⟨S32x1000000, .i32⟩
  | 1 => ⟨S32x1000000, .i32⟩
  | 2 => ⟨S32x1000000, .i32⟩
  | 3 => ⟨S_, .i32⟩
  | 4 => ⟨S32x1000000, .i32⟩
  | 5 => ⟨S32x1000000, .i32⟩
  | 6 => ⟨S_, .i32⟩
  | 7 => ⟨S32x1000000, .i32⟩
  | 8 => ⟨S32x1000000, .i32⟩
  | 9 => ⟨S32x1000000, .i32⟩
  | 10 => ⟨S32x1000000, .i32⟩
  | 11 => ⟨S32x1000000, .i32⟩
  | 12 => ⟨S_, .i32⟩
  | 13 => ⟨S32x1000000, .i32⟩
  | 14 => ⟨S32x1000000, .i32⟩
  | 15 => ⟨S_, .i32⟩
  | 16 => ⟨S32x1000000, .i32⟩
  | 17 => ⟨S32x1000000, .i32⟩
  | 18 => ⟨S32x1000000, .i32⟩
  | 19 => ⟨S32x1000000, .i32⟩
  | 20 => ⟨S32x1000000, .i32⟩
  | 21 => ⟨S_, .i32⟩
  | 22 => ⟨S32x1000000, .i32⟩
  | 23 => ⟨S32x1000000, .i32⟩
  | 24 => ⟨S_, .i32⟩
  | 25 => ⟨S32x1000000, .i32⟩
  | 26 => ⟨S32x1000000, .i32⟩
  | 27 => ⟨S32x1000000, .i32⟩
  | 28 => ⟨S32x1000000, .i32⟩
  | 29 => ⟨S32x1000000, .i32⟩
  | 30 => ⟨S_, .i32⟩
  | 31 => ⟨S32x1000000, .i32⟩
  | 32 => ⟨S32x1000000, .i32⟩
  | 33 => ⟨S_, .i32⟩
  | 34 => ⟨S32x1000000, .i32⟩
  | 35 => ⟨S32x1000000, .i32⟩
  | 36 => ⟨S32x1000000, .i32⟩
  | 37 => ⟨S32x1000000, .i32⟩
  | 38 => ⟨S_, .i32⟩
  | 39 => ⟨S32x1000000, .i32⟩
  | 40 => ⟨S32x1000000, .i32⟩
  | 41 => ⟨S_, .i32⟩
  | 42 => ⟨S32x1000000, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S_, .i32⟩
  | 49 => ⟨S32x1000000, .i32⟩
  | 50 => ⟨S32x1000000, .i32⟩
  | 51 => ⟨S32x1000000, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S_, .i32⟩
  | 58 => ⟨S32x1000000, .i32⟩
  | 59 => ⟨S32x1000000, .i32⟩
  | 60 => ⟨S32x1000000, .i32⟩
  | 61 => ⟨S32x1000000, .i32⟩
  | 62 => ⟨S32x1000000, .i32⟩
  | 63 => ⟨S_, .i32⟩
  | 64 => ⟨S32x1000000, .i32⟩
  | 65 => ⟨S32x1000000, .i32⟩
  | 66 => ⟨S_, .i32⟩
  | 67 => ⟨S32x1000000, .i32⟩
  | 68 => ⟨S32x1000000, .i32⟩
  | 69 => ⟨S32x1000000, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S_, .i32⟩
  | 76 => ⟨S32x1000000, .i32⟩
  | 77 => ⟨S32x1000000, .i32⟩
  | 78 => ⟨S32x1000000, .i32⟩
  | 79 => ⟨S32x1000000, .i32⟩
  | 80 => ⟨S_, .i32⟩
  | 81 => ⟨S32x1000000, .i32⟩
  | 82 => ⟨S32x1000000, .i32⟩
  | 83 => ⟨S_, .i32⟩
  | 84 => ⟨S32x1000000, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S_, .i32⟩
  | 91 => ⟨S32x1000000, .i32⟩
  | 92 => ⟨S32x1000000, .i32⟩
  | 93 => ⟨S32x1000000, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S32x1000000, .i32⟩
  | 103 => ⟨S32x1000000, .i32⟩
  | 104 => ⟨S32x1000000, .i32⟩
  | 105 => ⟨S_, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S32x1000000, .i32⟩
  | 112 => ⟨S32x1000000, .i32⟩
  | 113 => ⟨S32x1000000, .i32⟩
  | 114 => ⟨S_, .i32⟩
  | 115 => ⟨S32x1000000, .i32⟩
  | 116 => ⟨S32x1000000, .i32⟩
  | 117 => ⟨S_, .i32⟩
  | 118 => ⟨S32x1000000, .i32⟩
  | 119 => ⟨S32x1000000, .i32⟩
  | 120 => ⟨S32x1000000, .i32⟩
  | 121 => ⟨S32x1000000, .i32⟩
  | 122 => ⟨S_, .i32⟩
  | 123 => ⟨S32x1000000, .i32⟩
  | 124 => ⟨S32x1000000, .i32⟩
  | 125 => ⟨S_, .i32⟩
  | 126 => ⟨S32x1000000, .i32⟩
  | 127 => ⟨S32x1000000, .i32⟩
  | _ => ⟨S32x1000000, .f32⟩

abbrev hbmTy0_2 (i : Nat) : BufTy := match i % 128 with
  | 0 => ⟨S32x1000000, .i32⟩
  | 1 => ⟨S_, .i32⟩
  | 2 => ⟨S32x1000000, .i32⟩
  | 3 => ⟨S32x1000000, .i32⟩
  | 4 => ⟨S_, .i32⟩
  | 5 => ⟨S32x1000000, .i32⟩
  | 6 => ⟨S32x1000000, .i32⟩
  | 7 => ⟨S32x1000000, .f32⟩
  | 8 => ⟨S_, .f32⟩
  | 9 => ⟨S32x1000000, .f32⟩
  | 10 => ⟨S32x1000000, .f32⟩
  | 11 => ⟨S_, .f32⟩
  | 12 => ⟨S32x1000000, .f32⟩
  | 13 => ⟨S32x1000000, .f32⟩
  | 14 => ⟨S_, .f32⟩
  | 15 => ⟨S32x1000000, .f32⟩
  | 16 => ⟨S32x1000000, .f32⟩
  | 17 => ⟨S_, .f32⟩
  | 18 => ⟨S32x1000000, .f32⟩
  | 19 => ⟨S32x1000000, .f32⟩
  | 20 => ⟨S32x1000000, .f32⟩
  | 21 => ⟨S32x1000000, .f32⟩
  | 22 => ⟨S32x1000000, .f32⟩
  | 23 => ⟨S32x1000000, .f32⟩
  | 24 => ⟨S32x1000000, .f32⟩
  | 25 => ⟨S_, .f32⟩
  | 26 => ⟨S32, .f32⟩
  | 27 => ⟨S32x1, .f32⟩
  | 28 => ⟨S32x1000000, .i32⟩
  | 29 => ⟨S32x1000000, .f32⟩
  | 30 => ⟨S32x1000000, .i1⟩
  | 31 => ⟨S_, .i32⟩
  | 32 => ⟨S32x1000000, .i32⟩
  | 33 => ⟨S32x1000000, .i32⟩
  | 34 => ⟨S_, .i32⟩
  | 35 => ⟨S32, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_c_7 : Ref sig .tc := ⟨.hbm, 40, rfl⟩
abbrev main_v30 : Ref sig .tc := ⟨.hbm, 41, rfl⟩
abbrev main_v31 : Ref sig .tc := ⟨.hbm, 42, rfl⟩
abbrev main_c_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_9 : Ref sig .tc := ⟨.hbm, 47, rfl⟩
abbrev main_v35 : Ref sig .tc := ⟨.hbm, 48, rfl⟩
abbrev main_v36 : Ref sig .tc := ⟨.hbm, 49, rfl⟩
abbrev main_c_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_11 : Ref sig .tc := ⟨.hbm, 56, rfl⟩
abbrev main_v42 : Ref sig .tc := ⟨.hbm, 57, rfl⟩
abbrev main_v43 : Ref sig .tc := ⟨.hbm, 58, rfl⟩
abbrev main_c_12 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_13 : Ref sig .tc := ⟨.hbm, 65, rfl⟩
abbrev main_v49 : Ref sig .tc := ⟨.hbm, 66, rfl⟩
abbrev main_v50 : Ref sig .tc := ⟨.hbm, 67, rfl⟩
abbrev main_c_14 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_15 : Ref sig .tc := ⟨.hbm, 74, rfl⟩
abbrev main_v56 : Ref sig .tc := ⟨.hbm, 75, rfl⟩
abbrev main_v57 : Ref sig .tc := ⟨.hbm, 76, rfl⟩
abbrev main_c_16 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_17 : Ref sig .tc := ⟨.hbm, 82, rfl⟩
abbrev main_v62 : Ref sig .tc := ⟨.hbm, 83, rfl⟩
abbrev main_v63 : Ref sig .tc := ⟨.hbm, 84, rfl⟩
abbrev main_c_18 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_19 : Ref sig .tc := ⟨.hbm, 89, rfl⟩
abbrev main_v67 : Ref sig .tc := ⟨.hbm, 90, rfl⟩
abbrev main_v68 : Ref sig .tc := ⟨.hbm, 91, rfl⟩
abbrev main_c_20 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_21 : Ref sig .tc := ⟨.hbm, 98, rfl⟩
abbrev main_v74 : Ref sig .tc := ⟨.hbm, 99, rfl⟩
abbrev main_v75 : Ref sig .tc := ⟨.hbm, 100, rfl⟩
abbrev main_c_22 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_23 : Ref sig .tc := ⟨.hbm, 107, rfl⟩
abbrev main_v81 : Ref sig .tc := ⟨.hbm, 108, rfl⟩
abbrev main_v82 : Ref sig .tc := ⟨.hbm, 109, rfl⟩
abbrev main_c_24 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_25 : Ref sig .tc := ⟨.hbm, 116, rfl⟩
abbrev main_v88 : Ref sig .tc := ⟨.hbm, 117, rfl⟩
abbrev main_v89 : Ref sig .tc := ⟨.hbm, 118, rfl⟩
abbrev main_c_26 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_27 : Ref sig .tc := ⟨.hbm, 124, rfl⟩
abbrev main_v94 : Ref sig .tc := ⟨.hbm, 125, rfl⟩
abbrev main_v95 : Ref sig .tc := ⟨.hbm, 126, rfl⟩
abbrev main_c_28 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_29 : Ref sig .tc := ⟨.hbm, 131, rfl⟩
abbrev main_v99 : Ref sig .tc := ⟨.hbm, 132, rfl⟩
abbrev main_v100 : Ref sig .tc := ⟨.hbm, 133, rfl⟩
abbrev main_c_30 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_31 : Ref sig .tc := ⟨.hbm, 140, rfl⟩
abbrev main_v106 : Ref sig .tc := ⟨.hbm, 141, rfl⟩
abbrev main_v107 : Ref sig .tc := ⟨.hbm, 142, rfl⟩
abbrev main_c_32 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_c_33 : Ref sig .tc := ⟨.hbm, 149, rfl⟩
abbrev main_v113 : Ref sig .tc := ⟨.hbm, 150, rfl⟩
abbrev main_v114 : Ref sig .tc := ⟨.hbm, 151, rfl⟩
abbrev main_c_34 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_35 : Ref sig .tc := ⟨.hbm, 158, rfl⟩
abbrev main_v120 : Ref sig .tc := ⟨.hbm, 159, rfl⟩
abbrev main_v121 : Ref sig .tc := ⟨.hbm, 160, rfl⟩
abbrev main_c_36 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_c_37 : Ref sig .tc := ⟨.hbm, 166, rfl⟩
abbrev main_v126 : Ref sig .tc := ⟨.hbm, 167, rfl⟩
abbrev main_v127 : Ref sig .tc := ⟨.hbm, 168, rfl⟩
abbrev main_c_38 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_c_39 : Ref sig .tc := ⟨.hbm, 173, rfl⟩
abbrev main_v131 : Ref sig .tc := ⟨.hbm, 174, rfl⟩
abbrev main_v132 : Ref sig .tc := ⟨.hbm, 175, rfl⟩
abbrev main_c_40 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_41 : Ref sig .tc := ⟨.hbm, 182, rfl⟩
abbrev main_v138 : Ref sig .tc := ⟨.hbm, 183, rfl⟩
abbrev main_v139 : Ref sig .tc := ⟨.hbm, 184, rfl⟩
abbrev main_c_42 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_c_43 : Ref sig .tc := ⟨.hbm, 191, rfl⟩
abbrev main_v145 : Ref sig .tc := ⟨.hbm, 192, rfl⟩
abbrev main_v146 : Ref sig .tc := ⟨.hbm, 193, rfl⟩
abbrev main_c_44 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_c_45 : Ref sig .tc := ⟨.hbm, 200, rfl⟩
abbrev main_v152 : Ref sig .tc := ⟨.hbm, 201, rfl⟩
abbrev main_v153 : Ref sig .tc := ⟨.hbm, 202, rfl⟩
abbrev main_c_46 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_c_47 : Ref sig .tc := ⟨.hbm, 208, rfl⟩
abbrev main_v158 : Ref sig .tc := ⟨.hbm, 209, rfl⟩
abbrev main_v159 : Ref sig .tc := ⟨.hbm, 210, rfl⟩
abbrev main_c_48 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_c_49 : Ref sig .tc := ⟨.hbm, 215, rfl⟩
abbrev main_v163 : Ref sig .tc := ⟨.hbm, 216, rfl⟩
abbrev main_v164 : Ref sig .tc := ⟨.hbm, 217, rfl⟩
abbrev main_c_50 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_c_51 : Ref sig .tc := ⟨.hbm, 224, rfl⟩
abbrev main_v170 : Ref sig .tc := ⟨.hbm, 225, rfl⟩
abbrev main_v171 : Ref sig .tc := ⟨.hbm, 226, rfl⟩
abbrev main_c_52 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_c_53 : Ref sig .tc := ⟨.hbm, 233, rfl⟩
abbrev main_v177 : Ref sig .tc := ⟨.hbm, 234, rfl⟩
abbrev main_v178 : Ref sig .tc := ⟨.hbm, 235, rfl⟩
abbrev main_c_54 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_c_55 : Ref sig .tc := ⟨.hbm, 242, rfl⟩
abbrev main_v184 : Ref sig .tc := ⟨.hbm, 243, rfl⟩
abbrev main_v185 : Ref sig .tc := ⟨.hbm, 244, rfl⟩
abbrev main_c_56 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_c_57 : Ref sig .tc := ⟨.hbm, 250, rfl⟩
abbrev main_v190 : Ref sig .tc := ⟨.hbm, 251, rfl⟩
abbrev main_v191 : Ref sig .tc := ⟨.hbm, 252, rfl⟩
abbrev main_c_58 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_c_59 : Ref sig .tc := ⟨.hbm, 257, rfl⟩
abbrev main_v195 : Ref sig .tc := ⟨.hbm, 258, rfl⟩
abbrev main_v196 : Ref sig .tc := ⟨.hbm, 259, rfl⟩
abbrev main_c_60 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_cst_61 : Ref sig .tc := ⟨.hbm, 264, rfl⟩
abbrev main_v200 : Ref sig .tc := ⟨.hbm, 265, rfl⟩
abbrev main_v201 : Ref sig .tc := ⟨.hbm, 266, rfl⟩
abbrev main_cst_62 : Ref sig .tc := ⟨.hbm, 267, rfl⟩
abbrev main_v202 : Ref sig .tc := ⟨.hbm, 268, rfl⟩
abbrev main_v203 : Ref sig .tc := ⟨.hbm, 269, rfl⟩
abbrev main_cst_63 : Ref sig .tc := ⟨.hbm, 270, rfl⟩
abbrev main_v204 : Ref sig .tc := ⟨.hbm, 271, rfl⟩
abbrev main_v205 : Ref sig .tc := ⟨.hbm, 272, rfl⟩
abbrev main_cst_64 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_cst_65 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_c_66 : Ref sig .tc := ⟨.hbm, 287, rfl⟩
abbrev main_call0_v0 : Ref sig .tc := ⟨.hbm, 288, rfl⟩
abbrev main_v218 : Ref sig .tc := ⟨.hbm, 289, rfl⟩
abbrev main_c_67 : Ref sig .tc := ⟨.hbm, 290, rfl⟩
abbrev main_v219 : Ref sig .tc := ⟨.hbm, 291, rfl⟩

abbrev nD : Nat := 1
abbrev τ : Topo := Topo.v7x

variable {F : FTy → Type} [FloatOps F]
-- ==== Proof.Roll.lean ====
/- The two kernels' bodies with their unrolled walks over the 256 column slices of a block folded back into loops: each
   slice is one step of a walk that hands its accumulators to the next. Written once, for any signature of buffers, and
   met by both printings of the program (KernelRoll.lean, KernelIdealRoll.lean). -/
module

public import Idealize.ShloMosaic.Lib.Pipeline.Kit
public import Idealize.ShloMosaic.Lib.Exec

@[expose] public section

noncomputable section

namespace Cert.Roll

open Idealize.ShloMosaic Idealize.SL.Sem

variable {F : FTy → Type} [FloatOps F]

/-- A block of the gradient, a slice of it, its rows, a column, the four statistics of each row. -/
abbrev SBlk : Shape := ⟨2, ![32, 32768]⟩
abbrev SL : Shape := ⟨2, ![32, 128]⟩
abbrev SR : Shape := ⟨1, ![32]⟩
abbrev SC : Shape := ⟨2, ![32, 1]⟩
abbrev SQ : Shape := ⟨2, ![32, 4]⟩

/-- Slice `k` lies inside its block. -/
theorem inb_slice (k : Nat) (hk : k < 256) : ∀ a, (![0, 128 * k] : Fin 2 → Nat) a + SL.size a ≤ SBlk.size a := by
  intro a
  fin_cases a
  · show 0 + 32 ≤ 32; omega
  · show 128 * k + 128 ≤ 32768; omega

/-- Column `j` lies inside the statistics. -/
theorem inb_col (j : Nat) (hj : j < 4) : ∀ a, (![0, j] : Fin 2 → Nat) a + SC.size a ≤ SQ.size a := by
  intro a
  fin_cases a
  · show 0 + 32 ≤ 32; omega
  · show j + 1 ≤ 4; omega

theorem inb_SL : ∀ a, (![0, 0] : Fin 2 → Nat) a + SL.size a ≤ SL.size a := by decide
theorem inb_SC : ∀ a, (![0, 0] : Fin 2 → Nat) a + SC.size a ≤ SC.size a := by decide
theorem iota_row : SL.Iotas .tc 32 [0] := by decide
theorem iota_lane : SL.Iotas .tc 32 [1] := by decide
theorem cast_SL : SL.ShapeCasts SL := by decide
theorem cast_SC : SC.ShapeCasts SC := by decide
theorem cast_SR : SR.ShapeCasts SC := by decide
theorem red_SL : SL.Reduces [1] SR := by decide
theorem bc_SC : SC.Broadcasts SL := by decide
theorem pos_SL : 0 < SL.numel := by decide
theorem pos_SC : 0 < SC.numel := by decide

/-! ## The lane accumulators of the statistics -/

/-- The lane-wise running minimum, maximum, sum and sum of squares. -/
structure Acc (F : FTy → Type) where
  mn : FVec F SL .f32
  mx : FVec F SL .f32
  s1 : FVec F SL .f32
  s2 : FVec F SL .f32

/-- One slice whose columns all lie inside the array. -/
def Acc.fold (a : Acc F) (v : Vec F SL .f32) : Acc F :=
  ⟨minimumf a.mn (absf v), maximumf a.mx (absf v), addf a.s1 (absf v), addf a.s2 (mulf (absf v) (absf v))⟩

/-- Which of slice `k`'s columns lie inside the array, the block starting at column `base`. -/
def inside (base : BitVec 32) (k : Nat) : IVec SL 1 :=
  cmpi .slt (addi (broadcast SL (Scalar.addi base (BitVec.ofNat 32 (128 * k)))) (iota .tc SL 32 [1] iota_lane))
    (broadcast SL 1000000#32)

/-- One slice some of whose columns may lie past the array's end. -/
def Acc.foldIn (a : Acc F) (m : IVec SL 1) (v : Vec F SL .f32) : Acc F :=
  let w := select m (absf v) (broadcast SL (Scalar.ofBits .f32 0x00000000#32))
  ⟨minimumf a.mn (select m (absf v) (broadcast SL (Scalar.ofBits .f32 0x7F800000#32))), maximumf a.mx w, addf a.s1 w,
    addf a.s2 (mulf w w)⟩

/-- What the accumulators start from at the first block. -/
def Acc.start : Acc F :=
  ⟨broadcast SL (Scalar.ofBits .f32 0x7F800000#32), broadcast SL (Scalar.ofBits .f32 0x00000000#32),
    broadcast SL (Scalar.ofBits .f32 0x00000000#32), broadcast SL (Scalar.ofBits .f32 0x00000000#32)⟩

/-- The accumulators a point starts from: the start at the first, what the point before left at a later one. -/
def Acc.enter (c : BitVec 32) (a : Acc F) : Acc F :=
  ⟨Scalar.select (Scalar.cmpi .eq c 0#32) (Acc.start (F := F)).mn a.mn,
    Scalar.select (Scalar.cmpi .eq c 0#32) (Acc.start (F := F)).mx a.mx,
    Scalar.select (Scalar.cmpi .eq c 0#32) (Acc.start (F := F)).s1 a.s1,
    Scalar.select (Scalar.cmpi .eq c 0#32) (Acc.start (F := F)).s2 a.s2⟩

/-- A row's minimum, maximum and sum over the lanes. -/
def rowMin (v : Vec F SL .f32) : FVec F SC .f32 :=
  shapeCast SC (multiReduction .minimumf [1] SR v 0x7F800000#32 red_SL (.inl rfl) rfl) cast_SR
def rowMax (v : Vec F SL .f32) : FVec F SC .f32 :=
  shapeCast SC (multiReduction .maximumf [1] SR v 0xFF800000#32 red_SL (.inl rfl) rfl) cast_SR
def rowSum (v : Vec F SL .f32) : FVec F SC .f32 :=
  shapeCast SC (multiReduction .add [1] SR v 0x00000000#32 red_SL (.inl rfl) rfl) cast_SR

/-- The reciprocal of a row's span. -/
def invSpan (mn mx : FVec F SC .f32) : FVec F SC .f32 :=
  divf (broadcast SC (Scalar.ofBits .f32 0x3F800000#32))
    (addf (subf mx mn) (broadcast SC (Scalar.ofBits .f32 0x2B8CBCCC#32)))

/-- A row's sum of weights from its minimum, its reciprocal span, its sum and its sum of squares. -/
def weightSum (mn iv s1 s2 : FVec F SC .f32) : FVec F SC .f32 :=
  addf
    (mulf (broadcast SC (Scalar.ofBits .f32 0x3F666666#32))
      (mulf
        (addf (subf s2 (mulf (mulf (broadcast SC (Scalar.ofBits .f32 0x40000000#32)) mn) s1))
          (mulf (mulf (broadcast SC (Scalar.ofBits .f32 0x49742400#32)) mn) mn))
        (mulf iv iv)))
    (broadcast SC (Scalar.mulf (Scalar.ofBits .f32 0x3DCCCCCD#32) (Scalar.ofBits .f32 0x49742400#32)))

/-- The offset of a row's affine map, `rt` the square root its scale carries. -/
def offsetOf (rt : F .f32) (mn iv : FVec F SC .f32) : FVec F SC .f32 :=
  mulf (mulf (subf (broadcast SC (Scalar.ofBits .f32 0x00000000#32)) mn) iv) (broadcast SC rt)

/-- The scale of a row's affine map. -/
def scaleOf (rt : F .f32) (iv : FVec F SC .f32) : FVec F SC .f32 := mulf iv (broadcast SC rt)

/-- The reciprocal of a row's sum of weights. -/
def invSum (ps : FVec F SC .f32) : FVec F SC .f32 := divf (broadcast SC (Scalar.ofBits .f32 0x3F800000#32)) ps

/-! ## The draws -/

/-- A word turned left by `r` (right by `l`, the two adding to 32) and xored with `y`. -/
def turn (r l : BitVec 32) (x y : IVec SL 32) : IVec SL 32 :=
  xori (ori (shli x (broadcast SL r)) (shrui x (broadcast SL l))) y

/-- One round of the generator on the pair `x0, x1`. -/
def round {α : Type} (r l : BitVec 32) (x0 x1 : IVec SL 32) (K : IVec SL 32 → IVec SL 32 → α) : α :=
  K (addi x0 x1) (turn r l x1 (addi x0 x1))

/-- The pair added a key each. -/
def inject {α : Type} (a b : BitVec 32) (x0 x1 : IVec SL 32) (K : IVec SL 32 → IVec SL 32 → α) : α :=
  K (addi x0 (broadcast SL a)) (addi x1 (broadcast SL b))

/-- The generator's word at the counter `fk`, its keys folded in. -/
def mix (fk : IVec SL 32) : IVec SL 32 :=
  round 15#32 17#32 fk (turn 13#32 19#32 fk fk) fun x0 x1 =>
  round 26#32 6#32 x0 x1 fun x0 x1 =>
  round 6#32 26#32 x0 x1 fun x0 x1 =>
  inject 1#32 (Scalar.addi 466688987#32 1#32) x0 x1 fun x0 x1 =>
  round 17#32 15#32 x0 x1 fun x0 x1 =>
  round 29#32 3#32 x0 x1 fun x0 x1 =>
  round 16#32 16#32 x0 x1 fun x0 x1 =>
  round 24#32 8#32 x0 x1 fun x0 x1 =>
  inject 466688987#32 2#32 x0 x1 fun x0 x1 =>
  round 13#32 19#32 x0 x1 fun x0 x1 =>
  round 15#32 17#32 x0 x1 fun x0 x1 =>
  round 26#32 6#32 x0 x1 fun x0 x1 =>
  round 6#32 26#32 x0 x1 fun x0 x1 =>
  round 17#32 15#32 x0 (addi x1 (broadcast SL 4#32)) fun x0 x1 =>
  round 29#32 3#32 x0 x1 fun x0 x1 =>
  round 16#32 16#32 x0 x1 fun x0 x1 =>
  round 24#32 8#32 x0 x1 fun x0 x1 =>
  inject 1#32 (Scalar.addi 466688987#32 4#32) x0 x1 fun x0 x1 =>
  round 13#32 19#32 x0 x1 fun x0 x1 =>
  round 15#32 17#32 x0 x1 fun x0 x1 =>
  round 26#32 6#32 x0 x1 fun x0 x1 =>
  round 6#32 26#32 x0 x1 fun x0 x1 =>
  inject 466688987#32 5#32 x0 x1 fun x0 x1 => xori x0 x1

/-- The exponential draw of each word: minus the logarithm of a uniform in `[tiny, 1)`. -/
def drawOf (bits : IVec SL 32) : FVec F SL .f32 :=
  subf (broadcast SL (Scalar.ofBits .f32 0x00000000#32))
    (log
      (maximumf (broadcast SL (Scalar.ofBits .f32 0x00800000#32))
        (addf
          (subf (bitcastToFloat .f32 (ori (shrui bits (broadcast SL 9#32)) (broadcast SL 1065353216#32)))
            (broadcast SL (Scalar.ofBits .f32 0x3F800000#32)))
          (broadcast SL (Scalar.ofBits .f32 0x00800000#32)))))

/-- The weights of a slice, its rows' offset and scale given. -/
def weightOf (c0 c1 : FVec F SC .f32) (v : Vec F SL .f32) : FVec F SL .f32 :=
  addf
    (mulf (addf (mulf (absf v) (broadcastTo SL c1 bc_SC)) (broadcastTo SL c0 bc_SC))
      (addf (mulf (absf v) (broadcastTo SL c1 bc_SC)) (broadcastTo SL c0 bc_SC)))
    (broadcast SL (Scalar.ofBits .f32 0x3DCCCCCD#32))

/-- Each lane's best so far: its weight, its draw and its counter. -/
structure Best (F : FTy → Type) where
  p : FVec F SL .f32
  w : FVec F SL .f32
  i : IVec SL 32

/-- A slice of weights `p`, draws `w` and counters `fk` set against the best so far; `thr` bounds a row's counters. -/
def Best.meet (b : Best F) (p w : FVec F SL .f32) (fk thr : IVec SL 32) : Best F :=
  let u : IVec SL 1 := andi (cmpf .ogt (mulf p b.w) (mulf b.p w)) (cmpi .ult fk thr)
  ⟨select u p b.p, select u w b.w, select u fk b.i⟩

/-- What the lanes start from at the first block. -/
def Best.enter (c : BitVec 32) (b : Best F) : Best F :=
  ⟨Scalar.select (Scalar.cmpi .eq c 0#32) (broadcast SL (Scalar.ofBits .f32 0x00000000#32)) b.p,
    Scalar.select (Scalar.cmpi .eq c 0#32) (broadcast SL (Scalar.ofBits .f32 0x3F800000#32)) b.w,
    Scalar.select (Scalar.cmpi .eq c 0#32) (broadcast SL 0#32) b.i⟩

/-- A row's first counter but one. -/
def rowBase : IVec SL 32 := muli (iota .tc SL 32 [0] iota_row) (broadcast SL 1000000#32)

/-- The counters of a block's first slice. -/
def firstOf (c : BitVec 32) : IVec SL 32 :=
  addi (addi rowBase (iota .tc SL 32 [1] iota_lane)) (broadcast SL (Scalar.addi (Scalar.muli c 32768#32) 1#32))

/-- The counter past a row's last. -/
def thrOf : IVec SL 32 := addi rowBase (broadcast SL 1000001#32)

/-- The counters of slice `k`. -/
def countOf (c : BitVec 32) (k : Nat) : IVec SL 32 := addi (firstOf c) (broadcast SL (BitVec.ofNat 32 (128 * k)))

/-- Slice `k` of block `c` set against the best so far. -/
def Best.step (b : Best F) (c0 c1 : FVec F SC .f32) (c : BitVec 32) (k : Nat) (v : Vec F SL .f32) : Best F :=
  b.meet (weightOf c0 c1 v) (drawOf (mix (countOf c k))) (countOf c k) thrOf

/-- The probabilities of a slice. -/
def probOf (c0 c1 ips : FVec F SC .f32) (v : Vec F SL .f32) : FVec F SL .f32 :=
  mulf (weightOf c0 c1 v) (broadcastTo SL ips bc_SC)

/-- A row's sampled column: the least of those of the lanes whose ratio is the row's largest. -/
def pick (b : Best F) : IVec SC 32 :=
  shapeCast SC
    (multiReductionI .minsi [1] SR
      (select
        (cmpf .oeq (divf b.p b.w) (broadcastTo SL (rowMax (divf b.p b.w)) bc_SC))
        (subi (subi b.i (broadcast SL 1#32)) rowBase) (broadcast SL 1000000#32))
      2147483647#32 red_SL rfl)
    cast_SR

/-! ## The programs -/

section

variable {nD : Nat} {τ : Topo} {sig : RefSig} {Λ : Labels}

/-- A walk over the slices `256 - n, …, 255`, each handing its state to the next and the last to `K`. -/
def walk {α β : Type}
    (f : (k : Nat) → k < 256 → α → (α → Prog (TpuEff nD τ sig (Elt F) Λ .tc) β) → Prog (TpuEff nD τ sig (Elt F) Λ .tc) β)
    (K : α → Prog (TpuEff nD τ sig (Elt F) Λ .tc) β) (n : Nat) : α → Prog (TpuEff nD τ sig (Elt F) Λ .tc) β :=
  Nat.rec (motive := fun _ => α → Prog (TpuEff nD τ sig (Elt F) Λ .tc) β) K
    (fun n ih a => f (255 - n) (Nat.lt_of_le_of_lt (Nat.sub_le _ _) (by decide)) a ih) n

/-- A slice loaded. -/
abbrev loadSlice (r : Memref sig .tc .vmem SBlk .f32) (k : Nat) (hk : k < 256) :
    TpuEff nD τ sig (Elt F) Λ .tc (Vec F SL .f32) :=
  .load r (Rect.unit (s := SBlk) ![0, 128 * k] SL.size (inb_slice k hk)).toLoadRect (View.loadsAt_vmem pos_SL)

/-- A slice stored. -/
abbrev storeSlice (r : Memref sig .tc .vmem SBlk .f32) (k : Nat) (hk : k < 256) (v : Vec F SL .f32) :
    TpuEff nD τ sig (Elt F) Λ .tc PUnit :=
  .store r (Rect.unit (s := SBlk) ![0, 128 * k] SL.size (inb_slice k hk)) v Finset.univ
    (View.stores_vmem_bits_univ pos_SL rfl) (.inl rfl)

/-- A lane accumulator loaded whole. -/
abbrev loadAcc {e : EltTy} (r : Memref sig .tc .vmem SL e) : TpuEff nD τ sig (Elt F) Λ .tc (Vec F SL e) :=
  .load r (Rect.unit (s := SL) ![0, 0] SL.size inb_SL).toLoadRect (View.loadsAt_vmem pos_SL)

/-- A lane accumulator of floats stored whole. -/
abbrev storeAcc (r : Memref sig .tc .vmem SL .f32) (v : Vec F SL .f32) : TpuEff nD τ sig (Elt F) Λ .tc PUnit :=
  .store r (Rect.unit (s := SL) ![0, 0] SL.size inb_SL) v Finset.univ (View.stores_vmem_bits_univ pos_SL rfl) (.inl rfl)

/-- A lane accumulator of words stored whole. -/
abbrev storeAccI (r : Memref sig .tc .vmem SL .i32) (v : Vec F SL .i32) : TpuEff nD τ sig (Elt F) Λ .tc PUnit :=
  .store r (Rect.unit (s := SL) ![0, 0] SL.size inb_SL) v Finset.univ (View.stores_vmem_bits_univ pos_SL rfl) (.inl rfl)

/-- Column `j` of the statistics loaded. -/
abbrev loadCol (r : Memref sig .tc .vmem SQ .f32) (j : Nat) (hj : j < 4) : TpuEff nD τ sig (Elt F) Λ .tc (Vec F SC .f32) :=
  .load r (Rect.unit (s := SQ) ![0, j] SC.size (inb_col j hj)).toLoadRect (View.loadsAt_vmem pos_SC)

/-- Column `j` of the statistics stored. -/
abbrev storeCol (r : Memref sig .tc .vmem SQ .f32) (j : Nat) (hj : j < 4) (v : Vec F SC .f32) :
    TpuEff nD τ sig (Elt F) Λ .tc PUnit :=
  .store r (Rect.unit (s := SQ) ![0, j] SC.size (inb_col j hj)) v Finset.univ
    (View.stores_vmem_bits_univ pos_SC rfl) (.inl rfl)

/-- The condition of the last block, as the kernels test it. -/
abbrev isLast (c : BitVec 32) : BitVec 1 := Scalar.cmpi .ne (Scalar.extui (Scalar.cmpi .eq c 30#32) : BitVec 32) 0#32

/-- The condition of a block before the last. -/
abbrev notLast (c : BitVec 32) : BitVec 1 := Scalar.cmpi .ne (Scalar.extui (Scalar.cmpi .ne c 30#32) : BitVec 32) 0#32

section stats

variable (arg1 : Memref sig .tc .vmem SBlk .f32) (arg2 : Memref sig .tc .vmem SQ .f32)
  (arg3 arg4 arg5 arg6 : Memref sig .tc .vmem SL .f32)

/-- The four accumulators stored, each after a load of what it held. -/
def storeAll (a : Acc F) : Prog (TpuEff nD τ sig (Elt F) Λ .tc) PUnit := do
  let _ ← Prog.lift (loadAcc arg3)
  Prog.lift (storeAcc arg3 (shapeCast SL a.mn cast_SL))
  let _ ← Prog.lift (loadAcc arg4)
  Prog.lift (storeAcc arg4 (shapeCast SL a.mx cast_SL))
  let _ ← Prog.lift (loadAcc arg5)
  Prog.lift (storeAcc arg5 (shapeCast SL a.s1 cast_SL))
  let _ ← Prog.lift (loadAcc arg6)
  Prog.lift (storeAcc arg6 (shapeCast SL a.s2 cast_SL))
  pure ⟨⟩

/-- The walk over a block whose columns all lie inside the array. -/
def foldWhole (a : Acc F) : Prog (TpuEff nD τ sig (Elt F) Λ .tc) PUnit :=
  walk (fun k hk a K => .op (loadSlice arg1 k hk) fun v => K (a.fold v)) (storeAll arg3 arg4 arg5 arg6) 256 a

/-- The walk over the block that overhangs the array's end. -/
def foldCut (base : BitVec 32) (a : Acc F) : Prog (TpuEff nD τ sig (Elt F) Λ .tc) PUnit :=
  walk (fun k hk a K => .op (loadSlice arg1 k hk) fun v => K (a.foldIn (inside base k) v))
    (storeAll arg3 arg4 arg5 arg6) 256 a

/-- What the last point does: the accumulators reduced over the lanes, the four statistics of each row written. -/
def finish (rt : F .f32) : Prog (TpuEff nD τ sig (Elt F) Λ .tc) PUnit := do
  let mn ← Prog.lift (loadAcc arg3)
  let mx ← Prog.lift (loadAcc arg4)
  let s1 ← Prog.lift (loadAcc arg5)
  let s2 ← Prog.lift (loadAcc arg6)
  let _ ← Prog.lift (loadCol arg2 0 (by decide))
  Prog.lift (storeCol arg2 0 (by decide) (offsetOf rt (rowMin mn) (invSpan (rowMin mn) (rowMax mx))))
  let _ ← Prog.lift (loadCol arg2 1 (by decide))
  Prog.lift (storeCol arg2 1 (by decide) (scaleOf rt (invSpan (rowMin mn) (rowMax mx))))
  let _ ← Prog.lift (loadCol arg2 2 (by decide))
  Prog.lift (storeCol arg2 2 (by decide)
    (invSum (weightSum (rowMin mn) (invSpan (rowMin mn) (rowMax mx)) (rowSum s1) (rowSum s2))))
  let _ ← Prog.lift (loadCol arg2 3 (by decide))
  Prog.lift (storeCol arg2 3 (by decide)
    (weightSum (rowMin mn) (invSpan (rowMin mn) (rowMax mx)) (rowSum s1) (rowSum s2)))
  pure ⟨⟩

/-- The statistics kernel at point `c`. -/
def stats (rt : F .f32) (c : BitVec 32) : Prog (TpuEff nD τ sig (Elt F) Λ .tc) PUnit := do
  let v2 ← Prog.lift (loadAcc arg3)
  let v6 ← Prog.lift (loadAcc arg4)
  let v10 ← Prog.lift (loadAcc arg5)
  let v14 ← Prog.lift (loadAcc arg6)
  if notLast c = 1#1 then
    foldWhole arg1 arg3 arg4 arg5 arg6 (Acc.enter c ⟨v2, v6, v10, v14⟩)
  else
    pure ⟨⟩
  if isLast c = 1#1 then
    foldCut arg1 arg3 arg4 arg5 arg6 (Scalar.muli c 32768#32) (Acc.enter c ⟨v2, v6, v10, v14⟩)
  else
    pure ⟨⟩
  if isLast c = 1#1 then
    finish arg2 arg3 arg4 arg5 arg6 rt
  else
    pure ⟨⟩
  pure ⟨⟩

end stats

section sample

variable (arg1 : Memref sig .tc .vmem SBlk .f32) (arg2 : Memref sig .tc .vmem SQ .f32)
  (arg3 : Memref sig .tc .vmem SBlk .f32) (arg4 : Memref sig .tc .vmem SC .i32)
  (arg5 arg6 : Memref sig .tc .vmem SL .f32) (arg7 : Memref sig .tc .vmem SL .i32)

/-- What follows the walk over a block: the lanes' best stored, and at the last point the rows' columns picked. -/
def leave (c : BitVec 32) (b : Best F) : Prog (TpuEff nD τ sig (Elt F) Λ .tc) PUnit := do
  let _ ← Prog.lift (loadAcc arg5)
  Prog.lift (storeAcc arg5 (shapeCast SL b.p cast_SL))
  let _ ← Prog.lift (loadAcc arg6)
  Prog.lift (storeAcc arg6 (shapeCast SL b.w cast_SL))
  let _ ← Prog.lift (loadAcc arg7)
  Prog.lift (storeAccI arg7 (shapeCast SL b.i cast_SL))
  if isLast c = 1#1 then do
    let _ ← Prog.lift (.load arg4 (Rect.unit (s := SC) ![0, 0] SC.size inb_SC).toLoadRect (View.loadsAt_vmem pos_SC))
    Prog.lift (.store arg4 (Rect.unit (s := SC) ![0, 0] SC.size inb_SC) (pick b) Finset.univ
      (View.stores_vmem_bits_univ pos_SC rfl) (.inl rfl))
    pure ⟨⟩
  else
    pure ⟨⟩
  pure ⟨⟩

/-- The sampling kernel at point `c`. -/
def sample (c : BitVec 32) : Prog (TpuEff nD τ sig (Elt F) Λ .tc) PUnit := do
  let c0 ← Prog.lift (loadCol arg2 0 (by decide))
  let c1 ← Prog.lift (loadCol arg2 1 (by decide))
  let ips ← Prog.lift (loadCol arg2 2 (by decide))
  let v8 ← Prog.lift (loadAcc arg5)
  let v12 ← Prog.lift (loadAcc arg6)
  let v16 ← Prog.lift (loadAcc arg7)
  walk
    (fun k hk b K =>
      .op (loadSlice arg1 k hk) fun v =>
      .op (loadSlice arg3 k hk) fun _ =>
      .op (storeSlice arg3 k hk
          (probOf (shapeCast SC c0 cast_SC) (shapeCast SC c1 cast_SC) (shapeCast SC ips cast_SC) v)) fun _ =>
      K (b.step (shapeCast SC c0 cast_SC) (shapeCast SC c1 cast_SC) c k v))
    (leave arg4 arg5 arg6 arg7 c) 256 (Best.enter c ⟨v8, v12, v16⟩)

end sample

end

end Cert.Roll
-- ==== Proof.Triple.lean ====
/- The rolled kernels run: what each load and store does to a memref owned at given contents, the two walks, and from them
   what one grid point of each kernel leaves in its buffers. -/
module

public import proofs.«01_k».proof.Proof.Roll
public import Idealize.ShloMosaic.Lib.VecWindow
public import Idealize.ShloMosaic.Lib.Pipeline.Value
public import Idealize.ShloMosaic.Lib.Tactic

@[expose] public section

noncomputable section

namespace Cert.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

/-! ## What a walk computes -/

/-- The state after the slices `256 - n, …, 255`, from `a`. -/
def sweep {α : Type} (g : (k : Nat) → k < 256 → α → α) (n : Nat) : α → α :=
  Nat.rec (motive := fun _ => α → α) (fun a => a)
    (fun n ih a => ih (g (255 - n) (Nat.lt_of_le_of_lt (Nat.sub_le _ _) (by decide)) a)) n

/-- A sweep's first step, split off. -/
theorem sweep_succ {α : Type} (g : (k : Nat) → k < 256 → α → α) (n : Nat) (a : α) :
    sweep g (n + 1) a = sweep g n (g (255 - n) (Nat.lt_of_le_of_lt (Nat.sub_le _ _) (by decide)) a) := rfl

/-- Slice `k` of a block. -/
def sliceAt {α : Type} (X : SBlk.Idx → α) (k : Nat) (hk : k < 256) : SL.Idx → α :=
  VecWindow.window X ![0, 128 * k] SL.size (inb_slice k hk)

/-- Column `j` of the statistics. -/
def colAt {α : Type} (S : SQ.Idx → α) (j : Nat) (hj : j < 4) : SC.Idx → α :=
  VecWindow.window S ![0, j] SC.size (inb_col j hj)

/-- The block with its slices `256 - n, …, 255` overwritten, slice `k` by `P k`. -/
def putSlices {α : Type} (P : (k : Nat) → k < 256 → SL.Idx → α) (n : Nat) : (SBlk.Idx → α) → SBlk.Idx → α :=
  sweep (fun k hk Y => VecWindow.put Y ![0, 128 * k] SL.size (P k hk)) n

/-- The accumulators after one point, from what they held. -/
def accStep (c : BitVec 32) (X : SBlk.Idx → F .f32) (a : Acc F) : Acc F :=
  if isLast c = 1#1 then
    sweep (fun k hk a => a.foldIn (inside (Scalar.muli c 32768#32) k) (sliceAt X k hk)) 256 (Acc.enter c a)
  else sweep (fun k hk a => a.fold (sliceAt X k hk)) 256 (Acc.enter c a)

/-- The statistics the last point writes, over what was there. -/
def statsOf (rt : F .f32) (a : Acc F) (S : SQ.Idx → F .f32) : SQ.Idx → F .f32 :=
  VecWindow.put
    (VecWindow.put
      (VecWindow.put
        (VecWindow.put S ![0, 0] SC.size (offsetOf rt (rowMin a.mn) (invSpan (rowMin a.mn) (rowMax a.mx))))
        ![0, 1] SC.size (scaleOf rt (invSpan (rowMin a.mn) (rowMax a.mx))))
      ![0, 2] SC.size
      (invSum (weightSum (rowMin a.mn) (invSpan (rowMin a.mn) (rowMax a.mx)) (rowSum a.s1) (rowSum a.s2))))
    ![0, 3] SC.size (weightSum (rowMin a.mn) (invSpan (rowMin a.mn) (rowMax a.mx)) (rowSum a.s1) (rowSum a.s2))

/-- The statistics' buffer after point `c`: written at the last point only. -/
def statsAfter (rt : F .f32) (c : BitVec 32) (a : Acc F) (S : SQ.Idx → F .f32) : SQ.Idx → F .f32 :=
  if isLast c = 1#1 then statsOf rt a S else S

/-- The lanes' best after one point, from what they held. -/
def bestStep (c : BitVec 32) (S : SQ.Idx → F .f32) (X : SBlk.Idx → F .f32) (b : Best F) : Best F :=
  sweep (fun k hk b => b.step (colAt S 0 (by decide)) (colAt S 1 (by decide)) c k (sliceAt X k hk)) 256 (Best.enter c b)

/-- The probabilities a point writes, over what was there. -/
def probsOf (S : SQ.Idx → F .f32) (X Y : SBlk.Idx → F .f32) : SBlk.Idx → F .f32 :=
  putSlices
    (fun k hk => probOf (colAt S 0 (by decide)) (colAt S 1 (by decide)) (colAt S 2 (by decide)) (sliceAt X k hk)) 256 Y

/-- A put over the whole shape is its payload. -/
theorem put_full {α : Type} {s : Shape} (x w : s.Idx → α) (off : Fin s.rank → ℕ) (h : ∀ a, off a + s.size a ≤ s.size a) :
    VecWindow.put x off s.size w = w := by
  have h0 : off = fun _ => 0 := funext fun a => by have := h a; omega
  subst h0
  funext y
  unfold VecWindow.put
  rw [dif_pos fun a => ⟨Nat.zero_le _, by have := (y a).isLt; omega⟩]
  rfl

/-! ## Loads and stores of owned memrefs -/

section rules

variable {defs : Defs nD τ sig (Elt F) Λ} (𝒱 : Variants) (c : Dev nD) (E : Set ℕ) {α : Type}

/-- A load of an owned memref through a rectangle reads the window of its contents. -/
theorem own_load {Φ : α → sProp 𝕄} {s : Shape} {e : EltTy} {m : Memref sig .tc .vmem s e} {off size : Fin s.rank → ℕ}
    {inb : ∀ a, off a + size a ≤ s.size a} {hl : m.view.LoadsAt (Rect.unit off size inb).toLoadRect}
    {k : ((Rect.unit off size inb).shape.Idx → Elt F e) → Prog (TpuEff nD τ sig (Elt F) Λ .tc) α} {X : s.Idx → Elt F e} :
    (iprop(owns (c : Thread nD τ) m fullShare X
        ∗ (owns (c : Thread nD τ) m fullShare X
          -∗ wp frame (wpE defs 𝒱 (c : Thread nD τ) none) E (k (VecWindow.window X off size inb)) Φ)) : sProp 𝕄)
      ⊢ wp frame (wpE defs 𝒱 (c : Thread nD τ) none) E (.op (.load m (Rect.unit off size inb).toLoadRect hl) k) Φ := by
  unfold owns
  iintro ⟨⟨%f, %hf, H⟩, Hk⟩
  iapply (wp_load 𝒱 (c : Thread nD τ) none E (S := m.view.set) (m := m) (f := f) (q := fullShare)
    (View.setOn_subset_set _ _)) $$ H
  iintro H
  have he : m.view.readAt (Elt F) (Rect.unit off size inb).toLoadRect f = VecWindow.window X off size inb := by
    rw [← hf]; rfl
  rw [he]
  iapply Hk
  iexists f
  isplitr
  · ipureintro; exact hf
  iexact H

/-- An unmasked store to an owned memref through a rectangle puts the payload into its contents. -/
theorem own_store {Φ : α → sProp 𝕄} {s : Shape} {e : EltTy} {m : Memref sig .tc .vmem s e} {off size : Fin s.rank → ℕ}
    {inb : ∀ a, off a + size a ≤ s.size a} {w : (Rect.unit off size inb).shape.Idx → Elt F e}
    {hx : (m.access (Rect.unit off size inb)).Stores Finset.univ}
    {hm : Finset.univ = Finset.univ ∨ ∀ a, (Rect.unit off size inb).stride a = 1}
    {k : PUnit → Prog (TpuEff nD τ sig (Elt F) Λ .tc) α} {X : s.Idx → Elt F e} :
    (iprop(owns (c : Thread nD τ) m fullShare X
        ∗ (owns (c : Thread nD τ) m fullShare (VecWindow.put X off size w)
          -∗ wp frame (wpE defs 𝒱 (c : Thread nD τ) none) E (k ⟨⟩) Φ)) : sProp 𝕄)
      ⊢ wp frame (wpE defs 𝒱 (c : Thread nD τ) none) E
          (.op (.store m (Rect.unit off size inb) w Finset.univ hx hm) k) Φ := by
  unfold owns
  iintro ⟨⟨%f, %hf, H⟩, Hk⟩
  iapply (wp_store 𝒱 (c : Thread nD τ) none E (S := (m.view.set : Finset m.view.ty.Idx)) (m := m) (r := Rect.unit off size inb) (f := f)
    (by rw [View.setOn_univ]; exact View.set_slice_subset _ _)) $$ H
  iintro H
  iapply Hk
  iexists _
  isplitr
  swap; · iexact H
  ipureintro
  have h := View.read_writes_cons_put m.view f inb w [] rfl
  rw [View.writes_nil, hf] at h
  exact h

/-- A whole load of an owned lane accumulator reads its contents. -/
theorem own_loadAcc {Φ : α → sProp 𝕄} {e : EltTy} {m : Memref sig .tc .vmem SL e}
    {k : Vec F SL e → Prog (TpuEff nD τ sig (Elt F) Λ .tc) α} {X : SL.Idx → Elt F e} :
    (iprop(owns (c : Thread nD τ) m fullShare X
        ∗ (owns (c : Thread nD τ) m fullShare X
          -∗ wp frame (wpE defs 𝒱 (c : Thread nD τ) none) E (k X) Φ)) : sProp 𝕄)
      ⊢ wp frame (wpE defs 𝒱 (c : Thread nD τ) none) E (.op (loadAcc m) k) Φ := by
  have h : VecWindow.window X ![0, 0] SL.size inb_SL = X := by
    funext y
    exact congrArg X (funext fun a => Fin.ext (by
      show (![0, 0] : Fin 2 → Nat) a + 1 * (y a).val = (y a).val
      fin_cases a <;> simp))
  have := own_load (F := F) (U := U) (defs := defs) (Φ := Φ) 𝒱 c E (m := m) (off := ![0, 0]) (size := SL.size)
    (inb := inb_SL) (hl := View.loadsAt_vmem pos_SL) (k := k) (X := X)
  rw [h] at this
  exact this

/-- A whole store to an owned lane accumulator of floats leaves the payload there. -/
theorem own_storeAcc {Φ : α → sProp 𝕄} {m : Memref sig .tc .vmem SL .f32} {w : Vec F SL .f32}
    {k : PUnit → Prog (TpuEff nD τ sig (Elt F) Λ .tc) α} {X : SL.Idx → Elt F .f32} :
    (iprop(owns (c : Thread nD τ) m fullShare X
        ∗ (owns (c : Thread nD τ) m fullShare w
          -∗ wp frame (wpE defs 𝒱 (c : Thread nD τ) none) E (k ⟨⟩) Φ)) : sProp 𝕄)
      ⊢ wp frame (wpE defs 𝒱 (c : Thread nD τ) none) E (.op (storeAcc m w) k) Φ := by
  have := own_store (F := F) (U := U) (defs := defs) (Φ := Φ) 𝒱 c E (m := m) (off := ![0, 0]) (size := SL.size)
    (inb := inb_SL) (w := w) (hx := View.stores_vmem_bits_univ pos_SL rfl) (hm := .inl rfl) (k := k) (X := X)
  rw [put_full X w ![0, 0] inb_SL] at this
  exact this

/-- The same for a lane accumulator of words. -/
theorem own_storeAccI {Φ : α → sProp 𝕄} {m : Memref sig .tc .vmem SL .i32} {w : Vec F SL .i32}
    {k : PUnit → Prog (TpuEff nD τ sig (Elt F) Λ .tc) α} {X : SL.Idx → Elt F .i32} :
    (iprop(owns (c : Thread nD τ) m fullShare X
        ∗ (owns (c : Thread nD τ) m fullShare w
          -∗ wp frame (wpE defs 𝒱 (c : Thread nD τ) none) E (k ⟨⟩) Φ)) : sProp 𝕄)
      ⊢ wp frame (wpE defs 𝒱 (c : Thread nD τ) none) E (.op (storeAccI m w) k) Φ := by
  have := own_store (F := F) (U := U) (defs := defs) (Φ := Φ) 𝒱 c E (m := m) (off := ![0, 0]) (size := SL.size)
    (inb := inb_SL) (w := w) (hx := View.stores_vmem_bits_univ pos_SL rfl) (hm := .inl rfl) (k := k) (X := X)
  rw [put_full X w ![0, 0] inb_SL] at this
  exact this

/-! ## The walks -/

/-- A walk that only loads the slices of an owned block sweeps its state over them. -/
theorem wp_walk_load {β : Type} {Φ : α → sProp 𝕄} (arg1 : Memref sig .tc .vmem SBlk .f32) (X : SBlk.Idx → F .f32)
    (G : (k : Nat) → k < 256 → β → (SL.Idx → F .f32) → β) (K : β → Prog (TpuEff nD τ sig (Elt F) Λ .tc) α) (n : Nat) :
    ∀ a : β,
    (iprop(owns (c : Thread nD τ) arg1 fullShare X
        ∗ (owns (c : Thread nD τ) arg1 fullShare X
          -∗ wp frame (wpE defs 𝒱 (c : Thread nD τ) none) E (K (sweep (fun k hk a => G k hk a (sliceAt X k hk)) n a)) Φ))
        : sProp 𝕄)
      ⊢ wp frame (wpE defs 𝒱 (c : Thread nD τ) none) E
          (walk (fun k hk a K => .op (loadSlice arg1 k hk) fun v => K (G k hk a v)) K n a) Φ := by
  induction n with
  | zero =>
    intro a
    iintro ⟨H, Hk⟩
    iapply Hk $$ H
  | succ n ih =>
    intro a
    iintro ⟨H, Hk⟩
    iapply (own_load (F := F) (U := U) (defs := defs) (Φ := Φ) 𝒱 c E (m := arg1) (X := X))
    isplitl [H]; · iexact H
    iintro H
    iapply (ih _)
    isplitl [H]; · iexact H
    iexact Hk

/-- A walk that loads the slices of one owned block and overwrites those of another. -/
theorem wp_walk_store {β : Type} {Φ : α → sProp 𝕄} (arg1 arg3 : Memref sig .tc .vmem SBlk .f32) (X : SBlk.Idx → F .f32)
    (G : (k : Nat) → k < 256 → β → (SL.Idx → F .f32) → β) (P : (SL.Idx → F .f32) → SL.Idx → F .f32)
    (K : β → Prog (TpuEff nD τ sig (Elt F) Λ .tc) α) (n : Nat) :
    ∀ (a : β) (Y : SBlk.Idx → F .f32),
    (iprop(owns (c : Thread nD τ) arg1 fullShare X ∗ owns (c : Thread nD τ) arg3 fullShare Y
        ∗ (owns (c : Thread nD τ) arg1 fullShare X
          -∗ owns (c : Thread nD τ) arg3 fullShare (putSlices (fun k hk => P (sliceAt X k hk)) n Y)
          -∗ wp frame (wpE defs 𝒱 (c : Thread nD τ) none) E (K (sweep (fun k hk a => G k hk a (sliceAt X k hk)) n a)) Φ))
        : sProp 𝕄)
      ⊢ wp frame (wpE defs 𝒱 (c : Thread nD τ) none) E
          (walk
            (fun k hk a K =>
              .op (loadSlice arg1 k hk) fun v =>
              .op (loadSlice arg3 k hk) fun _ =>
              .op (storeSlice arg3 k hk (P v)) fun _ => K (G k hk a v))
            K n a) Φ := by
  induction n with
  | zero =>
    intro a Y
    rw [show putSlices (fun k hk => P (sliceAt X k hk)) 0 Y = Y from rfl]
    iintro ⟨H, HY, Hk⟩
    iapply Hk $$ H HY
  | succ n ih =>
    intro a Y
    iintro ⟨H, HY, Hk⟩
    iapply (own_load (F := F) (U := U) (defs := defs) (Φ := Φ) 𝒱 c E (m := arg1) (X := X))
    isplitl [H]; · iexact H
    iintro H
    iapply (own_load (F := F) (U := U) (defs := defs) (Φ := Φ) 𝒱 c E (m := arg3) (X := Y))
    isplitl [HY]; · iexact HY
    iintro HY
    iapply (own_store (F := F) (U := U) (defs := defs) (Φ := Φ) 𝒱 c E (m := arg3) (X := Y))
    isplitl [HY]; · iexact HY
    iintro HY
    iapply (ih _ _)
    isplitl [H]; · iexact H
    isplitl [HY]; · iexact HY
    iexact Hk

/-! ## The statistics kernel -/

attribute [local irreducible] sweep walk

section stats

variable (arg1 : Memref sig .tc .vmem SBlk .f32) (arg2 : Memref sig .tc .vmem SQ .f32)
  (arg3 arg4 arg5 arg6 : Memref sig .tc .vmem SL .f32)

/-- The four accumulators' memrefs owned at `a`. -/
def ownAcc (a : Acc F) : sProp 𝕄 :=
  iprop(owns (c : Thread nD τ) arg3 fullShare a.mn ∗ owns (c : Thread nD τ) arg4 fullShare a.mx
    ∗ owns (c : Thread nD τ) arg5 fullShare a.s1 ∗ owns (c : Thread nD τ) arg6 fullShare a.s2)

/-- Storing the four accumulators. -/
theorem wp_storeAll {Φ : PUnit → sProp 𝕄} (a b : Acc F) :
    (iprop(ownAcc c arg3 arg4 arg5 arg6 a ∗ (ownAcc c arg3 arg4 arg5 arg6 b -∗ Φ ⟨⟩)) : sProp 𝕄)
      ⊢ wp frame (wpE defs 𝒱 (c : Thread nD τ) none) E (storeAll arg3 arg4 arg5 arg6 b) Φ := by
  unfold ownAcc storeAll
  simp only [Prog.lift, Prog.bind_op, Prog.bind_ret, shapeCast_self]
  iintro ⟨⟨H3, H4, H5, H6⟩, Hk⟩
  iapply (own_loadAcc (F := F) (U := U) (defs := defs) 𝒱 c E (m := arg3))
  isplitl [H3]; · iexact H3
  iintro H3
  iapply (own_storeAcc (F := F) (U := U) (defs := defs) 𝒱 c E (m := arg3))
  isplitl [H3]; · iexact H3
  iintro H3
  iapply (own_loadAcc (F := F) (U := U) (defs := defs) 𝒱 c E (m := arg4))
  isplitl [H4]; · iexact H4
  iintro H4
  iapply (own_storeAcc (F := F) (U := U) (defs := defs) 𝒱 c E (m := arg4))
  isplitl [H4]; · iexact H4
  iintro H4
  iapply (own_loadAcc (F := F) (U := U) (defs := defs) 𝒱 c E (m := arg5))
  isplitl [H5]; · iexact H5
  iintro H5
  iapply (own_storeAcc (F := F) (U := U) (defs := defs) 𝒱 c E (m := arg5))
  isplitl [H5]; · iexact H5
  iintro H5
  iapply (own_loadAcc (F := F) (U := U) (defs := defs) 𝒱 c E (m := arg6))
  isplitl [H6]; · iexact H6
  iintro H6
  iapply (own_storeAcc (F := F) (U := U) (defs := defs) 𝒱 c E (m := arg6))
  isplitl [H6]; · iexact H6
  iintro H6
  iapply (le_wp_ret _ _ _ _ _)
  iapply Hk
  isplitl [H3]; · iexact H3
  isplitl [H4]; · iexact H4
  isplitl [H5]; · iexact H5
  iexact H6

/-- A walk over a block and the stores after it. -/
theorem wp_fold {Φ : PUnit → sProp 𝕄} (G : (k : Nat) → k < 256 → Acc F → (SL.Idx → F .f32) → Acc F)
    (X : SBlk.Idx → F .f32) (a b : Acc F) :
    (iprop((owns (c : Thread nD τ) arg1 fullShare X ∗ ownAcc c arg3 arg4 arg5 arg6 a)
        ∗ ((owns (c : Thread nD τ) arg1 fullShare X
            ∗ ownAcc c arg3 arg4 arg5 arg6 (sweep (fun k hk a => G k hk a (sliceAt X k hk)) 256 b)) -∗ Φ ⟨⟩)) : sProp 𝕄)
      ⊢ wp frame (wpE defs 𝒱 (c : Thread nD τ) none) E
          (walk (fun k hk a K => .op (loadSlice arg1 k hk) fun v => K (G k hk a v)) (storeAll arg3 arg4 arg5 arg6) 256 b)
          Φ := by
  iintro ⟨⟨H1, Ha⟩, Hk⟩
  iapply (wp_walk_load (F := F) (U := U) (defs := defs) 𝒱 c E arg1 X G (storeAll arg3 arg4 arg5 arg6) 256 b)
  isplitl [H1]; · iexact H1
  iintro H1
  iapply (wp_storeAll (F := F) (U := U) (defs := defs) 𝒱 c E arg3 arg4 arg5 arg6 a)
  isplitl [Ha]; · iexact Ha
  iintro Ha
  iapply Hk
  isplitl [H1]; · iexact H1
  iexact Ha

/-- The two conditions on the point are opposite. -/
theorem notLast_iff (c : BitVec 32) : notLast c = 1#1 ↔ ¬ isLast c = 1#1 := by
  by_cases h : c = 30#32
  · subst h; decide
  · have h1 : Scalar.cmpi .eq c 30#32 = 0#1 := by simp only [Scalar.cmpi, IntOp.cmpi]; rw [beq_eq_false_iff_ne.mpr h]; rfl
    have h2 : Scalar.cmpi .ne c 30#32 = 1#1     := by
      simp only [Scalar.cmpi, IntOp.cmpi]; rw [bne_iff_ne.mpr h]; rfl
    unfold notLast isLast
    rw [h1, h2]; decide

/-- What the last point writes from accumulators `a`. -/
theorem wp_finish {Φ : PUnit → sProp 𝕄} (rt : F .f32) (a : Acc F) (S : SQ.Idx → F .f32) :
    (iprop((owns (c : Thread nD τ) arg2 fullShare S ∗ ownAcc c arg3 arg4 arg5 arg6 a)
        ∗ ((owns (c : Thread nD τ) arg2 fullShare (statsOf rt a S) ∗ ownAcc c arg3 arg4 arg5 arg6 a) -∗ Φ ⟨⟩)) : sProp 𝕄)
      ⊢ wp frame (wpE defs 𝒱 (c : Thread nD τ) none) E (finish arg2 arg3 arg4 arg5 arg6 rt) Φ := by
  unfold ownAcc finish
  simp only [Prog.lift, Prog.bind_op, Prog.bind_ret]
  iintro ⟨⟨H2, H3, H4, H5, H6⟩, Hk⟩
  iapply (own_loadAcc (F := F) (U := U) (defs := defs) 𝒱 c E (m := arg3))
  isplitl [H3]; · iexact H3
  iintro H3
  iapply (own_loadAcc (F := F) (U := U) (defs := defs) 𝒱 c E (m := arg4))
  isplitl [H4]; · iexact H4
  iintro H4
  iapply (own_loadAcc (F := F) (U := U) (defs := defs) 𝒱 c E (m := arg5))
  isplitl [H5]; · iexact H5
  iintro H5
  iapply (own_loadAcc (F := F) (U := U) (defs := defs) 𝒱 c E (m := arg6))
  isplitl [H6]; · iexact H6
  iintro H6
  iapply (own_load (F := F) (U := U) (defs := defs) 𝒱 c E (m := arg2))
  isplitl [H2]; · iexact H2
  iintro H2
  iapply (own_store (F := F) (U := U) (defs := defs) 𝒱 c E (m := arg2))
  isplitl [H2]; · iexact H2
  iintro H2
  iapply (own_load (F := F) (U := U) (defs := defs) 𝒱 c E (m := arg2))
  isplitl [H2]; · iexact H2
  iintro H2
  iapply (own_store (F := F) (U := U) (defs := defs) 𝒱 c E (m := arg2))
  isplitl [H2]; · iexact H2
  iintro H2
  iapply (own_load (F := F) (U := U) (defs := defs) 𝒱 c E (m := arg2))
  isplitl [H2]; · iexact H2
  iintro H2
  iapply (own_store (F := F) (U := U) (defs := defs) 𝒱 c E (m := arg2))
  isplitl [H2]; · iexact H2
  iintro H2
  iapply (own_load (F := F) (U := U) (defs := defs) 𝒱 c E (m := arg2))
  isplitl [H2]; · iexact H2
  iintro H2
  iapply (own_store (F := F) (U := U) (defs := defs) 𝒱 c E (m := arg2))
  isplitl [H2]; · iexact H2
  iintro H2
  iapply (le_wp_ret _ _ _ _ _)
  iapply Hk
  isplitl [H2]; · iexact H2
  isplitl [H3]; · iexact H3
  isplitl [H4]; · iexact H4
  isplitl [H5]; · iexact H5
  iexact H6

/-- The statistics kernel once its accumulators are loaded. -/
def loaded (rt : F .f32) (c : BitVec 32) (a : Acc F) : Prog (TpuEff nD τ sig (Elt F) Λ .tc) PUnit := do
  if notLast c = 1#1 then
    foldWhole arg1 arg3 arg4 arg5 arg6 (Acc.enter c a)
  if isLast c = 1#1 then
    foldCut arg1 arg3 arg4 arg5 arg6 (Scalar.muli c 32768#32) (Acc.enter c a)
  if isLast c = 1#1 then
    finish arg2 arg3 arg4 arg5 arg6 rt

/-- One point of the statistics kernel. -/
theorem wp_stats {Φ : PUnit → sProp 𝕄} (rt : F .f32) (i : BitVec 32) (X : SBlk.Idx → F .f32) (S : SQ.Idx → F .f32)
    (a : Acc F) :
    (iprop((owns (c : Thread nD τ) arg1 fullShare X ∗ owns (c : Thread nD τ) arg2 fullShare S
          ∗ ownAcc c arg3 arg4 arg5 arg6 a)
        ∗ ((owns (c : Thread nD τ) arg1 fullShare X
            ∗ owns (c : Thread nD τ) arg2 fullShare (statsAfter rt i (accStep i X a) S)
            ∗ ownAcc c arg3 arg4 arg5 arg6 (accStep i X a)) -∗ Φ ⟨⟩)) : sProp 𝕄)
      ⊢ wp frame (wpE defs 𝒱 (c : Thread nD τ) none) E (stats arg1 arg2 arg3 arg4 arg5 arg6 rt i) Φ := by
  have hload : ∀ (K : Acc F → Prog (TpuEff nD τ sig (Elt F) Λ .tc) PUnit),
      (iprop(ownAcc c arg3 arg4 arg5 arg6 a
        ∗ (ownAcc c arg3 arg4 arg5 arg6 a -∗ wp frame (wpE defs 𝒱 (c : Thread nD τ) none) E (K a) Φ)) : sProp 𝕄)
      ⊢ wp frame (wpE defs 𝒱 (c : Thread nD τ) none) E
          (.op (loadAcc arg3) fun v2 => .op (loadAcc arg4) fun v6 => .op (loadAcc arg5) fun v10 =>
            .op (loadAcc arg6) fun v14 => K ⟨v2, v6, v10, v14⟩) Φ := by
    intro K
    unfold ownAcc
    iintro ⟨⟨H3, H4, H5, H6⟩, Hk⟩
    iapply (own_loadAcc (F := F) (U := U) (defs := defs) 𝒱 c E (m := arg3))
    isplitl [H3]; · iexact H3
    iintro H3
    iapply (own_loadAcc (F := F) (U := U) (defs := defs) 𝒱 c E (m := arg4))
    isplitl [H4]; · iexact H4
    iintro H4
    iapply (own_loadAcc (F := F) (U := U) (defs := defs) 𝒱 c E (m := arg5))
    isplitl [H5]; · iexact H5
    iintro H5
    iapply (own_loadAcc (F := F) (U := U) (defs := defs) 𝒱 c E (m := arg6))
    isplitl [H6]; · iexact H6
    iintro H6
    iapply Hk
    isplitl [H3]; · iexact H3
    isplitl [H4]; · iexact H4
    isplitl [H5]; · iexact H5
    iexact H6
  have hs : stats (nD := nD) (τ := τ) (Λ := Λ) arg1 arg2 arg3 arg4 arg5 arg6 rt i
      = .op (loadAcc arg3) fun v2 => .op (loadAcc arg4) fun v6 => .op (loadAcc arg5) fun v10 =>
          .op (loadAcc arg6) fun v14 => loaded arg1 arg2 arg3 arg4 arg5 arg6 rt i ⟨v2, v6, v10, v14⟩ := by
    unfold stats loaded
    simp only [Prog.lift, Prog.bind_op, Prog.bind_ret]
    rfl
  rw [hs]
  iintro ⟨⟨H1, H2, Ha⟩, Hk⟩
  iapply (hload (loaded arg1 arg2 arg3 arg4 arg5 arg6 rt i))
  isplitl [Ha]; · iexact Ha
  iintro Ha
  unfold loaded
  by_cases h : isLast i = 1#1
  · have h' : ¬ notLast i = 1#1 := fun hn => (notLast_iff i).mp hn h
    simp only [if_neg h', if_pos h]
    unfold accStep statsAfter
    rw [if_pos h, if_pos h]
    rw [wp_bind]
    iapply (wp_fold (F := F) (U := U) (defs := defs) 𝒱 c E arg1 arg3 arg4 arg5 arg6
      (fun k _ a v => a.foldIn (inside (Scalar.muli i 32768#32) k) v) X a _)
    isplitl [H1 Ha]
    · isplitl [H1]; · iexact H1
      iexact Ha
    iintro ⟨H1, Ha⟩
    iapply (wp_finish (F := F) (U := U) (defs := defs) 𝒱 c E arg2 arg3 arg4 arg5 arg6 rt _ S)
    isplitl [H2 Ha]
    · isplitl [H2]; · iexact H2
      iexact Ha
    iintro ⟨H2, Ha⟩
    iapply Hk
    isplitl [H1]; · iexact H1
    isplitl [H2]; · iexact H2
    iexact Ha
  · have h' : notLast i = 1#1 := (notLast_iff i).mpr h
    simp only [if_pos h', if_neg h]
    unfold accStep statsAfter
    rw [if_neg h, if_neg h]
    rw [wp_bind]
    iapply (wp_fold (F := F) (U := U) (defs := defs) 𝒱 c E arg1 arg3 arg4 arg5 arg6
      (fun _ _ a v => a.fold v) X a _)
    isplitl [H1 Ha]
    · isplitl [H1]; · iexact H1
      iexact Ha
    iintro ⟨H1, Ha⟩
    iapply (le_wp_ret _ _ _ _ _)
    iapply Hk
    isplitl [H1]; · iexact H1
    isplitl [H2]; · iexact H2
    iexact Ha

end stats

end rules

end Cert.Roll
-- ==== Proof.SampleTriple.lean ====
/- One grid point of the sampling kernel: what it leaves in its buffers. -/
module

public import proofs.«01_k».proof.Proof.Triple

@[expose] public section

noncomputable section

namespace Cert.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

attribute [local irreducible] sweep walk

variable {defs : Defs nD τ sig (Elt F) Λ} (𝒱 : Variants) (c : Dev nD) (E : Set ℕ)
variable (arg1 : Memref sig .tc .vmem SBlk .f32) (arg2 : Memref sig .tc .vmem SQ .f32)
  (arg3 : Memref sig .tc .vmem SBlk .f32) (arg4 : Memref sig .tc .vmem SC .i32)
  (arg5 arg6 : Memref sig .tc .vmem SL .f32) (arg7 : Memref sig .tc .vmem SL .i32)

/-- The picked columns' buffer after point `i`: written at the last point only. -/
def pickAfter (i : BitVec 32) (b : Best F) (Z : IVec SC 32) : IVec SC 32 :=
  if isLast i = 1#1 then pick b else Z

/-- The three memrefs of the lanes' best owned at `b`. -/
def ownBest (b : Best F) : sProp 𝕄 :=
  iprop(owns (c : Thread nD τ) arg5 fullShare b.p ∗ owns (c : Thread nD τ) arg6 fullShare b.w
    ∗ owns (c : Thread nD τ) arg7 fullShare b.i)

/-- What follows the walk. -/
theorem wp_leave {Φ : PUnit → sProp 𝕄} (i : BitVec 32) (b0 b : Best F) (Z : IVec SC 32) :
    (iprop((ownBest c arg5 arg6 arg7 b0 ∗ owns (c : Thread nD τ) arg4 fullShare Z)
        ∗ ((ownBest c arg5 arg6 arg7 b ∗ owns (c : Thread nD τ) arg4 fullShare (pickAfter i b Z)) -∗ Φ ⟨⟩)) : sProp 𝕄)
      ⊢ wp frame (wpE defs 𝒱 (c : Thread nD τ) none) E (leave arg4 arg5 arg6 arg7 i b) Φ := by
  unfold ownBest leave
  simp only [Prog.lift, Prog.bind_op, Prog.bind_ret, shapeCast_self]
  iintro ⟨⟨⟨H5, H6, H7⟩, H4⟩, Hk⟩
  iapply (own_loadAcc (F := F) (U := U) (defs := defs) 𝒱 c E (m := arg5))
  isplitl [H5]; · iexact H5
  iintro H5
  iapply (own_storeAcc (F := F) (U := U) (defs := defs) 𝒱 c E (m := arg5))
  isplitl [H5]; · iexact H5
  iintro H5
  iapply (own_loadAcc (F := F) (U := U) (defs := defs) 𝒱 c E (m := arg6))
  isplitl [H6]; · iexact H6
  iintro H6
  iapply (own_storeAcc (F := F) (U := U) (defs := defs) 𝒱 c E (m := arg6))
  isplitl [H6]; · iexact H6
  iintro H6
  iapply (own_loadAcc (F := F) (U := U) (defs := defs) 𝒱 c E (m := arg7))
  isplitl [H7]; · iexact H7
  iintro H7
  iapply (own_storeAccI (F := F) (U := U) (defs := defs) 𝒱 c E (m := arg7))
  isplitl [H7]; · iexact H7
  iintro H7
  by_cases h : isLast i = 1#1
  · unfold pickAfter
    simp only [if_pos h]
    iapply (own_load (F := F) (U := U) (defs := defs) 𝒱 c E (m := arg4))
    isplitl [H4]; · iexact H4
    iintro H4
    iapply (own_store (F := F) (U := U) (defs := defs) 𝒱 c E (m := arg4))
    isplitl [H4]; · iexact H4
    rw [put_full Z (pick b) ![0, 0] inb_SC]
    iintro H4
    iapply (le_wp_ret _ _ _ _ _)
    iapply Hk
    isplitr [H4]
    · isplitl [H5]; · iexact H5
      isplitl [H6]; · iexact H6
      iexact H7
    iexact H4
  · unfold pickAfter
    simp only [if_neg h]
    iapply (le_wp_ret _ _ _ _ _)
    iapply Hk
    isplitr [H4]
    · isplitl [H5]; · iexact H5
      isplitl [H6]; · iexact H6
      iexact H7
    iexact H4

/-- One point of the sampling kernel. -/
theorem wp_sample {Φ : PUnit → sProp 𝕄} (i : BitVec 32) (X : SBlk.Idx → F .f32) (S : SQ.Idx → F .f32)
    (Y : SBlk.Idx → F .f32) (Z : IVec SC 32) (b : Best F) :
    (iprop((owns (c : Thread nD τ) arg1 fullShare X ∗ owns (c : Thread nD τ) arg2 fullShare S
          ∗ owns (c : Thread nD τ) arg3 fullShare Y ∗ owns (c : Thread nD τ) arg4 fullShare Z
          ∗ ownBest c arg5 arg6 arg7 b)
        ∗ ((owns (c : Thread nD τ) arg1 fullShare X ∗ owns (c : Thread nD τ) arg2 fullShare S
            ∗ owns (c : Thread nD τ) arg3 fullShare (probsOf S X Y)
            ∗ owns (c : Thread nD τ) arg4 fullShare (pickAfter i (bestStep i S X b) Z)
            ∗ ownBest c arg5 arg6 arg7 (bestStep i S X b)) -∗ Φ ⟨⟩)) : sProp 𝕄)
      ⊢ wp frame (wpE defs 𝒱 (c : Thread nD τ) none) E (sample arg1 arg2 arg3 arg4 arg5 arg6 arg7 i) Φ := by
  unfold sample
  simp only [Prog.lift, Prog.bind_op, Prog.bind_ret, shapeCast_self]
  rw [show (ownBest c arg5 arg6 arg7 b : sProp 𝕄) = iprop(owns (c : Thread nD τ) arg5 fullShare b.p
    ∗ owns (c : Thread nD τ) arg6 fullShare b.w ∗ owns (c : Thread nD τ) arg7 fullShare b.i) from rfl]
  iintro ⟨⟨H1, H2, H3, H4, ⟨H5, H6, H7⟩⟩, Hk⟩
  iapply (own_load (F := F) (U := U) (defs := defs) 𝒱 c E (m := arg2))
  isplitl [H2]; · iexact H2
  iintro H2
  iapply (own_load (F := F) (U := U) (defs := defs) 𝒱 c E (m := arg2))
  isplitl [H2]; · iexact H2
  iintro H2
  iapply (own_load (F := F) (U := U) (defs := defs) 𝒱 c E (m := arg2))
  isplitl [H2]; · iexact H2
  iintro H2
  iapply (own_loadAcc (F := F) (U := U) (defs := defs) 𝒱 c E (m := arg5))
  isplitl [H5]; · iexact H5
  iintro H5
  iapply (own_loadAcc (F := F) (U := U) (defs := defs) 𝒱 c E (m := arg6))
  isplitl [H6]; · iexact H6
  iintro H6
  iapply (own_loadAcc (F := F) (U := U) (defs := defs) 𝒱 c E (m := arg7))
  isplitl [H7]; · iexact H7
  iintro H7
  iapply (wp_walk_store (F := F) (U := U) (defs := defs) (β := Best F) 𝒱 c E arg1 arg3 X
    (fun k _ b v => b.step (colAt S 0 (by decide)) (colAt S 1 (by decide)) i k v)
    (fun v => probOf (colAt S 0 (by decide)) (colAt S 1 (by decide)) (colAt S 2 (by decide)) v)
    (leave arg4 arg5 arg6 arg7 i) 256 (Best.enter i b) Y)
  isplitl [H1]; · iexact H1
  isplitl [H3]; · iexact H3
  iintro H1 H3
  iapply (wp_leave (F := F) (U := U) (defs := defs) 𝒱 c E arg4 arg5 arg6 arg7 i b _ Z)
  isplitl [H4 H5 H6 H7]
  · isplitr [H4]
    · unfold ownBest
      isplitl [H5]; · iexact H5
      isplitl [H6]; · iexact H6
      iexact H7
    iexact H4
  iintro ⟨Hb, H4⟩
  iapply Hk
  isplitl [H1]; · iexact H1
  isplitl [H2]; · iexact H2
  isplitl [H3]; · iexact H3
  isplitl [H4]; · iexact H4
  iexact Hb

end Cert.Roll
-- ==== Proof.State.lean ====
/- What the kernels' buffers hold along the grid, as functions of the whole gradient; columns past the array's end are
   never read into them. -/
module

public import proofs.«01_k».proof.Proof.SampleTriple

@[expose] public section

noncomputable section

namespace Cert.Roll

open Idealize.ShloMosaic

variable {F : FTy → Type} [FloatOps F]

/-- The gradient. -/
abbrev SA : Shape := ⟨2, ![32, 1000000]⟩

/-- The index at row `r`, column `l`. -/
def at2 {m n : Nat} (r : Fin m) (l : Fin n) : (⟨2, ![m, n]⟩ : Shape).Idx
  | ⟨0, _⟩ => r
  | ⟨1, _⟩ => l

/-- A place is its row and column. -/
theorem at2_eta {m n : Nat} (i : (⟨2, ![m, n]⟩ : Shape).Idx) : at2 (i 0) (i 1) = i := by
  funext a
  match a with
  | ⟨0, _⟩ => rfl
  | ⟨1, _⟩ => rfl

/-- Places with the same row and column are the same. -/
theorem idx_ext {m n : Nat} {i j : (⟨2, ![m, n]⟩ : Shape).Idx} (h0 : (i 0).val = (j 0).val) (h1 : (i 1).val = (j 1).val) :
    i = j := by
  funext a
  match a with
  | ⟨0, _⟩ => exact Fin.ext h0
  | ⟨1, _⟩ => exact Fin.ext h1

/-- Block `n` of the gradient, zero past the array's end. -/
def blkOf (A : SA.Idx → F .f32) (n : Nat) : SBlk.Idx → F .f32 := fun j =>
  if h : n * 32768 + (j 1).val < 1000000 then A (at2 (j 0) ⟨n * 32768 + (j 1).val, h⟩) else Scalar.ofBits .f32 0#32

/-- Two blocks agree on the columns inside the array. -/
def Agrees (n : Nat) (X Y : SBlk.Idx → F .f32) : Prop := ∀ j, n * 32768 + (j 1).val < 1000000 → X j = Y j

/-- A slice's entry is the block's. -/
theorem sliceAt_apply {α : Type} (X : SBlk.Idx → α) (k : Nat) (hk : k < 256) (i : SL.Idx) :
    sliceAt X k hk i = X (at2 (i 0) ⟨128 * k + (i 1).val, by have : (i 1).val < 128 := (i 1).isLt; omega⟩) := by
  unfold sliceAt VecWindow.window
  refine congrArg X (idx_ext ?_ ?_)
  · rw [Rect.emb_apply]; show 0 + 1 * (i 0).val = (i 0).val; omega
  · rw [Rect.emb_apply]; show 128 * k + 1 * (i 1).val = 128 * k + (i 1).val; omega

/-- A column's entry is the statistics'. -/
theorem colAt_apply {α : Type} (S : SQ.Idx → α) (j : Nat) (hj : j < 4) (i : SC.Idx) :
    colAt S j hj i = S (at2 (i 0) ⟨j, hj⟩) := by
  unfold colAt VecWindow.window
  refine congrArg S (idx_ext ?_ ?_)
  · rw [Rect.emb_apply]; show 0 + 1 * (i 0).val = (i 0).val; omega
  · rw [Rect.emb_apply]; show j + 1 * (i 1).val = j; have : (i 1).val < 1 := (i 1).isLt; omega

/-! ## The masks -/

/-- The last point is number 30. -/
theorem isLast_iff {n : Nat} (hn : n < 31) : isLast (BitVec.ofNat 32 n) = 1#1 ↔ n = 30 := by
  by_cases h : n = 30
  · subst h; exact ⟨fun _ => rfl, fun _ => by decide⟩
  · refine ⟨fun h' => absurd h' ?_, fun h' => absurd h' h⟩
    have hne : BitVec.ofNat 32 n ≠ 30#32 := fun he => h (by
      have := congrArg BitVec.toNat he
      rw [BitVec.toNat_ofNat, BitVec.toNat_ofNat] at this; omega)
    unfold isLast
    rw [show Scalar.cmpi .eq (BitVec.ofNat 32 n) 30#32 = 0#1 from by
      simp only [Scalar.cmpi, IntOp.cmpi]; rw [beq_eq_false_iff_ne.mpr hne]; rfl]
    decide

/-- The number of columns as a signed word. -/
theorem big_toInt : (1000000#32 : BitVec 32).toInt = 1000000 := by decide

/-- Where the last block's mask is set the column is inside the array. -/
theorem inside_lt {k : Nat} (hk : k < 256) (i : SL.Idx) (h : inside (Scalar.muli (BitVec.ofNat 32 30) 32768#32) k i = 1#1) :
    30 * 32768 + (128 * k + (i 1).val) < 1000000 := by
  have hl : (i 1).val < 128 := (i 1).isLt
  have e : inside (Scalar.muli (BitVec.ofNat 32 30) 32768#32) k i
      = BitVec.ofBool ((983040#32 + BitVec.ofNat 32 (128 * k) + BitVec.ofNat 32 (i 1).val).slt 1000000#32) := by
    unfold inside
    show BitVec.ofBool (BitVec.slt (_ + _ + iota .tc SL 32 [1] iota_lane i) _) = _
    rw [iota_single_apply]
    rfl
  rw [e] at h
  by_contra hc
  have e2 : 983040#32 + BitVec.ofNat 32 (128 * k) + BitVec.ofNat 32 (i 1).val
      = BitVec.ofNat 32 (983040 + 128 * k + (i 1).val) := by
    rw [show (983040#32 : BitVec 32) = BitVec.ofNat 32 983040 from rfl, ← BitVec.ofNat_add, ← BitVec.ofNat_add]
  rw [e2] at h
  have : (BitVec.ofNat 32 (983040 + 128 * k + (i 1).val)).slt 1000000#32 = false := by
    rw [BitVec.slt_eq_decide, decide_eq_false_iff_not, BitVec.toInt_ofNat', big_toInt]
    have : ((983040 + 128 * k + (i 1).val : Nat) : Int) < 1100000 := by omega
    rw [Int.bmod_eq_of_le (by omega) (by omega)]
    omega
  rw [this] at h
  exact absurd h (by decide)

/-- The last block's mask is set at the columns inside the array. -/
theorem inside_of_lt {k : Nat} (hk : k < 256) (i : SL.Idx) (h : 30 * 32768 + (128 * k + (i 1).val) < 1000000) :
    inside (Scalar.muli (BitVec.ofNat 32 30) 32768#32) k i = 1#1 := by
  have e : inside (Scalar.muli (BitVec.ofNat 32 30) 32768#32) k i
      = BitVec.ofBool ((983040#32 + BitVec.ofNat 32 (128 * k) + BitVec.ofNat 32 (i 1).val).slt 1000000#32) := by
    unfold inside
    show BitVec.ofBool (BitVec.slt (_ + _ + iota .tc SL 32 [1] iota_lane i) _) = _
    rw [iota_single_apply]
    rfl
  rw [e]
  have e2 : 983040#32 + BitVec.ofNat 32 (128 * k) + BitVec.ofNat 32 (i 1).val
      = BitVec.ofNat 32 (983040 + 128 * k + (i 1).val) := by
    rw [show (983040#32 : BitVec 32) = BitVec.ofNat 32 983040 from rfl, ← BitVec.ofNat_add, ← BitVec.ofNat_add]
  rw [e2]
  have : (BitVec.ofNat 32 (983040 + 128 * k + (i 1).val)).slt 1000000#32 = true := by
    rw [BitVec.slt_eq_decide, decide_eq_true_iff, BitVec.toInt_ofNat', big_toInt]
    rw [Int.bmod_eq_of_le (by omega) (by omega)]
    omega
  rw [this]; rfl

/-- A row's base counter as a number. -/
theorem rowBase_eq (i : SL.Idx) : rowBase i = BitVec.ofNat 32 ((i 0).val * 1000000) := by
  show iota .tc SL 32 [0] iota_row i * 1000000#32 = _
  rw [iota_single_apply, show (1000000#32 : BitVec 32) = BitVec.ofNat 32 1000000 from rfl, ← BitVec.ofNat_mul]

/-- A count, word by word. -/
theorem countOf_apply (c : BitVec 32) (k : Nat) (i : SL.Idx) : countOf c k i
    = rowBase i + iota .tc SL 32 [1] iota_lane i + (c * 32768#32 + 1#32) + BitVec.ofNat 32 (128 * k) := rfl

/-- A count is the entry's position plus one. -/
theorem countOf_eq (n k : Nat) (i : SL.Idx) :
    countOf (BitVec.ofNat 32 n) k i
      = BitVec.ofNat 32 ((i 0).val * 1000000 + (n * 32768 + (128 * k + (i 1).val)) + 1) := by
  rw [countOf_apply, rowBase_eq, iota_single_apply, show (32768#32 : BitVec 32) = BitVec.ofNat 32 32768 from rfl,
    show (1#32 : BitVec 32) = BitVec.ofNat 32 1 from rfl, ← BitVec.ofNat_mul, ← BitVec.ofNat_add, ← BitVec.ofNat_add,
    ← BitVec.ofNat_add, ← BitVec.ofNat_add]
  exact congrArg (BitVec.ofNat 32) (by omega)

/-- A row's counts end at its last column. -/
theorem thrOf_eq (i : SL.Idx) : thrOf i = BitVec.ofNat 32 ((i 0).val * 1000000 + 1000001) := by
  show rowBase i + 1000001#32 = _
  rw [rowBase_eq, show (1000001#32 : BitVec 32) = BitVec.ofNat 32 1000001 from rfl, ← BitVec.ofNat_add]

/-- A count is below its row's end where the column is inside the array. -/
theorem count_ult {n k : Nat} (hn : n < 31) (hk : k < 256) (i : SL.Idx) :
    (countOf (BitVec.ofNat 32 n) k i).ult (thrOf i) = decide (n * 32768 + (128 * k + (i 1).val) < 1000000) := by
  have h0 : (i 0).val < 32 := (i 0).isLt
  have h1 : (i 1).val < 128 := (i 1).isLt
  rw [countOf_eq, thrOf_eq, BitVec.ult_eq_decide, BitVec.toNat_ofNat, BitVec.toNat_ofNat, Nat.mod_eq_of_lt (by omega),
    Nat.mod_eq_of_lt (by omega), decide_eq_decide]
  omega

/-! ## Steps read the columns inside the array only -/

/-- Sweeps of equal steps are equal. -/
theorem sweep_congr {α : Type} {g g' : (k : Nat) → k < 256 → α → α} (h : ∀ k hk a, g k hk a = g' k hk a) (n : Nat) (a : α) :
    sweep g n a = sweep g' n a := by
  rw [show g = g' from funext fun k => funext fun hk => funext fun a => h k hk a]

/-- A masked slice matters only where the mask is set. -/
theorem foldIn_congr (a : Acc F) (m : IVec SL 1) {v v' : Vec F SL .f32} (h : ∀ i, m i = 1#1 → v i = v' i) :
    a.foldIn m v = a.foldIn m v' := by
  have hs : ∀ z : FVec F SL .f32, select m (absf v) z = select m (absf v') z := fun z => by
    funext i
    show (if m i = 1#1 then FloatOps.absf (v i) else z i) = (if m i = 1#1 then FloatOps.absf (v' i) else z i)
    by_cases hm : m i = 1#1
    · rw [if_pos hm, if_pos hm, h i hm]
    · rw [if_neg hm, if_neg hm]
  unfold Acc.foldIn
  simp only [hs]

/-- Slices of agreeing blocks agree. -/
theorem Agrees.slice {n : Nat} {X Y : SBlk.Idx → F .f32} (h : Agrees n X Y) (k : Nat) (hk : k < 256) (i : SL.Idx)
    (hi : n * 32768 + (128 * k + (i 1).val) < 1000000) : sliceAt X k hk i = sliceAt Y k hk i := by
  rw [sliceAt_apply, sliceAt_apply]
  exact h _ hi

/-- A point of the statistics reads only the columns inside the array. -/
theorem accStep_congr {n : Nat} (hn : n < 31) {X Y : SBlk.Idx → F .f32} (h : Agrees n X Y) (a : Acc F) :
    accStep (BitVec.ofNat 32 n) X a = accStep (BitVec.ofNat 32 n) Y a := by
  unfold accStep
  by_cases hl : n = 30
  · subst hl
    rw [if_pos ((isLast_iff hn).mpr rfl), if_pos ((isLast_iff hn).mpr rfl)]
    exact sweep_congr (fun k hk a => foldIn_congr a _ fun i hi => h.slice k hk i (inside_lt hk i hi)) _ _
  · rw [if_neg fun he => hl ((isLast_iff hn).mp he), if_neg fun he => hl ((isLast_iff hn).mp he)]
    refine sweep_congr (fun k hk a => ?_) _ _
    rw [show sliceAt X k hk = sliceAt Y k hk from funext fun i => h.slice k hk i (by
      have : (i 1).val < 128 := (i 1).isLt; omega)]

/-- A step of the sampling reads only the columns inside the array. -/
theorem step_congr {n : Nat} (hn : n < 31) {k : Nat} (hk : k < 256) (b : Best F) (c0 c1 : FVec F SC .f32)
    {v v' : Vec F SL .f32} (h : ∀ i : SL.Idx, n * 32768 + (128 * k + (i 1).val) < 1000000 → v i = v' i) :
    b.step c0 c1 (BitVec.ofNat 32 n) k v = b.step c0 c1 (BitVec.ofNat 32 n) k v' := by
  have hw : ∀ i : SL.Idx, n * 32768 + (128 * k + (i 1).val) < 1000000 → weightOf c0 c1 v i = weightOf c0 c1 v' i := by
    intro i hi
    unfold weightOf
    show FloatOps.addf (FloatOps.mulf (FloatOps.addf (FloatOps.mulf (FloatOps.absf (v i)) _) _)
      (FloatOps.addf (FloatOps.mulf (FloatOps.absf (v i)) _) _)) _ = _
    rw [h i hi]; rfl
  have hu : ∀ i : SL.Idx,
      (andi (cmpf .ogt (mulf (weightOf c0 c1 v) b.w) (mulf b.p (drawOf (mix (countOf (BitVec.ofNat 32 n) k)))))
        (cmpi .ult (countOf (BitVec.ofNat 32 n) k) thrOf) : IVec SL 1) i
      = (andi (cmpf .ogt (mulf (weightOf c0 c1 v') b.w) (mulf b.p (drawOf (mix (countOf (BitVec.ofNat 32 n) k)))))
        (cmpi .ult (countOf (BitVec.ofNat 32 n) k) thrOf) : IVec SL 1) i
      ∧ ((andi (cmpf .ogt (mulf (weightOf c0 c1 v) b.w) (mulf b.p (drawOf (mix (countOf (BitVec.ofNat 32 n) k)))))
        (cmpi .ult (countOf (BitVec.ofNat 32 n) k) thrOf) : IVec SL 1) i = 1#1 → weightOf c0 c1 v i = weightOf c0 c1 v' i) := by
    intro i
    by_cases hi : n * 32768 + (128 * k + (i 1).val) < 1000000
    · refine ⟨?_, fun _ => hw i hi⟩
      show IntOp.andi (FloatOps.cmpf .ogt (FloatOps.mulf (weightOf c0 c1 v i) _) _) _
        = IntOp.andi (FloatOps.cmpf .ogt (FloatOps.mulf (weightOf c0 c1 v' i) _) _) _
      rw [hw i hi]
    · have hz : ∀ x : BitVec 1, IntOp.andi x (IntOp.cmpi .ult (countOf (BitVec.ofNat 32 n) k i) (thrOf i)) = 0#1 := by
        intro x
        have : IntOp.cmpi .ult (countOf (BitVec.ofNat 32 n) k i) (thrOf i) = 0#1 := by
          show BitVec.ofBool ((countOf (BitVec.ofNat 32 n) k i).ult (thrOf i)) = 0#1
          rw [count_ult hn hk i, decide_eq_false hi]; rfl
        rw [this]
        show x &&& 0#1 = 0#1
        exact BitVec.and_zero
      refine ⟨(hz _).trans (hz _).symm, fun he => ?_⟩
      exact absurd ((hz _).symm.trans he) (by decide)
  unfold Best.step Best.meet
  have e1 := funext fun i => (hu i).1
  simp only [e1]
  congr 1
  funext i
  show (if _ = 1#1 then weightOf c0 c1 v i else b.p i) = (if _ = 1#1 then weightOf c0 c1 v' i else b.p i)
  split
  · next hc => exact (hu i).2 ((hu i).1.trans hc)
  · rfl

/-- A point of the sampling reads only the columns inside the array. -/
theorem bestStep_congr {n : Nat} (hn : n < 31) (S : SQ.Idx → F .f32) {X Y : SBlk.Idx → F .f32} (h : Agrees n X Y)
    (b : Best F) : bestStep (BitVec.ofNat 32 n) S X b = bestStep (BitVec.ofNat 32 n) S Y b := by
  unfold bestStep
  exact sweep_congr (fun k hk b => step_congr hn hk b _ _ fun i hi => h.slice k hk i hi) _ _

/-- The first point's accumulators do not depend on what the scratch held. -/
theorem accStep_first (X : SBlk.Idx → F .f32) (a b : Acc F) :
    accStep (BitVec.ofNat 32 0) X a = accStep (BitVec.ofNat 32 0) X b := rfl

/-- The first point starts afresh. -/
theorem bestStep_first (S : SQ.Idx → F .f32) (X : SBlk.Idx → F .f32) (a b : Best F) :
    bestStep (BitVec.ofNat 32 0) S X a = bestStep (BitVec.ofNat 32 0) S X b := rfl

/-! ## Along the grid -/

/-- The accumulators after the first `n` points. -/
def accAt (A : SA.Idx → F .f32) : Nat → Acc F
  | 0 => Acc.start
  | n + 1 => accStep (BitVec.ofNat 32 n) (blkOf A n) (accAt A n)

/-- The lanes' best after the first `n` points. -/
def bestAt (A : SA.Idx → F .f32) (S : SQ.Idx → F .f32) : Nat → Best F
  | 0 => ⟨broadcast SL (Scalar.ofBits .f32 0#32), broadcast SL (Scalar.ofBits .f32 0x3F800000#32), broadcast SL 0#32⟩
  | n + 1 => bestStep (BitVec.ofNat 32 n) S (blkOf A n) (bestAt A S n)

/-- The statistics over the gradient. -/
def stat (rt : F .f32) (A : SA.Idx → F .f32) : SQ.Idx → F .f32 :=
  statsOf rt (accAt A 31) fun _ => Scalar.ofBits .f32 0#32

/-- A point takes the statistics' state to the next. -/
theorem accStep_at {n : Nat} (hn : n < 31) {A : SA.Idx → F .f32} {X : SBlk.Idx → F .f32} (h : Agrees n X (blkOf A n))
    {a : Acc F} (ha : 0 < n → a = accAt A n) : accStep (BitVec.ofNat 32 n) X a = accAt A (n + 1) := by
  rw [accStep_congr hn h]
  rcases Nat.eq_zero_or_pos n with rfl | h0
  · exact accStep_first _ _ _
  · rw [ha h0]; rfl

/-- A point takes the sampling's state to the next. -/
theorem bestStep_at {n : Nat} (hn : n < 31) {A : SA.Idx → F .f32} {S : SQ.Idx → F .f32} {X : SBlk.Idx → F .f32}
    (h : Agrees n X (blkOf A n)) {b : Best F} (hb : 0 < n → b = bestAt A S n) :
    bestStep (BitVec.ofNat 32 n) S X b = bestAt A S (n + 1) := by
  rw [bestStep_congr hn S h]
  rcases Nat.eq_zero_or_pos n with rfl | h0
  · exact bestStep_first _ _ _ _
  · rw [hb h0]; rfl

/-- A column put at `j`, read at a row and a column. -/
theorem put_col (S : SQ.Idx → F .f32) (j : Nat) (w : SC.Idx → F .f32) (y : SQ.Idx) :
    VecWindow.put S ![0, j] SC.size w y = if (y 1).val = j then w (at2 (y 0) 0) else S y := by
  have h0 : (y 0).val < 32 := (y 0).isLt
  unfold VecWindow.put
  by_cases h : (y 1).val = j
  · rw [if_pos h, dif_pos (fun a => by
      match a with
      | ⟨0, _⟩ => exact ⟨Nat.zero_le _, by show (y 0).val < 0 + 32; omega⟩
      | ⟨1, _⟩ => exact ⟨le_of_eq h.symm, by show (y 1).val < j + 1; omega⟩)]
    refine congrArg w (idx_ext (m := 32) (n := 1) ?_ ?_)
    · show (y 0).val - 0 = (y 0).val; omega
    · show (y 1).val - j = 0; omega
  · rw [if_neg h, dif_neg (fun hc => h (by
      have h1 := hc 1
      have a1 : j ≤ (y 1).val := h1.1
      have a2 : (y 1).val < j + 1 := h1.2
      omega))]

/-- The statistics fill all four columns. -/
theorem statsOf_indep (rt : F .f32) (a : Acc F) (S S' : SQ.Idx → F .f32) : statsOf rt a S = statsOf rt a S' := by
  funext y
  have h1 : (y 1).val < 4 := (y 1).isLt
  unfold statsOf
  rw [put_col, put_col, put_col, put_col, put_col, put_col, put_col, put_col]
  split <;> [rfl; skip]
  split <;> [rfl; skip]
  split <;> [rfl; skip]
  split <;> [rfl; skip]
  omega

/-- The last point writes the statistics. -/
theorem statsAfter_last (rt : F .f32) (A : SA.Idx → F .f32) (S : SQ.Idx → F .f32) :
    statsAfter rt (BitVec.ofNat 32 30) (accAt A 31) S = stat rt A := by
  unfold statsAfter stat
  rw [if_pos ((isLast_iff (by decide)).mpr rfl)]
  exact statsOf_indep _ _ _ _

/-- The other points leave the statistics alone. -/
theorem statsAfter_ne (rt : F .f32) {n : Nat} (hn : n < 31) (h : n ≠ 30) (a : Acc F) (S : SQ.Idx → F .f32) :
    statsAfter rt (BitVec.ofNat 32 n) a S = S := by
  unfold statsAfter
  rw [if_neg fun he => h ((isLast_iff hn).mp he)]

/-- The last point picks the columns. -/
theorem pickAfter_last (b : Best F) (Z : SC.Idx → Elt F .i32) : pickAfter (BitVec.ofNat 32 30) b Z = pick b := by
  unfold pickAfter
  rw [if_pos ((isLast_iff (by decide)).mpr rfl)]

/-- The other points leave the columns alone. -/
theorem pickAfter_ne {n : Nat} (hn : n < 31) (h : n ≠ 30) (b : Best F) (Z : SC.Idx → Elt F .i32) :
    pickAfter (BitVec.ofNat 32 n) b Z = Z := by
  unfold pickAfter
  rw [if_neg fun he => h ((isLast_iff hn).mp he)]

/-- A slice put at `k`, read at a row and a column. -/
theorem put_slice (Y : SBlk.Idx → F .f32) (k : Nat) (w : SL.Idx → F .f32) (y : SBlk.Idx) :
    VecWindow.put Y ![0, 128 * k] SL.size w y
      = if (y 1).val / 128 = k then w (at2 (y 0) ⟨(y 1).val % 128, Nat.mod_lt _ (by decide)⟩) else Y y := by
  have h0 : (y 0).val < 32 := (y 0).isLt
  unfold VecWindow.put
  by_cases h : (y 1).val / 128 = k
  · rw [if_pos h, dif_pos (fun a => by
      match a with
      | ⟨0, _⟩ => exact ⟨Nat.zero_le _, by show (y 0).val < 0 + 32; omega⟩
      | ⟨1, _⟩ => exact ⟨by show 128 * k ≤ (y 1).val; omega, by show (y 1).val < 128 * k + 128; omega⟩)]
    refine congrArg w (idx_ext (m := 32) (n := 128) ?_ ?_)
    · show (y 0).val - 0 = (y 0).val; omega
    · show (y 1).val - 128 * k = (y 1).val % 128; omega
  · rw [if_neg h, dif_neg (fun hc => h (by
      have h1 := hc 1
      have a1 : 128 * k ≤ (y 1).val := h1.1
      have a2 : (y 1).val < 128 * k + 128 := h1.2
      omega))]

/-- An entry of a block put together from its slices. -/
theorem putSlices_apply (P : (k : Nat) → k < 256 → SL.Idx → F .f32) (y : SBlk.Idx) (hy : (y 1).val / 128 < 256) :
    ∀ (n : Nat), n ≤ 256 → ∀ Y : SBlk.Idx → F .f32, putSlices P n Y y
      = if 256 - n ≤ (y 1).val / 128 then P ((y 1).val / 128) hy (at2 (y 0) ⟨(y 1).val % 128, Nat.mod_lt _ (by decide)⟩)
        else Y y
  | 0, _, Y => by rw [if_neg (by omega)]; rfl
  | n + 1, hn, Y => by
    unfold putSlices
    rw [sweep_succ]
    have ih := putSlices_apply P y hy n (by omega)
      (VecWindow.put Y ![0, 128 * (255 - n)] SL.size (P (255 - n) (Nat.lt_of_le_of_lt (Nat.sub_le _ _) (by decide))))
    unfold putSlices at ih
    rw [ih, put_slice]
    by_cases h1 : 256 - n ≤ (y 1).val / 128
    · rw [if_pos h1, if_pos (by omega)]
    · rw [if_neg h1]
      by_cases h2 : (y 1).val / 128 = 255 - n
      · rw [if_pos h2, if_pos (by omega)]
        simp only [h2]
      · rw [if_neg h2, if_neg (by omega)]

/-- A probability depends on its own entry only. -/
theorem probOf_local (c0 c1 c2 : FVec F SC .f32) {v v' : Vec F SL .f32} {i : SL.Idx} (h : v i = v' i) :
    probOf c0 c1 c2 v i = probOf c0 c1 c2 v' i := by
  unfold probOf weightOf
  show FloatOps.mulf (FloatOps.addf (FloatOps.mulf (FloatOps.addf (FloatOps.mulf (FloatOps.absf (v i)) _) _)
    (FloatOps.addf (FloatOps.mulf (FloatOps.absf (v i)) _) _)) _) _ = _
  rw [h]; rfl

/-- The probabilities a point writes, entry by entry: each from its own entry of the block. -/
theorem probsOf_apply (S : SQ.Idx → F .f32) (X Y : SBlk.Idx → F .f32) (y : SBlk.Idx) :
    probsOf S X Y y
      = probOf (colAt S 0 (by decide)) (colAt S 1 (by decide)) (colAt S 2 (by decide)) (fun _ => X y)
          (at2 (y 0) ⟨(y 1).val % 128, Nat.mod_lt _ (by decide)⟩) := by
  have h1 : (y 1).val < 32768 := (y 1).isLt
  unfold probsOf
  rw [putSlices_apply _ y (by omega) 256 le_rfl Y, if_pos (by omega)]
  refine probOf_local _ _ _ ?_
  rw [sliceAt_apply]
  exact congrArg X (idx_ext (m := 32) (n := 32768) rfl
    (by show 128 * ((y 1).val / 128) + (y 1).val % 128 = (y 1).val; omega))

/-- Probabilities inside the array depend on the entries inside the array only. -/
theorem probsOf_congr {n : Nat} (S : SQ.Idx → F .f32) {X X' : SBlk.Idx → F .f32} (h : Agrees n X X')
    (Y Y' : SBlk.Idx → F .f32) : Agrees n (probsOf S X Y) (probsOf S X' Y') := by
  intro j hj
  rw [probsOf_apply, probsOf_apply, h j hj]

end Cert.Roll
-- ==== Proof.Lanes.lean ====
/- The statistics' walk, lane by lane: after the blocks before column `b` a lane's accumulators are the least and the
   largest absolute value, the sum and the sum of squares over that lane's columns before `b`. -/
module

public import proofs.«01_k».proof.Proof.State
public import Idealize.ShloMosaic.PureOps.Ideal.Laws
public import Idealize.ShloMosaic.Lib.IdealHost

@[expose] public section

set_option maxRecDepth 16384

noncomputable section

namespace Cert.Alg

open Idealize.ShloMosaic Cert.Roll

/-! ## A lane's columns -/

/-- The columns of lane `l` before column `b`. -/
def lane (l b : Nat) : Finset (Fin 1000000) := Finset.univ.filter fun c => c.val % 128 = l ∧ c.val < b

/-- Which columns a lane has met. -/
theorem mem_lane {l b : Nat} {c : Fin 1000000} : c ∈ lane l b ↔ c.val % 128 = l ∧ c.val < b := by
  unfold lane
  rw [Finset.mem_filter]
  exact ⟨fun h => h.2, fun h => ⟨Finset.mem_univ _, h⟩⟩

/-- Before the first column a lane has met none. -/
theorem lane_zero (l : Nat) : lane l 0 = ∅ :=
  Finset.eq_empty_of_forall_notMem fun c hc => Nat.not_lt_zero _ (mem_lane.mp hc).2

/-- A slice adds one column to a lane. -/
theorem lane_step {l b : Nat} (hl : l < 128) (hb : b % 128 = 0) (h : b + l < 1000000) :
    lane l (b + 128) = insert ⟨b + l, h⟩ (lane l b) := by
  ext c
  rw [Finset.mem_insert, mem_lane, mem_lane, Fin.ext_iff]
  show _ ↔ c.val = b + l ∨ _
  omega

/-- The column a slice adds is new. -/
theorem lane_new {l b : Nat} (h : b + l < 1000000) : (⟨b + l, h⟩ : Fin 1000000) ∉ lane l b := fun hc =>
  absurd (mem_lane.mp hc).2 (by show ¬ b + l < b; omega)

/-- A slice past the array's end adds none. -/
theorem lane_stop {l b : Nat} (hl : l < 128) (hb : b % 128 = 0) (h : ¬ b + l < 1000000) : lane l (b + 128) = lane l b := by
  ext c
  have := c.isLt
  rw [mem_lane, mem_lane]
  omega

/-- Past the array's end a lane has met all of its columns. -/
theorem lane_all {l b : Nat} (h : 1000000 ≤ b) {c : Fin 1000000} : c ∈ lane l b ↔ c.val % 128 = l := by
  have := c.isLt
  rw [mem_lane]
  omega

/-! ## The walk -/

/-- What one slice takes from its first column to the next slice's, a whole block takes to the next block's. -/
theorem sweep_inv {α : Type} {P : Nat → α → Prop} {g : (k : Nat) → k < 256 → α → α} {b : Nat}
    (h : ∀ k hk a, P (b + 128 * k) a → P (b + 128 * k + 128) (g k hk a)) :
    ∀ (n : Nat), n ≤ 256 → ∀ a, P (b + 128 * (256 - n)) a → P (b + 32768) (sweep g n a)
  | 0, _, a, h0 => h0
  | n + 1, hn, a, h0 => by
    rw [sweep_succ]
    refine sweep_inv h n (by omega) _ ?_
    have h1 := h (255 - n) (Nat.lt_of_le_of_lt (Nat.sub_le _ _) (by decide)) a
      (by rw [show 255 - n = 256 - (n + 1) by omega]; exact h0)
    rw [show b + 128 * (255 - n) + 128 = b + 128 * (256 - n) by omega] at h1
    exact h1

/-! ## Constants -/

/-- The word of plus infinity. -/
theorem top_bits : (Scalar.ofBits .f32 0x7F800000#32 : Ideal .f32) = (⊤ : EReal) := by
  show Ideal.ofBits .f32 0x7F800000#32 = ⊤
  simp [Ideal.ofBits, Ideal.ieee]

/-- The word of minus infinity. -/
theorem bot_bits : (Scalar.ofBits .f32 0xFF800000#32 : Ideal .f32) = (⊥ : EReal) := by
  show Ideal.ofBits .f32 0xFF800000#32 = ⊥
  simp [Ideal.ofBits, Ideal.ieee]

/-- The word of zero. -/
theorem zero_bits : (Scalar.ofBits .f32 0x00000000#32 : Ideal .f32) = (0 : EReal) := Ideal.ofBits_zero_f32

/-! ## The accumulators -/

/-- The magnitude of an entry. -/
def mag (A : SA.Idx → Ideal .f32) (r : Fin 32) (c : Fin 1000000) : EReal := max (A (at2 r c)) (-(A (at2 r c)))

variable {A : SA.Idx → Ideal .f32}

/-- A magnitude is not negative. -/
theorem mag_nonneg (r : Fin 32) (c : Fin 1000000) : 0 ≤ mag A r c := by
  unfold mag
  rcases le_total 0 (A (at2 r c)) with h | h
  · exact le_max_of_le_left h
  · exact le_max_of_le_right (EReal.neg_nonneg.mpr h)

/-- A block's entry inside the array. -/
theorem blk_in {n : Nat} {j : SBlk.Idx} (h : n * 32768 + (j 1).val < 1000000) :
    blkOf A n j = A (at2 (m := 32) (n := 1000000) (j 0) ⟨n * 32768 + (j 1).val, h⟩) := dif_pos h

/-- A slice's entry inside the array. -/
theorem slice_in {n k : Nat} (hk : k < 256) (i : SL.Idx) (h : n * 32768 + 128 * k + (i 1).val < 1000000) :
    sliceAt (blkOf A n) k hk i = A (at2 (m := 32) (n := 1000000) (i 0) ⟨n * 32768 + 128 * k + (i 1).val, h⟩) := by
  have hj : ((at2 (m := 32) (n := 32768) (i 0) ⟨128 * k + (i 1).val, by have : (i 1).val < 128 := (i 1).isLt; omega⟩) 1).val
      = 128 * k + (i 1).val := rfl
  rw [sliceAt_apply]
  refine (blk_in (by rw [hj, ← Nat.add_assoc]; exact h)).trans ?_
  exact congrArg (fun c => A (at2 (m := 32) (n := 1000000) (i 0) c)) (Fin.ext (Nat.add_assoc _ _ _).symm)

/-- What the accumulators hold before column `b`. -/
structure Holds (A : SA.Idx → Ideal .f32) (b : Nat) (a : Acc Ideal) : Prop where
  al : b % 128 = 0
  mn : ∀ i : SL.Idx, a.mn i = (lane (i 1).val b).fold min ⊤ (mag A (i 0))
  mx : ∀ i : SL.Idx, a.mx i = (lane (i 1).val b).fold max 0 (mag A (i 0))
  s1 : ∀ i : SL.Idx, a.s1 i = ∑ c ∈ lane (i 1).val b, mag A (i 0) c
  s2 : ∀ i : SL.Idx, a.s2 i = ∑ c ∈ lane (i 1).val b, mag A (i 0) c * mag A (i 0) c

/-- One lane takes in an entry. -/
structure Takes (a a' : Acc Ideal) (i : SL.Idx) (lo hi x : EReal) : Prop where
  mn : a'.mn i = min (a.mn i) lo
  mx : a'.mx i = max (a.mx i) hi
  s1 : a'.s1 i = a.s1 i + x
  s2 : a'.s2 i = a.s2 i + x * x

/-- One slice taken in by all lanes. -/
theorem Holds.step {b : Nat} {a a' : Acc Ideal} (h : Holds A b a)
    (hin : ∀ i : SL.Idx, ∀ hi : b + (i 1).val < 1000000,
      Takes a a' i (mag A (i 0) ⟨b + (i 1).val, hi⟩) (mag A (i 0) ⟨b + (i 1).val, hi⟩) (mag A (i 0) ⟨b + (i 1).val, hi⟩))
    (hout : ∀ i : SL.Idx, ¬ b + (i 1).val < 1000000 → Takes a a' i ⊤ 0 0) : Holds A (b + 128) a' := by
  have hl : ∀ i : SL.Idx, (i 1).val < 128 := fun i => (i 1).isLt
  refine ⟨by have := h.al; omega, fun i => ?_, fun i => ?_, fun i => ?_, fun i => ?_⟩
  all_goals by_cases hi : b + (i 1).val < 1000000
  · rw [(hin i hi).mn, h.mn, lane_step (hl i) h.al hi, Finset.fold_insert (lane_new hi), min_comm]
  · rw [(hout i hi).mn, h.mn, lane_stop (hl i) h.al hi, min_top_right]
  · rw [(hin i hi).mx, h.mx, lane_step (hl i) h.al hi, Finset.fold_insert (lane_new hi), max_comm]
  · rw [(hout i hi).mx, h.mx, lane_stop (hl i) h.al hi]
    exact max_eq_left ((Finset.le_fold_max _).mpr (.inl le_rfl))
  · rw [(hin i hi).s1, h.s1, lane_step (hl i) h.al hi, Finset.sum_insert (lane_new hi), add_comm]
  · rw [(hout i hi).s1, h.s1, lane_stop (hl i) h.al hi, add_zero]
  · rw [(hin i hi).s2, h.s2, lane_step (hl i) h.al hi, Finset.sum_insert (lane_new hi), add_comm]
  · rw [(hout i hi).s2, h.s2, lane_stop (hl i) h.al hi, mul_zero, add_zero]

/-- A slice without a mask is taken in at every lane. -/
theorem fold_takes (a : Acc Ideal) (v : Vec Ideal SL .f32) (i : SL.Idx) :
    Takes a (a.fold v) i (max (v i) (-(v i))) (max (v i) (-(v i))) (max (v i) (-(v i))) := ⟨rfl, rfl, rfl, rfl⟩

/-- A masked slice is taken in where the mask is set. -/
theorem foldIn_takes (a : Acc Ideal) (m : IVec SL 1) (v : Vec Ideal SL .f32) (i : SL.Idx) (h : m i = 1#1) :
    Takes a (a.foldIn m v) i (max (v i) (-(v i))) (max (v i) (-(v i))) (max (v i) (-(v i))) := by
  have hs : ∀ z : FVec Ideal SL .f32, select m (absf v) z i = max (v i) (-(v i)) := fun z => if_pos h
  exact ⟨congrArg (min (a.mn i)) (hs _), congrArg (max (a.mx i)) (hs _), congrArg (a.s1 i + ·) (hs _),
    congrArg (fun x => a.s2 i + x * x) (hs _)⟩

/-- A masked slice changes nothing where the mask is clear. -/
theorem foldIn_skips (a : Acc Ideal) (m : IVec SL 1) (v : Vec Ideal SL .f32) (i : SL.Idx) (h : ¬ m i = 1#1) :
    Takes a (a.foldIn m v) i ⊤ 0 0 := by
  have hs : ∀ z : FVec Ideal SL .f32, select m (absf v) z i = z i := fun z => if_neg h
  have h0 : select m (absf v) (broadcast SL (Scalar.ofBits .f32 0x00000000#32 : Ideal .f32)) i = (0 : EReal) :=
    (hs _).trans zero_bits
  exact ⟨congrArg (min (a.mn i)) ((hs _).trans top_bits), congrArg (max (a.mx i)) h0, congrArg (a.s1 i + ·) h0,
    congrArg (fun x => a.s2 i + x * x) h0⟩

/-- The accumulators a point starts from are those the point before left. -/
theorem enter_at {n : Nat} (hn : n < 31) : Acc.enter (BitVec.ofNat 32 n) (accAt A n) = accAt A n := by
  rcases Nat.eq_zero_or_pos n with rfl | h0
  · rfl
  · have hne : BitVec.ofNat 32 n ≠ 0#32 := fun he => by
      have := congrArg BitVec.toNat he
      rw [BitVec.toNat_ofNat, BitVec.toNat_ofNat] at this; omega
    unfold Acc.enter
    rw [show Scalar.cmpi .eq (BitVec.ofNat 32 n) 0#32 = 0#1 from by
      simp only [Scalar.cmpi, IntOp.cmpi]; rw [beq_eq_false_iff_ne.mpr hne]; rfl]
    rfl

/-- What the lanes hold before the walk. -/
theorem holds_start : Holds A 0 Acc.start := by
  refine ⟨rfl, fun i => ?_, fun i => ?_, fun i => ?_, fun i => ?_⟩
  all_goals rw [lane_zero]
  · exact top_bits
  · exact zero_bits
  · exact zero_bits
  · exact zero_bits

/-- What the lanes hold after the first `n` blocks. -/
theorem holds_accAt : ∀ n : Nat, n ≤ 31 → Holds A (n * 32768) (accAt A n)
  | 0, _ => holds_start
  | n + 1, hn => by
    have ih := holds_accAt n (by omega)
    have hl : ∀ i : SL.Idx, (i 1).val < 128 := fun i => (i 1).isLt
    rw [Nat.succ_mul]
    show Holds A _ (accStep (BitVec.ofNat 32 n) (blkOf A n) (accAt A n))
    unfold accStep
    rw [enter_at (by omega)]
    by_cases h30 : n = 30
    · subst h30
      rw [if_pos ((isLast_iff (by omega)).mpr rfl)]
      refine sweep_inv (P := Holds A) (b := 30 * 32768) (fun k hk a ha => ha.step (fun i hi => ?_) fun i hi => ?_) 256 le_rfl
        _ (by rw [Nat.sub_self, Nat.mul_zero, Nat.add_zero]; exact ih)
      · have := foldIn_takes a (inside (Scalar.muli (BitVec.ofNat 32 30) 32768#32) k) (sliceAt (blkOf A 30) k hk) i
          (inside_of_lt hk i (by omega))
        rw [slice_in hk i hi] at this
        exact this
      · exact foldIn_skips _ _ _ i fun hc => hi (by have := inside_lt hk i hc; omega)
    · rw [if_neg fun he => h30 ((isLast_iff (by omega)).mp he)]
      refine sweep_inv (P := Holds A) (b := n * 32768) (fun k hk a ha => ha.step (fun i hi => ?_) fun i hi => ?_) 256 le_rfl
        _ (by rw [Nat.sub_self, Nat.mul_zero, Nat.add_zero]; exact ih)
      · have := fold_takes a (sliceAt (blkOf A n) k hk) i
        rw [slice_in hk i hi] at this
        exact this
      · exact absurd (show n * 32768 + 128 * k + (i 1).val < 1000000 by have := hl i; omega) hi

end Cert.Alg

end
-- ==== Proof.Rows.lean ====
/- A row's statistics over its lanes are the row's least and largest magnitude and its sums over all of its columns. -/
module

public import proofs.«01_k».proof.Proof.Lanes
public import Idealize.ShloMosaic.Lib.ValueLayout

@[expose] public section

set_option maxRecDepth 16384

noncomputable section

namespace Cert.Alg

open Idealize.ShloMosaic Cert.Roll

/-- The index of row `r`. -/
def at1 {n : Nat} (r : Fin n) : (⟨1, ![n]⟩ : Shape).Idx
  | ⟨0, _⟩ => r

/-- A vector of rows made a column. -/
theorem col_apply {α : Type} (x : SR.Idx → α) (h : SR.ShapeCasts SC) (i : SC.Idx) :
    shapeCast SC x h i = x (at1 (n := 32) (i 0)) := by
  refine shapeCast_apply x h i _ ?_
  rw [Shape.rowMajor_val_two, Shape.rowMajor_val_one]
  have h1 : (i 1).val < 1 := (i 1).isLt
  show (i 0).val = (i 0).val * 1 + (i 1).val
  omega

/-- The places a row's reduction reads. -/
theorem lift_SL (j : SR.Idx) (k : Fin 128) : red_SL.lift j k = at2 (m := 32) (n := 128) (j 0) k :=
  idx_ext (m := 32) (n := 128) rfl rfl

/-- A row's value spread over the lanes. -/
theorem spread_apply {α : Type} (x : SC.Idx → α) (i : SL.Idx) :
    broadcastTo SL x bc_SC i = x (at2 (m := 32) (n := 1) (i 0) 0) := by
  refine broadcastTo_apply x bc_SC i _ fun a => ?_
  match a with
  | ⟨0, _⟩ => rfl
  | ⟨1, _⟩ => rfl

/-- A row's least over the lanes. -/
theorem rowMin_apply (v : Vec Ideal SL .f32) (i : SC.Idx) :
    rowMin v i = (Finset.univ : Finset (Fin 128)).fold min (⊤ : EReal) fun k => v (at2 (m := 32) (n := 128) (i 0) k) := by
  unfold rowMin
  rw [col_apply]
  refine (multiReduction_minimumf_eq_fold ..).trans ((red_SL.fold_filter_drop_single _ _ v _).trans ?_)
  rw [show (FloatOps.ofBits .f32 0x7F800000#32 : Ideal .f32) = (⊤ : EReal) from top_bits]
  exact Finset.fold_congr fun k _ => congrArg v (lift_SL _ k)

/-- A row's largest over the lanes. -/
theorem rowMax_apply (v : Vec Ideal SL .f32) (i : SC.Idx) :
    rowMax v i = (Finset.univ : Finset (Fin 128)).fold max (⊥ : EReal) fun k => v (at2 (m := 32) (n := 128) (i 0) k) := by
  unfold rowMax
  rw [col_apply]
  refine (Ideal.multiReduction_maximumf_single ..).trans ?_
  rw [show (FloatOps.ofBits .f32 0xFF800000#32 : Ideal .f32) = (⊥ : EReal) from bot_bits]
  exact Finset.fold_congr fun k _ => congrArg v (lift_SL _ k)

/-- A row's sum over the lanes. -/
theorem rowSum_apply (v : Vec Ideal SL .f32) (i : SC.Idx) :
    rowSum v i = ∑ k : Fin 128, (v (at2 (m := 32) (n := 128) (i 0) k) : EReal) := by
  unfold rowSum
  rw [col_apply]
  refine (Ideal.multiReduction_add_single ..).trans ?_
  exact Finset.sum_congr rfl fun k _ => congrArg v (lift_SL _ k)

/-! ## Lanes to columns -/

/-- A row's least magnitude. -/
def gmin (A : SA.Idx → Ideal .f32) (r : Fin 32) : EReal := (Finset.univ : Finset (Fin 1000000)).fold min ⊤ (mag A r)

/-- A row's largest magnitude. -/
def gmax (A : SA.Idx → Ideal .f32) (r : Fin 32) : EReal := (Finset.univ : Finset (Fin 1000000)).fold max ⊥ (mag A r)

/-- A column's lane. -/
def laneOf (c : Fin 1000000) : Fin 128 := ⟨c.val % 128, Nat.mod_lt _ (by decide)⟩

/-- A column's lane has met it once the walk is over. -/
theorem mem_laneOf {b : Nat} (h : 1000000 ≤ b) (c : Fin 1000000) : c ∈ lane (laneOf c).val b := (lane_all h).mpr rfl

/-- The least over the lanes is the least over the columns. -/
theorem min_lanes {b : Nat} (h : 1000000 ≤ b) (f : Fin 1000000 → EReal) :
    (Finset.univ : Finset (Fin 128)).fold min (⊤ : EReal) (fun k => (lane k.val b).fold min ⊤ f)
      = (Finset.univ : Finset (Fin 1000000)).fold min ⊤ f := by
  refine eq_of_forall_le_iff fun x => ?_
  rw [Finset.le_fold_min, Finset.le_fold_min]
  refine and_congr_right fun ht => ⟨fun hx c _ => ?_, fun hx k _ => ?_⟩
  · exact ((Finset.le_fold_min _).mp (hx (laneOf c) (Finset.mem_univ _))).2 c (mem_laneOf h c)
  · exact (Finset.le_fold_min _).mpr ⟨ht, fun c _ => hx c (Finset.mem_univ _)⟩

/-- The largest over the lanes is the largest over the columns. -/
theorem max_lanes {b : Nat} (h : 1000000 ≤ b) (f : Fin 1000000 → EReal) (hf : ∀ c, 0 ≤ f c) :
    (Finset.univ : Finset (Fin 128)).fold max (⊥ : EReal) (fun k => (lane k.val b).fold max 0 f)
      = (Finset.univ : Finset (Fin 1000000)).fold max ⊥ f := by
  refine eq_of_forall_ge_iff fun x => ?_
  rw [Finset.fold_max_le, Finset.fold_max_le]
  refine and_congr_right fun ht => ⟨fun hx c _ => ?_, fun hx k _ => ?_⟩
  · exact ((Finset.fold_max_le _).mp (hx (laneOf c) (Finset.mem_univ _))).2 c (mem_laneOf h c)
  · exact (Finset.fold_max_le _).mpr ⟨(hf 0).trans (hx 0 (Finset.mem_univ _)), fun c _ => hx c (Finset.mem_univ _)⟩

/-- The sum over the lanes is the sum over the columns. -/
theorem sum_lanes {b : Nat} (h : 1000000 ≤ b) (f : Fin 1000000 → EReal) :
    ∑ k : Fin 128, ∑ c ∈ lane k.val b, f c = ∑ c, f c := by
  rw [← Finset.sum_fiberwise (Finset.univ : Finset (Fin 1000000)) laneOf f]
  refine Finset.sum_congr rfl fun k _ => Finset.sum_congr (Finset.ext fun c => ?_) fun _ _ => rfl
  rw [lane_all h, Finset.mem_filter]
  exact ⟨fun hc => ⟨Finset.mem_univ _, Fin.ext hc⟩, fun hc => congrArg Fin.val hc.2⟩

variable {A : SA.Idx → Ideal .f32} {b : Nat} {a : Acc Ideal}

/-- The lanes' least is the row's. -/
theorem Holds.least (h : Holds A b a) (hb : 1000000 ≤ b) (i : SC.Idx) : rowMin (F := Ideal) a.mn i = gmin A (i 0) := by
  rw [rowMin_apply]
  refine (Finset.fold_congr fun k _ => h.mn _).trans ?_
  exact min_lanes hb (mag A (i 0))

/-- The lanes' largest is the row's. -/
theorem Holds.largest (h : Holds A b a) (hb : 1000000 ≤ b) (i : SC.Idx) : rowMax (F := Ideal) a.mx i = gmax A (i 0) := by
  rw [rowMax_apply]
  refine (Finset.fold_congr fun k _ => h.mx _).trans ?_
  exact max_lanes hb (mag A (i 0)) fun c => mag_nonneg _ c

/-- The lanes' sum is the row's. -/
theorem Holds.total (h : Holds A b a) (hb : 1000000 ≤ b) (i : SC.Idx) : rowSum (F := Ideal) a.s1 i = ∑ c, mag A (i 0) c := by
  rw [rowSum_apply]
  refine (Finset.sum_congr rfl fun k _ => h.s1 _).trans ?_
  exact sum_lanes hb (mag A (i 0))

/-- The lanes' sum of squares is the row's. -/
theorem Holds.squares (h : Holds A b a) (hb : 1000000 ≤ b) (i : SC.Idx) :
    rowSum (F := Ideal) a.s2 i = ∑ c, mag A (i 0) c * mag A (i 0) c := by
  rw [rowSum_apply]
  refine (Finset.sum_congr rfl fun k _ => h.s2 _).trans ?_
  exact sum_lanes hb fun c => mag A (i 0) c * mag A (i 0) c

end Cert.Alg

end
-- ==== Proof.Weights.lean ====
/- The row statistics as real numbers, and the weights from them: the kernel's sum of weights, from the sums of magnitudes
   and of squares, is the sum of the weights. In a row with an infinite entry the reciprocal of the span is zero, and every
   weight the least one. -/
module

public import proofs.«01_k».proof.Proof.Rows
public import Mathlib.Analysis.SpecialFunctions.Log.Basic

@[expose] public section

set_option maxRecDepth 16384

noncomputable section

namespace Cert.Alg

open Idealize.ShloMosaic Cert.Roll

/-! ## The constants as reals -/

/-- The weights' span. -/
def span : ℝ := 7549747 / 8388608
/-- The least weight. -/
def floor : ℝ := 13421773 / 134217728
/-- What keeps a row's span from zero. -/
def eps : ℝ := 9223372 * 2 ^ (-63 : ℤ)

/-- The span is positive. -/
theorem span_pos : 0 < span := by unfold span; norm_num

/-- The least weight is positive. -/
theorem floor_pos : 0 < floor := by unfold floor; norm_num

/-- What keeps a span from zero is positive. -/
theorem eps_pos : 0 < eps := by unfold eps; positivity

/-- The word of the span. -/
theorem span_bits : (Scalar.ofBits .f32 0x3F666666#32 : Ideal .f32) = (span : EReal) := by
  show Ideal.ofBits .f32 0x3F666666#32 = _
  unfold span
  simp [Ideal.ofBits, Ideal.ieee, -EReal.coe_mul]; norm_num

/-- The word of the least weight. -/
theorem floor_bits : (Scalar.ofBits .f32 0x3DCCCCCD#32 : Ideal .f32) = (floor : EReal) := by
  show Ideal.ofBits .f32 0x3DCCCCCD#32 = _
  unfold floor
  simp [Ideal.ofBits, Ideal.ieee, -EReal.coe_mul]; norm_num

/-- The word of what keeps a span from zero. -/
theorem eps_bits : (Scalar.ofBits .f32 0x2B8CBCCC#32 : Ideal .f32) = (eps : EReal) := by
  show Ideal.ofBits .f32 0x2B8CBCCC#32 = _
  unfold eps
  simp [Ideal.ofBits, Ideal.ieee, -EReal.coe_mul]

/-- The word of the number of columns. -/
theorem count_bits : (Scalar.ofBits .f32 0x49742400#32 : Ideal .f32) = ((1000000 : ℝ) : EReal) := by
  show Ideal.ofBits .f32 0x49742400#32 = _
  simp [Ideal.ofBits, Ideal.ieee, -EReal.coe_mul]; norm_num

/-- The word of two. -/
theorem two_bits : (Scalar.ofBits .f32 0x40000000#32 : Ideal .f32) = ((2 : ℝ) : EReal) := by
  show Ideal.ofBits .f32 0x40000000#32 = _
  simp [Ideal.ofBits, Ideal.ieee, -EReal.coe_mul]; norm_num

/-- The word of one. -/
theorem one_bits : (Scalar.ofBits .f32 0x3F800000#32 : Ideal .f32) = ((1 : ℝ) : EReal) := Ideal.ofBits_one_f32

/-! ## A row -/

/-- Every entry of row `r` is a real number. -/
def Finite (A : SA.Idx → Ideal .f32) (r : Fin 32) : Prop := ∀ c, mag A r c < ⊤

variable {A : SA.Idx → Ideal .f32}

/-- The magnitude as a real. -/
def mg (A : SA.Idx → Ideal .f32) (r : Fin 32) (c : Fin 1000000) : ℝ := (mag A r c).toReal

/-- A row's least magnitude as a real. -/
def lo (A : SA.Idx → Ideal .f32) (r : Fin 32) : ℝ := (gmin A r).toReal

/-- A row's largest magnitude as a real. -/
def hi (A : SA.Idx → Ideal .f32) (r : Fin 32) : ℝ := (gmax A r).toReal

variable {r : Fin 32}

/-- A finite row's magnitudes are reals. -/
theorem coe_mg (h : Finite A r) (c : Fin 1000000) : mag A r c = (mg A r c : EReal) :=
  (EReal.coe_toReal (h c).ne (EReal.bot_lt_zero.trans_le (mag_nonneg r c)).ne').symm

/-- No magnitude is below the least. -/
theorem gmin_le (r : Fin 32) (c : Fin 1000000) : gmin A r ≤ mag A r c :=
  ((Finset.le_fold_min _).mp le_rfl).2 c (Finset.mem_univ _)

/-- No magnitude is above the largest. -/
theorem le_gmax (r : Fin 32) (c : Fin 1000000) : mag A r c ≤ gmax A r :=
  ((Finset.fold_max_le _).mp le_rfl).2 c (Finset.mem_univ _)

/-- The least magnitude is not negative. -/
theorem gmin_nonneg (r : Fin 32) : 0 ≤ gmin A r := (Finset.le_fold_min _).mpr ⟨le_top, fun c _ => mag_nonneg r c⟩

/-- A finite row's largest magnitude is finite. -/
theorem gmax_lt (h : Finite A r) : gmax A r < ⊤ := (Finset.fold_max_lt _).mpr ⟨bot_lt_top, fun c _ => h c⟩

/-- Another row's largest magnitude is infinite. -/
theorem gmax_top (h : ¬ Finite A r) : gmax A r = ⊤ := by
  obtain ⟨c, hc⟩ := not_forall.mp h
  exact top_le_iff.mp ((not_lt_top_iff.mp hc).ge.trans (le_gmax r c))

/-- A finite row's least magnitude is a real. -/
theorem coe_lo (h : Finite A r) : gmin A r = (lo A r : EReal) :=
  (EReal.coe_toReal ((gmin_le r 0).trans_lt (h 0)).ne (EReal.bot_lt_zero.trans_le (gmin_nonneg r)).ne').symm

/-- A finite row's largest magnitude is a real. -/
theorem coe_hi (h : Finite A r) : gmax A r = (hi A r : EReal) :=
  (EReal.coe_toReal (gmax_lt h).ne (EReal.bot_lt_zero.trans_le ((mag_nonneg r 0).trans (le_gmax r 0))).ne').symm

/-- A finite row's span is not negative. -/
theorem lo_le_hi (h : Finite A r) : lo A r ≤ hi A r := by
  have := (gmin_le r 0).trans (le_gmax (A := A) r 0)
  rw [coe_lo h, coe_hi h] at this
  exact EReal.coe_le_coe_iff.mp this

open Classical in
/-- The reciprocal of a row's span: zero where the span is infinite. -/
def inv (A : SA.Idx → Ideal .f32) (r : Fin 32) : ℝ := if Finite A r then 1 / (hi A r - lo A r + eps) else 0

/-- The reciprocal is zero in a row with an infinite entry. -/
theorem inv_top (h : ¬ Finite A r) : inv A r = 0 := if_neg h

/-- What a finite row's magnitudes are divided by is positive. -/
theorem den_pos (h : Finite A r) : 0 < hi A r - lo A r + eps := by
  have := lo_le_hi h
  have := eps_pos
  linarith

/-- A product with a real that is zero in rows with an infinite entry. -/
theorem times {x : EReal} {y k : ℝ} (hx : Finite A r → x = (y : EReal)) (hk : ¬ Finite A r → k = 0) :
    x * (k : EReal) = ((y * k : ℝ) : EReal) := by
  by_cases h : Finite A r
  · rw [hx h, ← EReal.coe_mul]
  · rw [hk h, mul_zero, EReal.coe_zero, mul_zero]

/-- The span of a row with an infinite entry is infinite. -/
theorem den_top (h : ¬ Finite A r) : gmax A r - gmin A r + (eps : EReal) = ⊤ ∨ gmax A r - gmin A r + (eps : EReal) = ⊥ := by
  rw [gmax_top h]
  by_cases h0 : gmin A r = ⊤
  · exact .inr (by rw [h0, sub_eq_add_neg, EReal.neg_top, EReal.add_bot, EReal.bot_add])
  · exact .inl (by rw [EReal.top_sub h0, EReal.top_add_coe])

/-- A quotient by a row's span is a product with its reciprocal. -/
theorem div_den {x : EReal} {y : ℝ} (hx : Finite A r → x = (y : EReal)) :
    Ideal.div x (gmax A r - gmin A r + (eps : EReal)) = ((y * inv A r : ℝ) : EReal) := by
  by_cases h : Finite A r
  · rw [hx h, coe_hi h, coe_lo h, ← EReal.coe_sub, ← EReal.coe_add, Ideal.div_coe (den_pos h).ne', ← EReal.coe_mul]
    unfold inv
    rw [if_pos h]
  · rw [inv_top h, mul_zero, EReal.coe_zero]
    unfold Ideal.div
    rcases den_top h with e | e
    · rw [e, if_neg (by decide), EReal.inv_top, mul_zero]
    · rw [e, if_neg (by decide), EReal.inv_bot, mul_zero]

/-- An entry's weight. -/
def wt (A : SA.Idx → Ideal .f32) (r : Fin 32) (c : Fin 1000000) : ℝ :=
  ((mg A r c - lo A r) * inv A r) * ((mg A r c - lo A r) * inv A r) * span + floor

/-- A weight is positive. -/
theorem wt_pos (r : Fin 32) (c : Fin 1000000) : 0 < wt A r c := by
  unfold wt
  have h1 := mul_self_nonneg ((mg A r c - lo A r) * inv A r)
  have h2 := span_pos
  have h3 := floor_pos
  have := mul_nonneg h1 h2.le
  linarith

/-- A row's sum of weights. -/
def total (A : SA.Idx → Ideal .f32) (r : Fin 32) : ℝ := ∑ c, wt A r c

/-- A row's sum of weights is positive. -/
theorem total_pos (r : Fin 32) : 0 < total A r := Finset.sum_pos (fun c _ => wt_pos r c) ⟨0, Finset.mem_univ _⟩

/-- A row's sum of weights from its sums of magnitudes and of squares. -/
theorem total_eq (r : Fin 32) :
    total A r = span * (((∑ c, mg A r c * mg A r c) - (2 * lo A r) * (∑ c, mg A r c) + (1000000 * lo A r) * lo A r)
      * (inv A r * inv A r)) + floor * 1000000 := by
  have hN : (∑ _c : Fin 1000000, (1 : ℝ)) = 1000000 := by
    rw [Finset.sum_const, Finset.card_univ, Fintype.card_fin]; norm_num
  have e : ∀ c, wt A r c = (span * (inv A r * inv A r)) * (mg A r c * mg A r c)
      - (span * (inv A r * inv A r) * (2 * lo A r)) * mg A r c
      + (span * (inv A r * inv A r) * (lo A r * lo A r) + floor) * 1 := fun c => by unfold wt; ring
  unfold total
  rw [Finset.sum_congr rfl fun c _ => e c, Finset.sum_add_distrib, Finset.sum_sub_distrib, ← Finset.mul_sum, ← Finset.mul_sum,
    ← Finset.mul_sum, hN]
  ring

/-! ## The kernel's statistics -/

section stats

variable {a : Acc Ideal} {b : Nat}

/-- A sum of reals. -/
theorem coe_sum' {ι : Type} (s : Finset ι) (f : ι → ℝ) : ∑ c ∈ s, ((f c : ℝ) : EReal) = ((∑ c ∈ s, f c : ℝ) : EReal) :=
  (map_sum (⟨⟨fun x : ℝ => (x : EReal), EReal.coe_zero⟩, EReal.coe_add⟩ : ℝ →+ EReal) f s).symm

/-- The place of row `r` in a column. -/
abbrev at0 (r : Fin 32) : SC.Idx := at2 (m := 32) (n := 1) r 0

/-- The kernel's least magnitudes. -/
theorem least_at (h : Holds A b a) (hb : 1000000 ≤ b) (r : Fin 32) : rowMin (F := Ideal) a.mn (at0 r) = gmin A r := h.least hb _

/-- The kernel's largest magnitudes. -/
theorem largest_at (h : Holds A b a) (hb : 1000000 ≤ b) (r : Fin 32) : rowMax (F := Ideal) a.mx (at0 r) = gmax A r := h.largest hb _

/-- The kernel's sums of magnitudes. -/
theorem total_at (h : Holds A b a) (hb : 1000000 ≤ b) (r : Fin 32) : rowSum (F := Ideal) a.s1 (at0 r) = ∑ c, mag A r c := h.total hb _

/-- The kernel's sums of squares. -/
theorem squares_at (h : Holds A b a) (hb : 1000000 ≤ b) (r : Fin 32) :
    rowSum (F := Ideal) a.s2 (at0 r) = ∑ c, mag A r c * mag A r c := h.squares hb _

/-- A finite row's sum of magnitudes as a real. -/
theorem total_real (h : Finite A r) : ∑ c, mag A r c = ((∑ c, mg A r c : ℝ) : EReal) := by
  rw [Finset.sum_congr rfl fun c _ => coe_mg h c, coe_sum']

/-- A finite row's sum of squares as a real. -/
theorem squares_real (h : Finite A r) : ∑ c, mag A r c * mag A r c = ((∑ c, mg A r c * mg A r c : ℝ) : EReal) := by
  rw [← coe_sum']
  exact Finset.sum_congr rfl fun c _ => by rw [coe_mg h, ← EReal.coe_mul]

/-- The kernel's reciprocal of the span. -/
theorem invSpan_real {mn mx : FVec Ideal SC .f32} {r : Fin 32} (h0 : mn (at0 r) = gmin A r) (h1 : mx (at0 r) = gmax A r) :
    invSpan mn mx (at0 r) = (inv A r : EReal) := by
  show Ideal.div (Scalar.ofBits .f32 0x3F800000#32 : Ideal .f32)
    ((mx (at0 r) - mn (at0 r) : EReal) + (Scalar.ofBits .f32 0x2B8CBCCC#32 : Ideal .f32)) = _
  rw [one_bits, eps_bits, h0, h1, div_den fun _ => rfl, one_mul]

/-- The kernel's sum of weights, from the sums, is the sum of the weights. -/
theorem weightSum_real {mn iv s1 s2 : FVec Ideal SC .f32} {r : Fin 32} (h0 : mn (at0 r) = gmin A r)
    (h1 : iv (at0 r) = (inv A r : EReal)) (h2 : s1 (at0 r) = ∑ c, mag A r c) (h3 : s2 (at0 r) = ∑ c, mag A r c * mag A r c) :
    weightSum mn iv s1 s2 (at0 r) = (total A r : EReal) := by
  show (Scalar.ofBits .f32 0x3F666666#32 : Ideal .f32)
      * ((s2 (at0 r) - (Scalar.ofBits .f32 0x40000000#32 : Ideal .f32) * mn (at0 r) * s1 (at0 r)
          + (Scalar.ofBits .f32 0x49742400#32 : Ideal .f32) * mn (at0 r) * mn (at0 r)) * (iv (at0 r) * iv (at0 r)) : EReal)
      + (Scalar.ofBits .f32 0x3DCCCCCD#32 : Ideal .f32) * (Scalar.ofBits .f32 0x49742400#32 : Ideal .f32) = _
  rw [span_bits, two_bits, count_bits, floor_bits, h0, h1, h2, h3, ← EReal.coe_mul (inv A r),
    times (y := (∑ c, mg A r c * mg A r c) - (2 * lo A r) * (∑ c, mg A r c) + (1000000 * lo A r) * lo A r)
      (fun h => by rw [coe_lo h, total_real h, squares_real h]; simp only [← EReal.coe_mul, ← EReal.coe_sub, ← EReal.coe_add])
      (fun h => by rw [inv_top h, mul_zero]), total_eq]
  simp only [← EReal.coe_mul, ← EReal.coe_add]

/-! ## The statistics' columns -/

/-- The square root the scale carries. -/
def root : ℝ := Real.sqrt span

/-- The root squared is the span. -/
theorem root_sq : root * root = span := Real.mul_self_sqrt span_pos.le

/-- The statistics, column by column. -/
theorem stat_col (rt : Ideal .f32) (A : SA.Idx → Ideal .f32) (j : Nat) (hj : j < 4) (r : Fin 32) :
    colAt (stat rt A) j hj (at0 r)
      = statsOf rt (accAt A 31) (fun _ => Scalar.ofBits .f32 0#32) (at2 (m := 32) (n := 4) r ⟨j, hj⟩) := colAt_apply _ _ _ _

/-- A column put into the statistics is there. -/
theorem put_here (S : SQ.Idx → Ideal .f32) (j : Nat) (hj : j < 4) (w : SC.Idx → Ideal .f32) (r : Fin 32) :
    VecWindow.put S ![0, j] SC.size w (at2 (m := 32) (n := 4) r ⟨j, hj⟩) = w (at0 r) :=
  (put_col S j w _).trans (if_pos rfl)

/-- A column put into the statistics leaves the others. -/
theorem put_other (S : SQ.Idx → Ideal .f32) (j k : Nat) (hk : k < 4) (h : k ≠ j) (w : SC.Idx → Ideal .f32) (r : Fin 32) :
    VecWindow.put S ![0, j] SC.size w (at2 (m := 32) (n := 4) r ⟨k, hk⟩) = S (at2 (m := 32) (n := 4) r ⟨k, hk⟩) :=
  (put_col S j w _).trans (if_neg h)

/-- What the lanes hold when the walk is over. -/
theorem holds_last : Holds A 1015808 (accAt A 31) := holds_accAt 31 le_rfl

/-- The reciprocals of the spans when the walk is over. -/
theorem span_at (r : Fin 32) :
    invSpan (rowMin (F := Ideal) (accAt A 31).mn) (rowMax (accAt A 31).mx) (at0 r) = (inv A r : EReal) :=
  invSpan_real (least_at holds_last (by omega) r) (largest_at holds_last (by omega) r)

/-- The first statistic: the offset of a row's affine map. -/
theorem stat_offset (r : Fin 32) :
    colAt (stat (F := Ideal) (root : EReal) A) 0 (by decide) (at0 r) = ((-lo A r * inv A r * root : ℝ) : EReal) := by
  rw [stat_col]
  unfold statsOf
  rw [put_other _ 3 0 _ (by decide), put_other _ 2 0 _ (by decide), put_other _ 1 0 _ (by decide), put_here]
  show ((Scalar.ofBits .f32 0x00000000#32 : Ideal .f32) - rowMin (F := Ideal) (accAt A 31).mn (at0 r) : EReal)
    * invSpan (rowMin (F := Ideal) (accAt A 31).mn) (rowMax (accAt A 31).mx) (at0 r) * (root : EReal) = _
  rw [zero_bits, least_at holds_last (by omega) r, span_at r, zero_sub,
    times (y := -lo A r) (fun h => by rw [coe_lo h, EReal.coe_neg]) inv_top, ← EReal.coe_mul]

/-- The second statistic: the scale of a row's affine map. -/
theorem stat_scale (r : Fin 32) :
    colAt (stat (F := Ideal) (root : EReal) A) 1 (by decide) (at0 r) = ((inv A r * root : ℝ) : EReal) := by
  rw [stat_col]
  unfold statsOf
  rw [put_other _ 3 1 _ (by decide), put_other _ 2 1 _ (by decide), put_here]
  show (invSpan (rowMin (F := Ideal) (accAt A 31).mn) (rowMax (accAt A 31).mx) (at0 r) : EReal) * (root : EReal) = _
  rw [span_at r, ← EReal.coe_mul]

/-- The sums of weights when the walk is over. -/
theorem sum_at (r : Fin 32) :
    weightSum (rowMin (F := Ideal) (accAt A 31).mn) (invSpan (rowMin (accAt A 31).mn) (rowMax (accAt A 31).mx))
      (rowSum (accAt A 31).s1) (rowSum (accAt A 31).s2) (at0 r) = (total A r : EReal) :=
  weightSum_real (least_at holds_last (by omega) r) (span_at r) (total_at holds_last (by omega) r)
    (squares_at holds_last (by omega) r)

/-- The third statistic: the reciprocal of a row's sum of weights. -/
theorem stat_invSum (r : Fin 32) :
    colAt (stat (F := Ideal) (root : EReal) A) 2 (by decide) (at0 r) = ((1 / total A r : ℝ) : EReal) := by
  rw [stat_col]
  unfold statsOf
  rw [put_other _ 3 2 _ (by decide), put_here]
  show Ideal.div (Scalar.ofBits .f32 0x3F800000#32 : Ideal .f32)
    (weightSum (rowMin (F := Ideal) (accAt A 31).mn) (invSpan (rowMin (accAt A 31).mn) (rowMax (accAt A 31).mx))
      (rowSum (accAt A 31).s1) (rowSum (accAt A 31).s2) (at0 r)) = _
  rw [sum_at r, one_bits, Ideal.div_coe (total_pos r).ne', ← EReal.coe_mul, one_mul]

/-- A slice's weight in the lane that holds column `c` of row `r`. -/
theorem weightOf_real {c0 c1 : FVec Ideal SC .f32} {r : Fin 32}
    (h0 : c0 (at0 r) = ((-lo A r * inv A r * root : ℝ) : EReal)) (h1 : c1 (at0 r) = ((inv A r * root : ℝ) : EReal))
    (v : Vec Ideal SL .f32) (l : Fin 128) (c : Fin 1000000) (hv : v (at2 (m := 32) (n := 128) r l) = A (at2 r c)) :
    weightOf c0 c1 v (at2 (m := 32) (n := 128) r l) = (wt A r c : EReal) := by
  have e0 : broadcastTo SL c0 bc_SC (at2 (m := 32) (n := 128) r l) = c0 (at0 r) := spread_apply c0 _
  have e1 : broadcastTo SL c1 bc_SC (at2 (m := 32) (n := 128) r l) = c1 (at0 r) := spread_apply c1 _
  have em : max (v (at2 (m := 32) (n := 128) r l)) (-(v (at2 (m := 32) (n := 128) r l)) : EReal) = mag A r c := by
    rw [hv]; rfl
  show (max (v (at2 (m := 32) (n := 128) r l)) (-(v (at2 (m := 32) (n := 128) r l)) : EReal)
        * broadcastTo SL c1 bc_SC (at2 (m := 32) (n := 128) r l) + broadcastTo SL c0 bc_SC (at2 (m := 32) (n := 128) r l))
      * (max (v (at2 (m := 32) (n := 128) r l)) (-(v (at2 (m := 32) (n := 128) r l)) : EReal)
        * broadcastTo SL c1 bc_SC (at2 (m := 32) (n := 128) r l) + broadcastTo SL c0 bc_SC (at2 (m := 32) (n := 128) r l))
      + (Scalar.ofBits .f32 0x3DCCCCCD#32 : Ideal .f32) = _
  rw [em, e0, e1, h0, h1, floor_bits, times (y := mg A r c) (fun h => coe_mg h c) (fun h => by rw [inv_top h, zero_mul])]
  simp only [← EReal.coe_mul, ← EReal.coe_add]
  refine congrArg _ ?_
  unfold wt
  rw [← root_sq]
  ring

end stats

end Cert.Alg

end
-- ==== Proof.Mix.lean ====
/- The generator's word at one counter, as a function of the counter alone, and the reference's words: the same function
   of the counter `row * 1000000 + column + 1`. -/
module

public import proofs.«01_k».proof.Proof.State
public import proofs.«01_k».proof.Proof.Gen.ReferenceIdeal.Run
public import Idealize.ShloMosaic.Lib.KernelVsHost

@[expose] public section

set_option maxRecDepth 16384

noncomputable section

namespace Cert.Alg

open Idealize.ShloMosaic Cert.Roll

/-- `turn` at one lane. -/
def turnS (r l x y : BitVec 32) : BitVec 32 :=
  IntOp.xori (IntOp.ori (IntOp.shli .vector x r) (IntOp.shrui .vector x l)) y

/-- `round` at one lane. -/
def roundS {α : Type} (r l x0 x1 : BitVec 32) (K : BitVec 32 → BitVec 32 → α) : α :=
  K (IntOp.addi x0 x1) (turnS r l x1 (IntOp.addi x0 x1))

/-- `inject` at one lane. -/
def injectS {α : Type} (a b x0 x1 : BitVec 32) (K : BitVec 32 → BitVec 32 → α) : α :=
  K (IntOp.addi x0 a) (IntOp.addi x1 b)

/-- The generator's word at one counter. -/
def mixS (fk : BitVec 32) : BitVec 32 :=
  roundS 15#32 17#32 fk (turnS 13#32 19#32 fk fk) fun x0 x1 =>
  roundS 26#32 6#32 x0 x1 fun x0 x1 =>
  roundS 6#32 26#32 x0 x1 fun x0 x1 =>
  injectS 1#32 466688988#32 x0 x1 fun x0 x1 =>
  roundS 17#32 15#32 x0 x1 fun x0 x1 =>
  roundS 29#32 3#32 x0 x1 fun x0 x1 =>
  roundS 16#32 16#32 x0 x1 fun x0 x1 =>
  roundS 24#32 8#32 x0 x1 fun x0 x1 =>
  injectS 466688987#32 2#32 x0 x1 fun x0 x1 =>
  roundS 13#32 19#32 x0 x1 fun x0 x1 =>
  roundS 15#32 17#32 x0 x1 fun x0 x1 =>
  roundS 26#32 6#32 x0 x1 fun x0 x1 =>
  roundS 6#32 26#32 x0 x1 fun x0 x1 =>
  injectS 0#32 4#32 x0 x1 fun x0 x1 =>
  roundS 17#32 15#32 x0 x1 fun x0 x1 =>
  roundS 29#32 3#32 x0 x1 fun x0 x1 =>
  roundS 16#32 16#32 x0 x1 fun x0 x1 =>
  roundS 24#32 8#32 x0 x1 fun x0 x1 =>
  injectS 1#32 466688991#32 x0 x1 fun x0 x1 =>
  roundS 13#32 19#32 x0 x1 fun x0 x1 =>
  roundS 15#32 17#32 x0 x1 fun x0 x1 =>
  roundS 26#32 6#32 x0 x1 fun x0 x1 =>
  roundS 6#32 26#32 x0 x1 fun x0 x1 =>
  injectS 466688987#32 5#32 x0 x1 fun x0 x1 => IntOp.xori x0 x1

section kernel

variable {K : IVec SL 32 → IVec SL 32 → IVec SL 32} {K' : BitVec 32 → BitVec 32 → BitVec 32} {i : SL.Idx}

/-- A round, lane by lane. -/
theorem round_apply {r l : BitVec 32} {x0 x1 : IVec SL 32} (h : ∀ y0 y1, K y0 y1 i = K' (y0 i) (y1 i)) :
    round r l x0 x1 K i = roundS r l (x0 i) (x1 i) K' := h _ _

/-- A key's addition, lane by lane. -/
theorem inject_apply {a b : BitVec 32} {x0 x1 : IVec SL 32} (h : ∀ y0 y1, K y0 y1 i = K' (y0 i) (y1 i)) :
    inject a b x0 x1 K i = injectS a b (x0 i) (x1 i) K' := h _ _

/-- The third key added to the first word is zero. -/
theorem injectS_zero {b x0 x1 : BitVec 32} : injectS 0#32 b x0 x1 K' = K' x0 (IntOp.addi x1 b) :=
  congrArg (fun z => K' z (IntOp.addi x1 b)) (BitVec.add_zero x0)

/-- The generator runs lane by lane. -/
theorem mix_apply (fk : IVec SL 32) (i : SL.Idx) : mix fk i = mixS (fk i) := by
  unfold mix mixS
  refine round_apply fun _ _ => round_apply fun _ _ => round_apply fun _ _ => inject_apply fun _ _ => round_apply fun _ _ =>
    round_apply fun _ _ => round_apply fun _ _ => round_apply fun _ _ => inject_apply fun _ _ => round_apply fun _ _ =>
    round_apply fun _ _ => round_apply fun _ _ => round_apply fun _ _ => ?_
  rw [injectS_zero]
  exact round_apply fun _ _ => round_apply fun _ _ => round_apply fun _ _ => round_apply fun _ _ => inject_apply fun _ _ =>
    round_apply fun _ _ => round_apply fun _ _ => round_apply fun _ _ => round_apply fun _ _ => inject_apply fun _ _ => rfl

end kernel

section reference

open Cert.ReferenceIdeal Cert.ReferenceIdeal.Gen Cert.ReferenceIdeal.Value

variable {K : BitVec 32 → BitVec 32 → BitVec 32}

/-- A round, its two words given. -/
theorem roundS_eq {r l x0 x1 c d : BitVec 32} (hc : c = IntOp.addi x0 x1) (hd : d = turnS r l x1 c) :
    roundS r l x0 x1 K = K c d := by
  subst hc; subst hd; rfl

/-- A key's addition, its two words given. -/
theorem injectS_eq {a b x0 x1 c d : BitVec 32} (hc : c = IntOp.addi x0 a) (hd : d = IntOp.addi x1 b) :
    injectS a b x0 x1 K = K c d := by
  subst hc; subst hd; rfl

/-- The host's rotation and xor of a word is the kernel's turn. -/
theorem turn_host (r l : BitVec 32) (x y : IVec S32x1000000 32) (i : S32x1000000.Idx) :
    xori y (ori (Host.shli x (broadcastInDim S32x1000000 ![] bcast_S_S32x1000000 (constantI S_ 32 r)))
      (Host.shrui x (broadcastInDim S32x1000000 ![] bcast_S_S32x1000000 (constantI S_ 32 l)))) i = turnS r l (x i) (y i) := by
  rw [hostShli_eq_shli, hostShrui_eq_shrui]
  exact BitVec.xor_comm _ _

/-- The reference's counters. -/
theorem ref_count {F : FTy → Type} [FloatOps F] (V : Valuation τ sig (Elt F)) (i : S32x1000000.Idx) :
    res_main_v31 V i = BitVec.ofNat 32 ((i 0).val * 1000000 + (i 1).val + 1) := by
  show BitVec.ofNat 32 (i 0).val * BitVec.ofNat 32 1000000 + BitVec.ofNat 32 (i 1).val + BitVec.ofNat 32 1 = _
  rw [← BitVec.ofNat_mul, ← BitVec.ofNat_add, ← BitVec.ofNat_add]

/-- The first key is zero. -/
theorem ref_count' {F : FTy → Type} [FloatOps F] (V : Valuation τ sig (Elt F)) (i : S32x1000000.Idx) :
    res_main_v32 V i = res_main_v31 V i := by
  show (0#32 + 0#32) + res_main_v31 V i = _
  rw [BitVec.add_zero, BitVec.zero_add]

/-- The reference's words, as its run leaves them. -/
def refBits {F : FTy → Type} [FloatOps F] (V : Valuation τ sig (Elt F)) : IVec S32x1000000 32 :=
  xori (addi (res_main_v181 V) (broadcastInDim S32x1000000 ![] bcast_S_S32x1000000 (constantI S_ 32 466688987#32)))
    (addi (xori (res_main_v181 V) (ori (Host.shli (res_main_v180 V) (broadcastInDim S32x1000000 ![] bcast_S_S32x1000000 (constantI S_ 32 6#32)))
      (Host.shrui (res_main_v180 V) (broadcastInDim S32x1000000 ![] bcast_S_S32x1000000 (constantI S_ 32 26#32)))))
      (broadcastInDim S32x1000000 ![] bcast_S_S32x1000000 (constantI S_ 32 5#32)))

/-- The reference's word at an entry is the generator's at that entry's counter. -/
theorem refBits_apply {F : FTy → Type} [FloatOps F] (V : Valuation τ sig (Elt F)) (i : S32x1000000.Idx) :
    refBits V i = mixS (BitVec.ofNat 32 ((i 0).val * 1000000 + (i 1).val + 1)) := by
  rw [← ref_count V i]
  symm
  unfold mixS
  have t38 : res_main_v38 V i = turnS 13#32 19#32 (res_main_v31 V i) (res_main_v31 V i) :=
    (turn_host _ _ _ _ i).trans (by rw [ref_count'])
  have t39 : res_main_v39 V i = IntOp.addi (res_main_v31 V i) (res_main_v38 V i) := by
    rw [← ref_count']; rfl
  rw [← t38]
  refine (roundS_eq (c := res_main_v39 V i) (d := res_main_v45 V i) t39 (turn_host _ _ _ _ i)).trans ?_
  refine (roundS_eq (c := res_main_v46 V i) (d := res_main_v52 V i) rfl (turn_host _ _ _ _ i)).trans ?_
  refine (roundS_eq (c := res_main_v53 V i) rfl rfl).trans ?_
  refine (injectS_eq (d := res_main_v63 V i) rfl (congrArg (IntOp.addi · _) (turn_host _ _ _ _ i))).trans ?_
  refine (roundS_eq (c := res_main_v64 V i) (d := res_main_v70 V i) rfl (turn_host _ _ _ _ i)).trans ?_
  refine (roundS_eq (c := res_main_v71 V i) (d := res_main_v77 V i) rfl (turn_host _ _ _ _ i)).trans ?_
  refine (roundS_eq (c := res_main_v78 V i) (d := res_main_v84 V i) rfl (turn_host _ _ _ _ i)).trans ?_
  refine (roundS_eq (c := res_main_v85 V i) rfl rfl).trans ?_
  refine (injectS_eq (d := res_main_v95 V i) rfl (congrArg (IntOp.addi · _) (turn_host _ _ _ _ i))).trans ?_
  refine (roundS_eq (c := res_main_v96 V i) (d := res_main_v102 V i) rfl (turn_host _ _ _ _ i)).trans ?_
  refine (roundS_eq (c := res_main_v103 V i) (d := res_main_v109 V i) rfl (turn_host _ _ _ _ i)).trans ?_
  refine (roundS_eq (c := res_main_v110 V i) (d := res_main_v116 V i) rfl (turn_host _ _ _ _ i)).trans ?_
  refine (roundS_eq (c := res_main_v117 V i) rfl rfl).trans ?_
  refine (injectS_eq (d := res_main_v127 V i) rfl (congrArg (IntOp.addi · _) (turn_host _ _ _ _ i))).trans ?_
  refine (roundS_eq (c := res_main_v128 V i) (d := res_main_v134 V i) rfl (turn_host _ _ _ _ i)).trans ?_
  refine (roundS_eq (c := res_main_v135 V i) (d := res_main_v141 V i) rfl (turn_host _ _ _ _ i)).trans ?_
  refine (roundS_eq (c := res_main_v142 V i) (d := res_main_v148 V i) rfl (turn_host _ _ _ _ i)).trans ?_
  refine (roundS_eq (c := res_main_v149 V i) rfl rfl).trans ?_
  refine (injectS_eq (d := res_main_v159 V i) rfl (congrArg (IntOp.addi · _) (turn_host _ _ _ _ i))).trans ?_
  refine (roundS_eq (c := res_main_v160 V i) (d := res_main_v166 V i) rfl (turn_host _ _ _ _ i)).trans ?_
  refine (roundS_eq (c := res_main_v167 V i) (d := res_main_v173 V i) rfl (turn_host _ _ _ _ i)).trans ?_
  refine (roundS_eq (c := res_main_v174 V i) (d := res_main_v180 V i) rfl (turn_host _ _ _ _ i)).trans ?_
  refine (roundS_eq (c := res_main_v181 V i) rfl rfl).trans ?_
  exact (injectS_eq rfl
    (congrArg (IntOp.addi · 5#32) (turn_host 6#32 26#32 (res_main_v180 V) (res_main_v181 V) i))).trans rfl

end reference

end Cert.Alg

end
-- ==== Proof.KernelIdealRoll.lean ====
/- The printed kernels are the rolled ones (Roll.lean), by unfolding. -/
module

public import proofs.«01_k».proof.KernelIdeal
public import proofs.«01_k».proof.Proof.Roll

@[expose] public section

set_option maxRecDepth 100000
set_option maxHeartbeats 8000000

noncomputable section

namespace Cert.KernelIdeal

open Idealize.ShloMosaic Idealize.SL.Sem

variable {F : FTy → Type} [FloatOps F] [Named F] [Facts]

/-- The statistics kernel. -/
theorem stats_eq (i : grid0.Coords) (arg1 : Memref sig .tc .vmem S32x32768 .f32) (harg1 : arg1.IsWhole)
    (arg2 : Memref sig .tc .vmem S32x4 .f32) (harg2 : arg2.IsWhole) (arg3 : Memref sig .tc .vmem S32x128 .f32)
    (harg3 : arg3.IsWhole) (arg4 : Memref sig .tc .vmem S32x128 .f32) (harg4 : arg4.IsWhole)
    (arg5 : Memref sig .tc .vmem S32x128 .f32) (harg5 : arg5.IsWhole) (arg6 : Memref sig .tc .vmem S32x128 .f32)
    (harg6 : arg6.IsWhole) :
    cc0__stats_kernel (F := F) i arg1 harg1 arg2 harg2 arg3 harg3 arg4 harg4 arg5 harg5 arg6 harg6
      = Roll.stats arg1 arg2 arg3 arg4 arg5 arg6 (Named.named κ "root_span" 0x3F72DCE8#32)
          (BitVec.ofNat 32 (i 0).val) := by
  unfold cc0__stats_kernel Roll.stats
  rfl

/-- The sampling kernel. -/
theorem sample_eq (i : grid1.Coords) (arg1 : Memref sig .tc .vmem S32x32768 .f32) (harg1 : arg1.IsWhole)
    (arg2 : Memref sig .tc .vmem S32x4 .f32) (harg2 : arg2.IsWhole) (arg3 : Memref sig .tc .vmem S32x32768 .f32)
    (harg3 : arg3.IsWhole) (arg4 : Memref sig .tc .vmem S32x1 .i32) (harg4 : arg4.IsWhole)
    (arg5 : Memref sig .tc .vmem S32x128 .f32) (harg5 : arg5.IsWhole) (arg6 : Memref sig .tc .vmem S32x128 .f32)
    (harg6 : arg6.IsWhole) (arg7 : Memref sig .tc .vmem S32x128 .i32) (harg7 : arg7.IsWhole) :
    cc1__main_kernel (F := F) i arg1 harg1 arg2 harg2 arg3 harg3 arg4 harg4 arg5 harg5 arg6 harg6 arg7 harg7
      = Roll.sample arg1 arg2 arg3 arg4 arg5 arg6 arg7 (BitVec.ofNat 32 (i 0).val) := by
  unfold cc1__main_kernel Roll.sample
  rfl

end Cert.KernelIdeal
-- ==== Proof.KernelIdealFirst.lean ====
/- The statistics region: what its buffers hold along the grid, and its body's obligation. -/
module

public import proofs.«01_k».proof.Proof.KernelIdealRoll
public import proofs.«01_k».proof.Proof.State
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.TableIdle
public import Idealize.ShloMosaic.Lib.Tactic

@[expose] public section

noncomputable section

namespace Cert.KernelIdeal.Own

open Cert.KernelIdeal Cert.KernelIdeal.Gen Cert.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ (UR sig nD τ) ℕ

/-- The buffers' contents at a region's entry. -/
abbrev Vals : Type := (c : Dev nD) → (b : Ref sig .tc) → Buf (Elt F) ((c : Thread nD τ).loc b)

/-- The kernel's variants: none. -/
abbrev 𝒱₀ : Variants := Variants.none

/-- The constant the kernel multiplies by: the root of the span of the probabilities. -/
def root : F .f32 := Named.named κ "root_span" 0x3F72DCE8#32

/-! ## The grid -/

/-- A point's coordinate is its place in the grid. -/
theorem coord0 : ∀ t : Fin grid0.N, (grid0.coords t 0).val = t.val := by decide

/-- The statistics are moved at the last point only. -/
theorem idle0_1 : ∀ t : Fin grid0.N, idle0 1 (grid0.coords t) = !(decide (t.val = 30)) := by decide

/-- A block has every row. -/
theorem xsize_row : ∀ t : Fin grid0.N, win0_0.xsize (grid0.coords t) 0 = 32 := by decide

/-- A block's columns, cut off at the array's end. -/
theorem xsize_col : ∀ t : Fin grid0.N, win0_0.xsize (grid0.coords t) 1 = min 32768 (1000000 - t.val * 32768) := by decide

/-- Every block starts at the first row. -/
theorem index_row : ∀ t : Fin grid0.N, win0_0.index t 0 = 0 := by decide

/-- Block `t` is the `t`-th of the columns. -/
theorem index_col : ∀ t : Fin grid0.N, win0_0.index t 1 = t.val := by decide

/-- There are 31 points. -/
theorem lt31 (t : Fin grid0.N) : t.val < 31 := N_0 ▸ t.isLt

/-- The columns a transfer moves are those inside the array. -/
theorem moved_iff (t : Fin grid0.N) (j : SBlk.Idx) :
    win0_0.moved (grid0.coords t) j = true ↔ t.val * 32768 + (j 1).val < 1000000 := by
  have h0 : (j 0).val < 32 := (j 0).isLt
  have h1 : (j 1).val < 32768 := (j 1).isLt
  rw [win0_0.moved_iff]
  constructor
  · intro h
    have h := h 1
    rw [xsize_col] at h
    have : (j 1).val < min 32768 (1000000 - t.val * 32768) := h
    omega
  · intro h a
    match a with
    | ⟨0, _⟩ => show (j 0).val < win0_0.xsize (grid0.coords t) 0; rw [xsize_row]; exact h0
    | ⟨1, _⟩ => show (j 1).val < win0_0.xsize (grid0.coords t) 1; rw [xsize_col]; omega

/-- A fetch leaves the block, on the columns inside the array. -/
theorem fill_agrees (t : Fin grid0.N) (A : SA.Idx → F .f32) (d : SBlk.Idx → F .f32) :
    Agrees t.val (win0_0.fill (grid0.coords t) d ((win0_0.blk t).view.read (Elt F) A)) (blkOf A t.val) := by
  intro j hj
  unfold Window.fill blkOf
  rw [dif_pos ((moved_iff t j).mpr hj), dif_pos hj]
  show A ((win0_0.rect t).emb _) = _
  refine congrArg A (idx_ext (m := 32) (n := 1000000) ?_ ?_)
  · show win0_0.index t 0 * 32 + 1 * (j 0).val = (j 0).val
    rw [index_row]; omega
  · show win0_0.index t 1 * 32768 + 1 * (j 1).val = t.val * 32768 + (j 1).val
    rw [index_col]; omega

/-- A transfer moves no more of a block than the columns inside the array. -/
theorem cut_congr {α : Type} (t : Fin grid0.N) {X Y : SBlk.Idx → α}
    (h : ∀ j : SBlk.Idx, t.val * 32768 + (j 1).val < 1000000 → X j = Y j) :
    win0_0.cut (grid0.coords t) X = win0_0.cut (grid0.coords t) Y :=
  funext fun j => h _ ((moved_iff t _).mp (win0_0.moved_xinj _ j))

/-- Block `t` of the gradient, cut off at the array's end, is what the transfer reads. -/
theorem cut_blk (t : Fin grid0.N) (A : SA.Idx → F .f32) :
    win0_0.cut (grid0.coords t) (blkOf A t.val) = (win0_0.blk t).view.read (Elt F) A :=
  (cut_congr t (fill_agrees t A (blkOf A t.val))).symm.trans (win0_0.cut_fill _ _ _)

/-! ## The region's data -/

/-- The scoped buffers the region neither stages nor accumulates in. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ f : Buf (Elt F) ((c : Thread nD τ).loc cc1_scratch2), ((c : Thread nD τ).loc cc1_scratch2) ↦{fullShare} f))

/-- The four accumulators at `a`. -/
def scr0 (c : Dev nD) (a : Acc F) : sProp 𝕄 :=
  ownAcc c (Memref.whole cc0_scratch0) (Memref.whole cc0_scratch1) (Memref.whole cc0_scratch2) (Memref.whole cc0_scratch3) a

/-- The accumulators before point `n`: at the first anything, then what the points before left. -/
def inv0 (c : Dev nD) (A : SA.Idx → F .f32) (n : Nat) : sProp 𝕄 :=
  iprop((∃ a : Acc F, ⌜0 < n → a = accAt A n⌝ ∗ scr0 c a) ∗ rest0 (F := F) c)

/-- The region's data. -/
def dat0 (V : Vals (F := F)) (c : Dev nD) : Dat τ (Elt F) Unit ℕ (UR sig nD τ) ℕ cfg0 c where
  A w := V c (Pipeline.arrRef spec0 w)
  after w t := match w with
    | ⟨0, _⟩ => blkOf (V c main_arg0) t.val
    | ⟨1, _⟩ => stat (root (F := F)) (V c main_arg0)
  Φ n := inv0 c (V c main_arg0) n.val
  q _ := fullShare
  owed _ := 0

variable (V : Vals (F := F))

/-- What the block's buffer holds before a point: the block over what was there. -/
theorem before0_0 (c : Dev nD) (t : Fin cfg0.N) (d) : (dat0 V c).before (0 : Fin 2) t d
    = win0_0.fill (grid0.coords t) d ((win0_0.blk t).view.read (Elt F) (V c main_arg0)) := by
  unfold Dat.before; rw [if_pos (fetch0_0 t)]; rfl

/-- The statistics' buffer is as the point before left it. -/
theorem before0_1 (c : Dev nD) (t : Fin cfg0.N) (d) : (dat0 V c).before (1 : Fin 2) t d = d := by
  have h31 := lt31 t
  rw [(dat0 V c).before_idle_run (1 : Fin 2) (fun t => (cfg0.win 1).fetch_out rfl t) d t.val t le_rfl (fun j _ hj => by
    refine ⟨?_, ?_⟩
    · show idle0 1 (grid0.coords j) = true
      rw [idle0_1, decide_eq_false (by omega)]; rfl
    · rw [← Bool.not_eq_true, flush0_1]; omega)]
  exact (dat0 V c).before_out_reset (1 : Fin 2) rfl _ (.inl (Nat.sub_self _)) d

/-- The body, at any staging buffers. -/
theorem sound0 (c : Dev nD) (E : Set ℕ) (t : Fin grid0.N) (a1 : Memref sig .tc .vmem S32x32768 .f32) (h1 : a1.IsWhole)
    (a2 : Memref sig .tc .vmem S32x4 .f32) (h2 : a2.IsWhole) (X : SBlk.Idx → F .f32) (S : SQ.Idx → F .f32) (a : Acc F)
    (K : PUnit → sProp 𝕄) :
    iprop((owns (c : Thread nD τ) a1 fullShare X ∗ owns (c : Thread nD τ) a2 fullShare S ∗ scr0 c a)
        ∗ ((owns (c : Thread nD τ) a1 fullShare X
            ∗ owns (c : Thread nD τ) a2 fullShare
                (statsAfter (root (F := F)) (BitVec.ofNat 32 t.val) (accStep (BitVec.ofNat 32 t.val) X a) S)
            ∗ scr0 c (accStep (BitVec.ofNat 32 t.val) X a)) -∗ K ⟨⟩))
      ⊢ wp frame (wpE (defs₀ (F := F)) 𝒱₀ (c : Thread nD τ) none) E
          (cc0__stats_kernel (grid0.coords t) a1 h1 a2 h2 (Memref.whole cc0_scratch0) (Memref.isWhole_whole _)
            (Memref.whole cc0_scratch1) (Memref.isWhole_whole _) (Memref.whole cc0_scratch2) (Memref.isWhole_whole _)
            (Memref.whole cc0_scratch3) (Memref.isWhole_whole _)) K := by
  rw [stats_eq, coord0]
  exact wp_stats (F := F) (U := UR sig nD τ) (defs := defs₀ (F := F)) 𝒱₀ c E a1 a2 (Memref.whole cc0_scratch0)
    (Memref.whole cc0_scratch1) (Memref.whole cc0_scratch2) (Memref.whole cc0_scratch3) root (BitVec.ofNat 32 t.val) X S a

/-- The body's obligation. -/
theorem body0 (c : Dev nD) : BodyObligationLoose (dat0 V c) (defs₀ (F := F)) 𝒱₀ () Set.univ := fun t => by
  have h31 : t.val < 31 := lt31 t
  rw [bigSep_W0, bigSep_W0]
  simp only
  rw [show (dat0 V c).Φ t.castSucc = inv0 c (V c main_arg0) t.val from rfl,
    show (dat0 V c).Φ t.succ = inv0 c (V c main_arg0) (t.val + 1) from rfl,
    show (dat0 V c).owesAt () t.succ = (dat0 V c).owesAt () t.castSucc from rfl]
  unfold inv0
  iintro ⟨⟨⟨%a, %ha, Hs⟩, Hr⟩, Ho, ⟨%d0, H0⟩, ⟨%d1, H1⟩⟩
  rw [before0_0 V c t d0, before0_1 V c t d1]
  have hX := fill_agrees t (V c main_arg0) d0
  iapply (sound0 (F := F) c Set.univ t (win0_0.stage (cfg0.slots t 0)) (hstage0_0 ((cfg0.slots t 0).cast nbuf0_0))
    (win0_1.stage (cfg0.slots t 1)) (hstage0_1 ((cfg0.slots t 1).cast nbuf0_1)) _ d1 a _)
  isplitl [H0 H1 Hs]
  · isplitl [H0]; · iexact H0
    isplitl [H1]; · iexact H1
    iexact Hs
  rw [accStep_at h31 hX ha]
  iintro ⟨H0, H1, Hs⟩
  isplitl [Hs Hr]
  · isplitl [Hs]
    · iexists accAt (V c main_arg0) (t.val + 1)
      isplitr; · ipureintro; exact fun _ => rfl
      iexact Hs
    iexact Hr
  isplitl [Ho]; · iexact Ho
  isplitl [H0]
  · iexists d0
    change _ ⊢ owns (c : Thread nD τ) (stage0_0 (cfg0.slots t 0)) fullShare (win0_0.fill (grid0.coords t) d0 (win0_0.cut (grid0.coords t) (blkOf (V c main_arg0) t.val)))
    rw [cut_blk]; try iexact H0
  by_cases h30 : t.val = 30
  · have hi : idle0 1 (grid0.coords t) = false := by rw [idle0_1, decide_eq_true h30]; rfl
    rw [hi, h30, statsAfter_last]
    iexact H1
  · have hi : idle0 1 (grid0.coords t) = true := by rw [idle0_1, decide_eq_false h30]; rfl
    have hf : (win0 1).flush t = false := by
      rw [← Bool.not_eq_true]; exact fun h => h30 (by have := (flush0_1 t).mp h; omega)
    rw [hi, hf, statsAfter_ne _ h31 h30]
    iexists d1
    rw [before0_1 V c t d1]
    iexact H1

end Cert.KernelIdeal.Own
-- ==== Proof.KernelIdealSecond.lean ====
/- The sampling region: what its buffers hold along the grid, and its body's obligation. -/
module

public import proofs.«01_k».proof.Proof.KernelIdealFirst

@[expose] public section

noncomputable section

namespace Cert.KernelIdeal.Own

open Cert.KernelIdeal Cert.KernelIdeal.Gen Cert.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ (UR sig nD τ) ℕ

/-- The columns are moved at the last point only. -/
theorem idle1_3 : ∀ t : Fin grid1.N, idle1 3 (grid1.coords t) = !(decide (t.val = 30)) := by decide

/-- The scoped buffers the region neither stages nor accumulates in. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The lanes' best at `b`. -/
def scr1 (c : Dev nD) (b : Best F) : sProp 𝕄 :=
  ownBest c (Memref.whole cc1_scratch0) (Memref.whole cc1_scratch1) (Memref.whole cc1_scratch2) b

/-- The lanes' best before point `n`: at the first anything, then what the points before left. -/
def inv1 (c : Dev nD) (A : SA.Idx → F .f32) (S : SQ.Idx → F .f32) (n : Nat) : sProp 𝕄 :=
  iprop((∃ b : Best F, ⌜0 < n → b = bestAt A S n⌝ ∗ scr1 c b) ∗ rest1 (F := F) c)

/-- Block `n` of the probabilities. -/
def probBlk (A : SA.Idx → F .f32) (S : SQ.Idx → F .f32) (n : Nat) : SBlk.Idx → F .f32 := probsOf S (blkOf A n) (blkOf A n)

/-- The region's data. -/
def dat1 (V : Vals (F := F)) (c : Dev nD) : Dat τ (Elt F) Unit ℕ (UR sig nD τ) ℕ cfg1 c where
  A w := V c (Pipeline.arrRef spec1 w)
  after w t := match w with
    | ⟨0, _⟩ => blkOf (V c main_arg0) t.val
    | ⟨1, _⟩ => V c main_v0
    | ⟨2, _⟩ => probBlk (V c main_arg0) (V c main_v0) t.val
    | ⟨3, _⟩ => pick (bestAt (V c main_arg0) (V c main_v0) 31)
  Φ n := inv1 c (V c main_arg0) (V c main_v0) n.val
  q _ := fullShare
  owed _ := 0

variable (V : Vals (F := F))

/-- What the block's buffer holds before a point: the block over what was there. -/
theorem before1_0 (c : Dev nD) (t : Fin cfg1.N) (d) : (dat1 V c).before (0 : Fin 4) t d
    = win0_0.fill (grid0.coords t) d ((win0_0.blk t).view.read (Elt F) (V c main_arg0)) := by
  unfold Dat.before; rw [if_pos (fetch1_0 t)]; rfl

/-- The statistics have one block. -/
theorem index1_1 : ∀ (t : Fin grid1.N) (a : Fin 2), win1_1.index t a = 0 := by decide

/-- The statistics' one block is the whole array. -/
theorem read1_1 (t : Fin grid1.N) (S : SQ.Idx → F .f32) : (win1_1.blk t).view.read (Elt F) S = S := by
  funext j
  show S ((win1_1.rect t).emb j) = S j
  refine congrArg S (idx_ext (m := 32) (n := 4) ?_ ?_)
  · show win1_1.index t 0 * 32 + 1 * (j 0).val = (j 0).val
    rw [index1_1]; omega
  · show win1_1.index t 1 * 4 + 1 * (j 1).val = (j 1).val
    rw [index1_1]; omega

/-- The statistics' buffer holds the statistics. -/
theorem before1_1 (c : Dev nD) (t : Fin cfg1.N) (d) : (dat1 V c).before (1 : Fin 4) t d = V c main_v0 := by
  rw [(dat1 V c).before_in_eq_fetched (1 : Fin 4) rfl (fun _ => rfl) (fun _ _ _ => rfl)
    (fun t => (read1_1 t (V c main_v0)).symm) t d]
  exact read1_1 t (V c main_v0)

/-- The probabilities' buffer starts afresh at every point. -/
theorem before1_2 (c : Dev nD) (t : Fin cfg1.N) (d) : (dat1 V c).before (2 : Fin 4) t d = d := by
  refine (dat1 V c).before_out_reset (2 : Fin 4) rfl t ?_ d
  by_cases h : t.val = 0
  · exact .inl h
  · exact .inr ⟨h, flush1_2 _⟩

/-- The columns' buffer is as the point before left it. -/
theorem before1_3 (c : Dev nD) (t : Fin cfg1.N) (d) : (dat1 V c).before (3 : Fin 4) t d = d := by
  have h31 := lt31 t
  rw [(dat1 V c).before_idle_run (3 : Fin 4) (fun t => (cfg1.win 3).fetch_out rfl t) d t.val t le_rfl (fun j _ hj => by
    refine ⟨?_, ?_⟩
    · show idle1 3 (grid1.coords j) = true
      rw [idle1_3, decide_eq_false (by omega)]; rfl
    · rw [← Bool.not_eq_true, flush1_3]; omega)]
  exact (dat1 V c).before_out_reset (3 : Fin 4) rfl _ (.inl (Nat.sub_self _)) d

/-- The body, at any staging buffers. -/
theorem sound1 (c : Dev nD) (E : Set ℕ) (t : Fin grid1.N) (a1 : Memref sig .tc .vmem S32x32768 .f32) (h1 : a1.IsWhole)
    (a2 : Memref sig .tc .vmem S32x4 .f32) (h2 : a2.IsWhole) (a3 : Memref sig .tc .vmem S32x32768 .f32) (h3 : a3.IsWhole)
    (a4 : Memref sig .tc .vmem S32x1 .i32) (h4 : a4.IsWhole) (X : SBlk.Idx → F .f32) (S : SQ.Idx → F .f32)
    (Y : SBlk.Idx → F .f32) (Z : IVec SC 32) (b : Best F) (K : PUnit → sProp 𝕄) :
    iprop((owns (c : Thread nD τ) a1 fullShare X ∗ owns (c : Thread nD τ) a2 fullShare S
          ∗ owns (c : Thread nD τ) a3 fullShare Y ∗ owns (c : Thread nD τ) a4 fullShare Z ∗ scr1 c b)
        ∗ ((owns (c : Thread nD τ) a1 fullShare X ∗ owns (c : Thread nD τ) a2 fullShare S
            ∗ owns (c : Thread nD τ) a3 fullShare (probsOf S X Y)
            ∗ owns (c : Thread nD τ) a4 fullShare
                (pickAfter (BitVec.ofNat 32 t.val) (bestStep (BitVec.ofNat 32 t.val) S X b) Z)
            ∗ scr1 c (bestStep (BitVec.ofNat 32 t.val) S X b)) -∗ K ⟨⟩))
      ⊢ wp frame (wpE (defs₀ (F := F)) 𝒱₀ (c : Thread nD τ) none) E
          (cc1__main_kernel (grid1.coords t) a1 h1 a2 h2 a3 h3 a4 h4 (Memref.whole cc1_scratch0) (Memref.isWhole_whole _)
            (Memref.whole cc1_scratch1) (Memref.isWhole_whole _) (Memref.whole cc1_scratch2) (Memref.isWhole_whole _)) K := by
  rw [sample_eq, show (grid1.coords t 0).val = t.val from coord0 t]
  exact wp_sample (F := F) (U := UR sig nD τ) (defs := defs₀ (F := F)) 𝒱₀ c E a1 a2 a3 a4 (Memref.whole cc1_scratch0)
    (Memref.whole cc1_scratch1) (Memref.whole cc1_scratch2) (BitVec.ofNat 32 t.val) X S Y Z b

/-- A buffer agreeing with `Y` on the columns inside the array is, on what the transfer moves, at `Y`. -/
theorem keep_cut (c : Dev nD) (t : Fin grid0.N) (M : Memref sig .tc .vmem S32x32768 .f32) {X Y : SBlk.Idx → F .f32}
    (h : Agrees t.val X Y) : owns (c : Thread nD τ) M fullShare X
      ⊢ (iprop(∃ d : SBlk.Idx → F .f32, owns (c : Thread nD τ) M fullShare
          (win0_0.fill (grid0.coords t) d (win0_0.cut (α := F .f32) (grid0.coords t) Y))) : sProp 𝕄) := by
  iintro H
  iexists X
  rw [win0_0.fill_congr_cut (grid0.coords t) (cut_congr t h)]
  iexact H

set_option maxHeartbeats 1000000 in
/-- The body's obligation. -/
theorem body1 (c : Dev nD) : BodyObligationLoose (dat1 V c) (defs₀ (F := F)) 𝒱₀ () Set.univ := fun t => by
  have h31 : t.val < 31 := lt31 t
  rw [bigSep_W1, bigSep_W1]
  simp only
  rw [show (dat1 V c).Φ t.castSucc = inv1 c (V c main_arg0) (V c main_v0) t.val from rfl,
    show (dat1 V c).Φ t.succ = inv1 c (V c main_arg0) (V c main_v0) (t.val + 1) from rfl,
    show (dat1 V c).owesAt () t.succ = (dat1 V c).owesAt () t.castSucc from rfl]
  unfold inv1
  iintro ⟨⟨⟨%b, %hb, Hs⟩, Hr⟩, Ho, ⟨%d0, H0⟩, ⟨%d1, H1⟩, ⟨%d2, H2⟩, ⟨%d3, H3⟩⟩
  rw [before1_0 V c t d0, before1_1 V c t d1, before1_2 V c t d2, before1_3 V c t d3]
  have hX := fill_agrees t (V c main_arg0) d0
  iapply (sound1 (F := F) c Set.univ t (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3)) _ (V c main_v0) d2 d3 b _)
  isplitl [H0 H1 H2 H3 Hs]
  · isplitl [H0]; · iexact H0
    isplitl [H1]; · iexact H1
    isplitl [H2]; · iexact H2
    isplitl [H3]; · iexact H3
    iexact Hs
  rw [bestStep_at h31 hX hb]
  iintro ⟨H0, H1, H2, H3, Hs⟩
  isplitl [Hs Hr]
  · isplitl [Hs]
    · iexists bestAt (V c main_arg0) (V c main_v0) (t.val + 1)
      isplitr; · ipureintro; exact fun _ => rfl
      iexact Hs
    iexact Hr
  isplitl [Ho]; · iexact Ho
  isplitl [H0]
  · iexists d0
    change _ ⊢ owns (c : Thread nD τ) (stage1_0 (cfg1.slots t 0)) fullShare (win0_0.fill (grid0.coords t) d0 (win0_0.cut (grid0.coords t) (blkOf (V c main_arg0) t.val)))
    rw [cut_blk]; try iexact H0
  isplitl [H1]; · iexact H1
  isplitl [H2]
  · iapply (keep_cut (F := F) c t (stage1_2 (cfg1.slots t 2)) (probsOf_congr (V c main_v0) hX d2 (blkOf (V c main_arg0) t.val)))
    iexact H2
  by_cases h30 : t.val = 30
  · have hi : idle1 3 (grid1.coords t) = false := by rw [idle1_3, decide_eq_true h30]; rfl
    rw [hi, h30, pickAfter_last]
    iexact H3
  · have hi : idle1 3 (grid1.coords t) = true := by rw [idle1_3, decide_eq_false h30]; rfl
    have hf : (win1 3).flush t = false := by
      rw [← Bool.not_eq_true]; exact fun h => h30 (by have := (flush1_3 t).mp h; omega)
    rw [hi, hf, pickAfter_ne h31 h30]
    iexists d3
    rw [before1_3 V c t d3]
    iexact H3

end Cert.KernelIdeal.Own
-- ==== Proof.KernelIdealRegions.lean ====
/- The two regions' records over the buffers' contents at their entries. -/
module

public import proofs.«01_k».proof.Proof.KernelIdealSecond
public import proofs.«01_k».proof.Proof.Gen.KernelIdeal.Regions
public import Idealize.ShloMosaic.Lib.Pipeline.RegionsLoop

@[expose] public section

noncomputable section

namespace Cert.KernelIdeal.Own

open Cert.KernelIdeal Cert.KernelIdeal.Gen Cert.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ (UR sig nD τ) ℕ

/-- No core owes another anything: no level is assigned. -/
abbrev L : GSem nD τ sig → Finset Unit := fun _ => ∅

/-- No semaphore has a level. -/
abbrev lv : GSem nD τ sig → Unit → ℕ := fun _ _ => 0

/-- The two regions' data, from the contents at each one's entry. -/
def pdats (Va Vb : Vals (F := F)) : (p : Fin 2) → (c : Dev nD) → Dat τ (Elt F) Unit ℕ (UR sig nD τ) ℕ (cfgs p) c
  | ⟨0, _⟩ => fun c => dat0 Va c
  | ⟨1, _⟩ => fun c => dat1 Vb c

variable (Va Vb Vp : Vals (F := F))

/-- What the scoped buffers hold on entry is the first point's invariant. -/
theorem enter0 (c : Dev nD) (A : SA.Idx → F .f32) :
    (Pipeline.scopedRest (Ix := Unit) (Name := ℕ) (U := UR sig nD τ) (Lvl := ℕ) (Val := Elt F) spec0 c : sProp 𝕄) ⊢ inv0 c A 0 := by
  rw [scopedRest0_eq]
  unfold inv0 scr0 ownAcc rest0
  simp only [owns_whole_eq]
  iintro ⟨⟨%f0, H0⟩, ⟨%f1, H1⟩, ⟨%f2, H2⟩, ⟨%f3, H3⟩, Hr⟩
  isplitl [H0 H1 H2 H3]
  · iexists (⟨f0, f1, f2, f3⟩ : Acc F)
    isplitr; · ipureintro; exact fun h => absurd h (Nat.lt_irrefl 0)
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    iexists f3; isplitr; · ipureintro; rfl
    iexact H3
  iexact Hr

/-- After the walk the first region gives its buffers back. -/
theorem leave0 (c : Dev nD) (A : SA.Idx → F .f32) (n : Nat) : inv0 c A n
    ⊢ (Pipeline.scopedRest (Ix := Unit) (Name := ℕ) (U := UR sig nD τ) (Lvl := ℕ) (Val := Elt F) spec0 c : sProp 𝕄) := by
  rw [scopedRest0_eq]
  unfold inv0 scr0 ownAcc rest0
  simp only [owns_whole_eq]
  iintro ⟨⟨%a, -, ⟨%f0, -, H0⟩, ⟨%f1, -, H1⟩, ⟨%f2, -, H2⟩, ⟨%f3, -, H3⟩⟩, Hr⟩
  isplitl [H0]; · iexists f0; iexact H0
  isplitl [H1]; · iexists f1; iexact H1
  isplitl [H2]; · iexists f2; iexact H2
  isplitl [H3]; · iexists f3; iexact H3
  iexact Hr

/-- The second region's buffers hold nothing before its walk. -/
theorem enter1 (c : Dev nD) (A : SA.Idx → F .f32) (S : SQ.Idx → F .f32) :
    (Pipeline.scopedRest (Ix := Unit) (Name := ℕ) (U := UR sig nD τ) (Lvl := ℕ) (Val := Elt F) spec1 c : sProp 𝕄) ⊢ inv1 c A S 0 := by
  rw [scopedRest1_eq]
  unfold inv1 scr1 ownBest rest1
  simp only [owns_whole_eq]
  iintro ⟨R0, R1, R2, R3, R4, R5, R6, ⟨%f0, H0⟩, ⟨%f1, H1⟩, ⟨%f2, H2⟩⟩
  isplitl [H0 H1 H2]
  · iexists (⟨f0, f1, f2⟩ : Best F)
    isplitr; · ipureintro; exact fun h => absurd h (Nat.lt_irrefl 0)
    isplitl [H0]; · iexists f0; isplitr; · ipureintro; rfl
                    iexact H0
    isplitl [H1]; · iexists f1; isplitr; · ipureintro; rfl
                    iexact H1
    iexists f2; isplitr; · ipureintro; rfl
    iexact H2
  isplitl [R0]; · iexact R0
  isplitl [R1]; · iexact R1
  isplitl [R2]; · iexact R2
  isplitl [R3]; · iexact R3
  isplitl [R4]; · iexact R4
  isplitl [R5]; · iexact R5
  iexact R6

/-- After the walk the second region gives its buffers back. -/
theorem leave1 (c : Dev nD) (A : SA.Idx → F .f32) (S : SQ.Idx → F .f32) (n : Nat) : inv1 c A S n
    ⊢ (Pipeline.scopedRest (Ix := Unit) (Name := ℕ) (U := UR sig nD τ) (Lvl := ℕ) (Val := Elt F) spec1 c : sProp 𝕄) := by
  rw [scopedRest1_eq]
  unfold inv1 scr1 ownBest rest1
  simp only [owns_whole_eq]
  iintro ⟨⟨%b, -, ⟨%f0, -, H0⟩, ⟨%f1, -, H1⟩, ⟨%f2, -, H2⟩⟩, R0, R1, R2, R3, R4, R5, R6⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [H0]; · iexists f0; iexact H0
  isplitl [H1]; · iexists f1; iexact H1
  iexists f2; iexact H2

set_option backward.isDefEq.respectTransparency.types false in
/-- The statistics region: from the buffers at `Va` to the buffers at `Vp`, which differs at the result only. -/
def reg0 (hout : ∀ c, Vp c main_v0 = (dat0 Va c).arrAt 1 cfg0.N)
    (hne : ∀ c (b : Ref sig .tc), b ≠ main_v0 → Vp c b = Va c b) :
    Pipeline.RegionSeg (pcfgs (F := F)) adm (pdats Va Vb) () defs₀ 𝒱₀ L lv 0 where
  win := launch0.win.to₀
  block_pos := launch0.block_pos
  stage_whole := launch0.stage_whole
  K := PEmpty
  osem k := k.elim
  ho := Pipeline.OwnSemFacts.none _
  hbody c := body0 Va c
  hwaits := Pipeline.hwaits_of_owed_zero _ _ _ _ L lv 0 fun _ _ => rfl
  pre c := iprop(unscopedBufs c (Va c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (Va c)
  hentry c := by
    rw [Pipeline.ownSems0_none]
    have hsplit := Pipeline.arrays_of_unscopedBufs (p := 0) (pcfgs (F := F)) adm (pdats Va Vb) launch0.win launch0.arr_whole c
      ((pdats Va Vb 0 c).share_full fun _ => rfl) (Va c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 0 c).Φ 0 = inv0 c (Va c main_arg0) 0 from rfl]
    iintro ⟨-, -, Hr⟩; iapply (enter0 c (Va c main_arg0)); iexact Hr
  hout c := by
    rw [Pipeline.ownSems0_none, show (pdats Va Vb 0 c).Φ (Fin.last _) = inv0 c (Va c main_arg0) cfg0.N from rfl]
    iintro Hr
    isplitr; · iempintro
    isplitr; · iempintro
    iapply (leave0 c (Va c main_arg0) cfg0.N); iexact Hr
  hexit c := by
    have hjoin := Pipeline.unscopedBufs_of_arrays (p := 0) (pcfgs (F := F)) adm (Ix := Unit) (Name := ℕ) (U := UR sig nD τ) (Lvl := ℕ) launch0.win launch0.arr_whole c
      (pdats Va Vb) ((pdats Va Vb 0 c).share_full fun _ => rfl) (Va c) (Vp c) ((pdats Va Vb 0 c).arrAt · cfg0.N)
      (fun w => by
        fin_cases w
        · exact ((dat0 Va c).arrAt_in 0 rfl _).trans (hne c main_arg0 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The sampling region: from the buffers at `Vb` to the buffers at `Vp`, which differs at the two results only. -/
def reg1 (hout0 : ∀ c, Vp c main_v1_0 = (dat1 Vb c).arrAt 2 cfg1.N) (hout1 : ∀ c, Vp c main_v1_1 = (dat1 Vb c).arrAt 3 cfg1.N)
    (hne : ∀ c (b : Ref sig .tc), b ≠ main_v1_0 → b ≠ main_v1_1 → Vp c b = Vb c b) :
    Pipeline.RegionSeg (pcfgs (F := F)) adm (pdats Va Vb) () defs₀ 𝒱₀ L lv 1 where
  win := launch1.win.to₀
  block_pos := launch1.block_pos
  stage_whole := launch1.stage_whole
  K := PEmpty
  osem k := k.elim
  ho := Pipeline.OwnSemFacts.none _
  hbody c := body1 Vb c
  hwaits := Pipeline.hwaits_of_owed_zero _ _ _ _ L lv 1 fun _ _ => rfl
  pre c := iprop(unscopedBufs c (Vb c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (Vb c)
  hentry c := by
    rw [Pipeline.ownSems0_none]
    have hsplit := Pipeline.arrays_of_unscopedBufs (p := 1) (pcfgs (F := F)) adm (pdats Va Vb) launch1.win launch1.arr_whole c
      ((pdats Va Vb 1 c).share_full fun _ => rfl) (Vb c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 1 c).Φ 0 = inv1 c (Vb c main_arg0) (Vb c main_v0) 0 from rfl]
    iintro ⟨-, -, Hr⟩; iapply (enter1 c (Vb c main_arg0) (Vb c main_v0)); iexact Hr
  hout c := by
    rw [Pipeline.ownSems0_none, show (pdats Va Vb 1 c).Φ (Fin.last _) = inv1 c (Vb c main_arg0) (Vb c main_v0) cfg1.N from rfl]
    iintro Hr
    isplitr; · iempintro
    isplitr; · iempintro
    iapply (leave1 c (Vb c main_arg0) (Vb c main_v0) cfg1.N); iexact Hr
  hexit c := by
    have hjoin := Pipeline.unscopedBufs_of_arrays (p := 1) (pcfgs (F := F)) adm (Ix := Unit) (Name := ℕ) (U := UR sig nD τ) (Lvl := ℕ) launch1.win launch1.arr_whole c
      (pdats Va Vb) ((pdats Va Vb 1 c).share_full fun _ => rfl) (Vb c) (Vp c) ((pdats Va Vb 1 c).arrAt · cfg1.N)
      (fun w => by
        fin_cases w
        · exact ((dat1 Vb c).arrAt_in 0 rfl _).trans (hne c main_arg0 (by decide) (by decide)).symm
        · exact ((dat1 Vb c).arrAt_in 1 rfl _).trans (hne c main_v0 (by decide) (by decide)).symm
        · exact (hout0 c).symm
        · exact (hout1 c).symm)
      (fun b hb => hne c b (fun h => hb (h ▸ Finset.mem_image.mpr ⟨2, Finset.mem_univ _, rfl⟩))
        fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Own
-- ==== Proof.KernelIdealRun.lean ====
/- The whole run: from any memory, every buffer ends at the contents the two regions and the last host stretch leave. -/
module

public import proofs.«01_k».proof.Proof.KernelIdealRegions

@[expose] public section

noncomputable section

namespace Cert.KernelIdeal.Own

open Cert.KernelIdeal Cert.KernelIdeal.Gen Cert.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The contents at launch. -/
abbrev Va : Vals (F := F) := fun c b => V0 m c b

/-- What the statistics region leaves in its result. -/
def statOut (c : Dev nD) : Buf (Elt F) ((c : Thread nD τ).loc main_v0) := (dat0 (Va m) c).arrAt 1 cfg0.N

/-- The contents at the sampling region's entry. -/
def mid (c : Dev nD) : Valuation τ sig (Elt F) := Function.update (V0 m c) main_v0 (statOut m c)

/-- The contents the sampling region starts from. -/
abbrev Vb : Vals (F := F) := fun c b => mid m c b

/-- What the sampling region leaves in its results. -/
def probOut (c : Dev nD) : Buf (Elt F) ((c : Thread nD τ).loc main_v1_0) := (dat1 (Vb m) c).arrAt 2 cfg1.N

/-- The columns the sampling region leaves. -/
def idxOut (c : Dev nD) : Buf (Elt F) ((c : Thread nD τ).loc main_v1_1) := (dat1 (Vb m) c).arrAt 3 cfg1.N

/-- The contents after the sampling region. -/
def late (c : Dev nD) : Valuation τ sig (Elt F) :=
  Function.update (Function.update (mid m c) main_v1_0 (probOut m c)) main_v1_1 (idxOut m c)

/-- What the regions leave, buffer by buffer. -/
def outs : Outs (F := F) := fun _ r c => late m c r

/-- Different buffers are different on the device. -/
theorem ne_dev {b b' : Ref sig .tc} (h : b ≠ b') : (Proc.devRef .tc b : DevRef τ sig) ≠ Proc.devRef .tc b' :=
  StableHlo.devRef_ne_of_ne h

/-- The first region's result. -/
theorem outs_v0 (c : Dev nD) : outs m 1 main_v0 c = statOut m c := by
  unfold outs late
  rw [Function.update_of_ne (ne_dev (by decide)), Function.update_of_ne (ne_dev (by decide))]
  unfold mid
  exact Function.update_self ..

/-- The second region's probabilities. -/
theorem outs_v1_0 (c : Dev nD) : outs m 2 main_v1_0 c = probOut m c := by
  unfold outs late
  rw [Function.update_of_ne (ne_dev (by decide))]
  exact Function.update_self ..

/-- The second region's columns. -/
theorem outs_v1_1 (c : Dev nD) : outs m 2 main_v1_1 c = idxOut m c := by
  unfold outs late
  exact Function.update_self ..

/-- The contents between the regions. -/
theorem V1_eq (c : Dev nD) : V1 m (outs m) c = mid m c := by
  unfold V1 mid
  rw [outs_v0]

/-- The contents after both regions. -/
theorem V2_eq (c : Dev nD) : V2 m (outs m) c = late m c := by
  unfold V2
  rw [V1_eq, outs_v1_0, outs_v1_1]
  rfl

/-- The statistics region's record. -/
def R0 : RegionSeg (pcfgs (F := F)) adm (pdats (Va m) (Vb m)) () defs₀ 𝒱₀ L lv 0 :=
  reg0 (Va m) (Vb m) (Vb m) (fun c => by show mid m c main_v0 = _; unfold mid; exact Function.update_self ..)
    (fun c b h => by show mid m c b = _; unfold mid; exact Function.update_of_ne (ne_dev h) ..)

/-- The sampling region's record. -/
def R1 : RegionSeg (pcfgs (F := F)) adm (pdats (Va m) (Vb m)) () defs₀ 𝒱₀ L lv 1 :=
  reg1 (Va m) (Vb m) (fun c b => late m c b)
    (fun c => by
      unfold late
      rw [Function.update_of_ne (ne_dev (by decide))]
      exact Function.update_self ..)
    (fun c => by unfold late; exact Function.update_self ..)
    (fun c b h h' => by
      unfold late
      rw [Function.update_of_ne (ne_dev h'), Function.update_of_ne (ne_dev h)])

/-- What rides beside the buffers: nothing owed. -/
abbrev Erest : Fin 3 → Dev nD → sProp 𝕄 := fun _ c => iprop(∃ W, owes (c : Thread nD τ) (0 : CellTallies nD τ sig Unit) W)

/-- The buffers outside the regions, as one. -/
theorem held_eq (c : Dev nD) (W : Valuation τ sig (Elt F)) :
    (unscopedBufs c (fun b => W b) : sProp 𝕄) = StableHlo.held (c : Thread nD τ) (Pipeline.ucRefs τ sig) W :=
  Pipeline.unscopedBufs_held (Ix := Unit) (Name := ℕ) (U := UR sig nD τ) (Lvl := ℕ) c W

/-- What the first region starts from. -/
theorem pre0 (c : Dev nD) :
    iprop(StableHlo.held (c : Thread nD τ) (Pipeline.ucRefs τ sig) (V0 m c) ∗ Erest 0 c) ⊢ (R0 m).pre c := by
  rw [← held_eq]; exact BI.Entails.refl _

/-- What the first region ends with. -/
theorem post0 (c : Dev nD) : (R0 m).post c
    ⊢ iprop(StableHlo.held (c : Thread nD τ) (Pipeline.ucRefs τ sig) (V1 m (outs m) c) ∗ Erest 1 c) := by
  rw [V1_eq, ← held_eq]; exact BI.Entails.refl _

/-- What the second region starts from. -/
theorem pre1 (c : Dev nD) :
    iprop(StableHlo.held (c : Thread nD τ) (Pipeline.ucRefs τ sig) (V1 m (outs m) c) ∗ Erest 1 c) ⊢ (R1 m).pre c := by
  rw [V1_eq, ← held_eq]; exact BI.Entails.refl _

/-- What the second region ends with. -/
theorem post1 (c : Dev nD) : (R1 m).post c
    ⊢ iprop(StableHlo.held (c : Thread nD τ) (Pipeline.ucRefs τ sig) (V2 m (outs m) c) ∗ Erest 2 c) := by
  rw [V2_eq, ← held_eq]; exact BI.Entails.refl _

/-- The launch's first thread state. -/
theorem first (ρ : Dev nD → PrngReg) : (bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp))
    ⊢ (bigSep Finset.univ fun c : Dev nD => iprop(StableHlo.held (c : Thread nD τ) (Pipeline.ucRefs τ sig) (V0 m c) ∗ Erest 0 c)
        : sProp 𝕄) :=
  bigSep_mono fun c _ => by
    rw [← held_eq]
    show (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) : sProp 𝕄)
      ⊢ iprop(unscopedBufs c (fun b => m ((c.tc : Thread nD τ).loc b)) ∗ Erest 0 c)
    iintro ⟨H, -, Ho, -⟩
    isplitl [H]; · iexact H
    iexists ∅
    iexact Ho

set_option backward.isDefEq.respectTransparency.types false in
/-- Every fair execution of the program ends, with every unscoped buffer at the last contents and every counter at
    zero. -/
theorem run (ρ : Dev nD → PrngReg) :
    θ_run defs (onTc (τ := τ) (main (F := F))) ⟨m, fun _ => 0, ρ⟩ (fun r =>
      (∀ (c : Dev nD) (b : Ref sig .tc), Proc.devRef .tc b ∈ Pipeline.ucRefs τ sig →
        r.2.mem ((c.tc : Thread nD τ).loc b) = V3 m (outs m) c b) ∧ r.2.sem = fun _ => 0) := by
  refine Pipeline.θ_run_regions_kit_dev_sems (pcfgs (F := F)) adm (pdats (Va m) (Vb m)) () cellOf_inj emb₁ defs₀ 𝒱₀ L lv m ρ main
    (segs m (outs m) 𝒱₀ L lv Erest () (pdats (Va m) (Vb m)) (R0 m) (R1 m))
    (fun c Q => by
      rewrite [main_chain c, Seg.run_eq_chain,
        show (segs m (outs m) 𝒱₀ L lv Erest () (pdats (Va m) (Vb m)) (R0 m) (R1 m) c).map Seg.prog = [
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (initOf (Pipeline.cells cfgs cellOf_inj) (Pipeline.launchToks cfgs cellOf_inj))
    (hu₀ := ?_)
    (T₀ := fun c => iprop(StableHlo.held (c : Thread nD τ) (Pipeline.ucRefs τ sig) (V0 m c) ∗ Erest 0 c))
    (Tₙ := fun c => StableHlo.held (c : Thread nD τ) (Pipeline.ucRefs τ sig) (V3 m (outs m) c))
    (hch := fun c => ⟨pre0 m c, (post0 m c).trans (pre1 m c), post1 m c, sep_mono .rfl .rfl⟩)
    (hinit := ?_)
    (QY := fun c s => ∀ b : Ref sig .tc, Proc.devRef .tc b ∈ Pipeline.ucRefs τ sig →
      s.mem ((c.tc : Thread nD τ).loc b) = V3 m (outs m) c b)
    (hfin := fun c s' => ?_) (hQ := fun _ h hz => ⟨h, funext fun g => hz g (.inr (regions_no_unscoped g.2))⟩)
  · rw [show (bigSep Finset.univ fun _ : Dev nD => (BI.emp : sProp 𝕄)) = BI.emp from bigSep_emp_const _]
    have hown : (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) :=
      BI.Entails.refl _
    iintro H
    imodintro
    isplitl [H]
    · iapply hown; iexact H
    iempintro
  · iintro ⟨H, -⟩
    imodintro
    iapply (first m ρ)
    iexact H
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact fun b hb => h (Proc.devRef .tc b) hb
    · iexact HSI

end Cert.KernelIdeal.Own
-- ==== Proof.KernelIdealValue.lean ====
/- What the run leaves in the kernel's results, in closed form: the probabilities entry by entry, and each row's column
   picked from the lanes' best after the whole walk. -/
module

public import proofs.«01_k».proof.Proof.KernelIdealRun
public import Idealize.ShloMosaic.Lib.Pipeline.ValueKit
public import Idealize.ShloMosaic.Lib.Pipeline.Covers

@[expose] public section

set_option maxRecDepth 16384

noncomputable section

namespace Cert.KernelIdeal.Own

open Cert.KernelIdeal Cert.KernelIdeal.Gen Cert.Roll

open Idealize.ShloMosaic Idealize.ShloMosaic.TcCoe Idealize.SL.Sem
open Idealize.ShloMosaic.Pipeline (Dat)

variable {F : FTy → Type} [FloatOps F] [Named F]

/-- The probabilities of the whole gradient, each from its own entry and its row's statistics. -/
def probAll (A : SA.Idx → F .f32) (S : SQ.Idx → F .f32) : SA.Idx → F .f32 := fun i =>
  probOf (colAt S 0 (by decide)) (colAt S 1 (by decide)) (colAt S 2 (by decide)) (fun _ => A i)
    (at2 (i 0) ⟨(i 1).val % 128, Nat.mod_lt _ (by decide)⟩)

/-- The row of a place. -/
theorem at2_zero {m n : Nat} (r : Fin m) (l : Fin n) : at2 r l 0 = r := rfl

/-- The column of a place. -/
theorem at2_one {m n : Nat} (r : Fin m) (l : Fin n) : at2 r l 1 = l := rfl

variable (m : (ℓ : Loc nD τ sig) → Buf (Elt F) ℓ)

/-- The statistics the first launch leaves. -/
theorem statOut_eq (c : Dev nD) : statOut m c = stat (root (F := F)) (m ((c : Thread nD τ).loc main_arg0)) := by
  unfold statOut
  refine (dat0 (Va m) c).arrAt_eq_of_after_last 1 ⟨30, by decide⟩ (by decide +kernel) _ fun j => ?_
  rfl

/-- Between the launches the statistics are the first one's. -/
theorem mid_v0 (c : Dev nD) : mid m c main_v0 = statOut m c := by
  unfold mid; exact Function.update_self ..

/-- Between the launches the argument is as it was. -/
theorem mid_arg0 (c : Dev nD) : mid m c main_arg0 = m ((c : Thread nD τ).loc main_arg0) := by
  unfold mid; exact Function.update_of_ne (ne_dev (by decide)) ..

/-- The columns the second launch leaves. -/
theorem idxOut_eq (c : Dev nD) : idxOut m c = pick (bestAt (m ((c : Thread nD τ).loc main_arg0)) (statOut m c) 31) := by
  unfold idxOut
  rw [← mid_v0 m c, ← mid_arg0 m c]
  refine (dat1 (Vb m) c).arrAt_eq_of_after_last 3 ⟨30, by decide⟩ (by decide +kernel) _ fun j => ?_
  rfl

/-- Every block of probabilities starts at the first row. -/
theorem probs_index_row : ∀ t : Fin grid1.N, win1_2.index t 0 = 0 := by decide

/-- Block `t` of probabilities is the `t`-th of the columns. -/
theorem probs_index_col : ∀ t : Fin grid1.N, win1_2.index t 1 = t.val := by decide

/-- A block's columns, cut off at the array's end. -/
theorem probs_xsize_col : ∀ t : Fin grid1.N, win1_2.xsize (grid1.coords t) 1 = min 32768 (1000000 - t.val * 32768) := by
  decide

/-- The probabilities the second launch leaves. -/
theorem probOut_eq (c : Dev nD) : probOut m c = probAll (m ((c : Thread nD τ).loc main_arg0)) (statOut m c) := by
  unfold probOut
  rw [← mid_v0 m c, ← mid_arg0 m c]
  refine (dat1 (Vb m) c).arrAt_eq_of_covers 2 _ (by decide +kernel) fun t _ y => ?_
  have hy : (y 1).val < min 32768 (1000000 - t.val * 32768) := probs_xsize_col t ▸ (y 1).isLt
  have e0 : (((win1_2.blk t).view.emb y) 0).val = (y 0).val := by
    show win1_2.index t 0 * 32 + 1 * (y 0).val = (y 0).val
    rw [probs_index_row]; omega
  have e1 : (((win1_2.blk t).view.emb y) 1).val = t.val * 32768 + (y 1).val := by
    show win1_2.index t 1 * 32768 + 1 * (y 1).val = t.val * 32768 + (y 1).val
    rw [probs_index_col]; omega
  show probBlk (mid m c main_arg0) (mid m c main_v0) t.val (win1_2.xinj (grid1.coords t) y) = _
  unfold probBlk
  rw [probsOf_apply]
  unfold probAll
  have hb : blkOf (mid m c main_arg0) t.val (win1_2.xinj (grid1.coords t) y)
      = (mid m c main_arg0 : SA.Idx → F .f32) ((win1_2.blk t).view.emb y) := by
    unfold blkOf
    rw [dif_pos (show t.val * 32768 + (y 1).val < 1000000 by omega)]
    exact congrArg _ (idx_ext (m := 32) (n := 1000000) e0.symm e1.symm)
  rw [hb]
  refine congrArg _ (idx_ext (m := 32) (n := 128) e0.symm ?_)
  show (y 1).val % 128 = (((win1_2.blk t).view.emb y) 1).val % 128
  rw [e1]; omega

/-- The kernel's first result is the second launch's probabilities. -/
theorem V3_probs (c : Dev nD) : V3 m (outs m) c main_v1_0 = probOut m c := by
  rw [V3_of m (outs m) c main_v1_0 (by decide), V2_eq]
  unfold late
  rw [Function.update_of_ne (ne_dev (by decide))]
  exact Function.update_self ..

/-- A column read as a vector. -/
theorem flat_apply {α : Type} (x : S32x1.Idx → α) (h : S32x1.ShapeCasts S32) (i : S32.Idx) :
    shapeCast S32 x h i = x (at2 (m := 32) (n := 1) (i 0) 0) := by
  refine shapeCast_apply x h i _ ?_
  rw [Shape.rowMajor_val_two, Shape.rowMajor_val_one]
  show (i 0).val * 1 + 0 = (i 0).val
  omega

/-- The kernel's second result is the second launch's columns, made a vector. -/
theorem V3_idx (c : Dev nD) : V3 m (outs m) c main_v2 = fun i : S32.Idx => idxOut m c (at2 (i 0) 0) := by
  have e : V3 m (outs m) c main_v2 = shapeCast S32 (V2 m (outs m) c main_v1_1) shapeCasts_S32x1_S32 := by
    unfold V3
    simp only [hostOps2]
    after_results_simp
    rfl
  rw [e]
  have h2 : V2 m (outs m) c main_v1_1 = idxOut m c := by
    rw [V2_eq]
    unfold late
    exact Function.update_self ..
  rw [h2]
  exact funext fun i => flat_apply _ _ i

end Cert.KernelIdeal.Own

end
-- ==== Proof.RefValue.lean ====
/- The reference's weights and probabilities, entry by entry, and the kernel's: the same numbers. -/
module

public import proofs.«01_k».proof.Proof.Weights
public import proofs.«01_k».proof.Proof.Mix
public import proofs.«01_k».proof.Proof.KernelIdealValue

@[expose] public section

set_option maxRecDepth 16384

noncomputable section

namespace Cert.Alg

open Idealize.ShloMosaic Idealize.ShloMosaic.ValueIdx Cert.Roll

/-- The kernel's probability of an entry. -/
theorem probAll_real {A : SA.Idx → Ideal .f32} (r : Fin 32) (c : Fin 1000000) :
    Cert.KernelIdeal.Own.probAll A (stat (F := Ideal) (root : EReal) A) (at2 r c) = ((wt A r c * (1 / total A r) : ℝ) : EReal) := by
  have hw := weightOf_real (stat_offset r) (stat_scale r) (fun _ => A (at2 r c)) ⟨c.val % 128, Nat.mod_lt _ (by decide)⟩ c
    rfl
  have hs := (spread_apply (colAt (stat (F := Ideal) (root : EReal) A) 2 (by decide))
    (at2 (m := 32) (n := 128) r ⟨c.val % 128, Nat.mod_lt _ (by decide)⟩)).trans (stat_invSum r)
  refine (congrArg₂ (fun x y : EReal => x * y) hw hs).trans ?_
  rw [← EReal.coe_mul]

/-- The word of what keeps a span from zero. -/
theorem eps_val : Ideal.ofBits .f32 0x2B8CBCCC#32 = (eps : EReal) := eps_bits

/-- The word of the weights' span. -/
theorem span_val : Ideal.ofBits .f32 0x3F666666#32 = (span : EReal) := span_bits

/-- The word of the least weight. -/
theorem floor_val : Ideal.ofBits .f32 0x3DCCCCCD#32 = (floor : EReal) := floor_bits

section reference

open Cert.ReferenceIdeal Cert.ReferenceIdeal.Gen Cert.ReferenceIdeal.Value

/-- An array is reduced along its rows. -/
theorem red_SA : S32x1000000.Reduces [1] S32 := by decide

/-- The places a row's reduction reads. -/
theorem lift_SA (j : S32.Idx) (k : Fin 1000000) : red_SA.lift j k = at2 (m := 32) (n := 1000000) (j 0) k :=
  idx_ext (m := 32) (n := 1000000) rfl rfl

/-- A vector of rows made a column. -/
theorem col_host {α : Type} (x : S32.Idx → α) (r : Fin 32) :
    broadcastInDim S32x1 ![0] bcast_S32_S32x1_0 x (at0 r) = x (at1 r) := by
  refine broadcastInDim_apply _ _ x _ _ fun a => ?_
  match a with
  | ⟨0, _⟩ => rfl

/-- A column spread over the row. -/
theorem spread_host {α : Type} (x : S32x1.Idx → α) (r : Fin 32) (c : Fin 1000000) :
    broadcastInDim S32x1000000 ![0, 1] bcast_S32x1_S32x1000000_0_1 x (at2 r c) = x (at0 r) := by
  refine broadcastInDim_apply _ _ x _ _ fun a => ?_
  match a with
  | ⟨0, _⟩ => rfl
  | ⟨1, _⟩ => rfl

variable {A : SA.Idx → Ideal .f32} {V : Valuation τ sig (Elt Ideal)}

/-- The reference's magnitudes, least magnitudes, scaled magnitudes and weights, as its run leaves them. -/
def refAbs (V : Valuation τ sig (Elt Ideal)) : SA.Idx → EReal := res_main_v0 V

/-- The reference's least magnitudes. -/
def refMin (V : Valuation τ sig (Elt Ideal)) : SC.Idx → EReal := res_main_v2 V

/-- The reference's largest magnitudes. -/
def refMax (V : Valuation τ sig (Elt Ideal)) : SC.Idx → EReal :=
  broadcastInDim S32x1 ![0] bcast_S32_S32x1_0 (Host.reduce (α := Ideal .f32) FloatOps.maximumf (res_main_v0 V)
    (constant S_ .f32 0xFF800000#32) reducesTo_S32x1000000_S32_d1 h_S_)
/-- The reference's scaled magnitudes. -/
def refUnit (V : Valuation τ sig (Elt Ideal)) : SA.Idx → EReal := res_main_v11 V

/-- The reference's weights. -/
def refWeight (V : Valuation τ sig (Elt Ideal)) : SA.Idx → EReal := res_main_v16 V

/-- The reference's magnitudes are the magnitudes. -/
theorem ref_abs (hV : V (Proc.devRef .tc main_arg0) = A) (r : Fin 32) (c : Fin 1000000) : refAbs V (at2 r c) = mag A r c := by
  subst hV; rfl

/-- The reference's least magnitudes are the rows'. -/
theorem ref_min (hV : V (Proc.devRef .tc main_arg0) = A) (r : Fin 32) : refMin V (at0 r) = gmin A r := by
  unfold refMin res_main_v2
  rw [col_host]
  refine (Host.reduce_eq_fold_single _ _ _ _ red_SA _ _).trans ?_
  refine (congrArg (fun z => Finset.fold _ z _ _) top_bits).trans ?_
  exact Finset.fold_congr fun k _ => (congrArg (refAbs V) (lift_SA (at1 r) k)).trans (ref_abs hV r k)

/-- The reference's largest magnitudes are the rows'. -/
theorem ref_max (hV : V (Proc.devRef .tc main_arg0) = A) (r : Fin 32) : refMax V (at0 r) = gmax A r := by
  unfold refMax
  rw [col_host]
  refine (Host.reduce_eq_fold_single _ _ _ _ red_SA _ _).trans ?_
  refine (congrArg (fun z => Finset.fold _ z _ _) bot_bits).trans ?_
  exact Finset.fold_congr fun k _ => (congrArg (refAbs V) (lift_SA (at1 r) k)).trans (ref_abs hV r k)

/-- A scaled magnitude, entry by entry. -/
theorem scaled_apply (x : FVec Ideal S32x1000000 .f32) (mn mx : FVec Ideal S32x1 .f32) (e : BitVec 32) (r : Fin 32) (c : Fin 1000000) :
    Host.divf (subf x (broadcastInDim S32x1000000 ![0, 1] bcast_S32x1_S32x1000000_0_1 mn))
      (broadcastInDim S32x1000000 ![0, 1] bcast_S32x1_S32x1000000_0_1
        (addf (subf mx mn) (broadcastInDim S32x1 ![] bcast_S_S32x1 (constant S_ .f32 e)))) (at2 r c)
      = Ideal.div (x (at2 r c) - mn (at0 r) : EReal) ((mx (at0 r) - mn (at0 r) : EReal) + Ideal.ofBits .f32 e) := by
  rw [hostDivf_apply, subf_apply, spread_host, spread_host, addf_apply, subf_apply, broadcastInDim_scalar_apply, constant_apply]

/-- A weight from a scaled magnitude, entry by entry. -/
theorem squared_apply (x : FVec Ideal S32x1000000 .f32) (s e : BitVec 32) (i : S32x1000000.Idx) :
    addf (mulf (mulf x x) (broadcastInDim S32x1000000 ![] bcast_S_S32x1000000 (constant S_ .f32 s)))
      (broadcastInDim S32x1000000 ![] bcast_S_S32x1000000 (constant S_ .f32 e)) i
      = (x i * x i * Ideal.ofBits .f32 s + Ideal.ofBits .f32 e : EReal) := by
  rw [addf_apply, mulf_apply, mulf_apply, broadcastInDim_scalar_apply, broadcastInDim_scalar_apply, constant_apply, constant_apply]

/-- The reference's scaled magnitudes, entry by entry. -/
theorem ref_unit_apply (r : Fin 32) (c : Fin 1000000) : refUnit V (at2 r c)
    = Ideal.div (refAbs V (at2 r c) - refMin V (at0 r)) (refMax V (at0 r) - refMin V (at0 r) + Ideal.ofBits .f32 0x2B8CBCCC#32) :=
  scaled_apply (res_main_v0 V) (res_main_v2 V) (refMax V) 0x2B8CBCCC#32 r c

/-- The reference's scaled magnitudes as reals. -/
theorem ref_unit (hV : V (Proc.devRef .tc main_arg0) = A) (r : Fin 32) (c : Fin 1000000) :
    refUnit V (at2 r c) = (((mg A r c - lo A r) * inv A r : ℝ) : EReal) := by
  rw [ref_unit_apply, ref_abs hV, ref_min hV, ref_max hV, eps_val]
  exact div_den fun h => by rw [coe_mg h, coe_lo h, ← EReal.coe_sub]

/-- The reference's weights, entry by entry. -/
theorem ref_weight_apply (i : SA.Idx) : refWeight V i
    = refUnit V i * refUnit V i * Ideal.ofBits .f32 0x3F666666#32 + Ideal.ofBits .f32 0x3DCCCCCD#32 :=
  squared_apply (res_main_v11 V) 0x3F666666#32 0x3DCCCCCD#32 i

/-- The reference's weights as reals. -/
theorem ref_weight (hV : V (Proc.devRef .tc main_arg0) = A) (r : Fin 32) (c : Fin 1000000) :
    refWeight V (at2 r c) = (wt A r c : EReal) := by
  rw [ref_weight_apply, ref_unit hV, span_val, floor_val, ← EReal.coe_mul, ← EReal.coe_mul, ← EReal.coe_add]
  rfl

/-- The reference's sums of weights, as its run leaves them. -/
def refTotal (V : Valuation τ sig (Elt Ideal)) : S32.Idx → Ideal .f32 :=
  Host.reduceAdd (res_main_v16 V) (constant S_ .f32 0x00000000#32) reducesTo_S32x1000000_S32_d1 h_S_

/-- The reference's probabilities, as its run leaves them. -/
def refProbs (V : Valuation τ sig (Elt Ideal)) : S32x1000000.Idx → Ideal .f32 :=
  Host.divf (res_main_v16 V) (broadcastInDim S32x1000000 ![0, 1] bcast_S32x1_S32x1000000_0_1
    (broadcastInDim S32x1 ![0] bcast_S32_S32x1_0
      (refTotal V)))

/-- The reference's sums of weights as reals. -/
theorem ref_total (hV : V (Proc.devRef .tc main_arg0) = A) (r : Fin 32) :
    refTotal V (at1 r) = (total A r : EReal) := by
  refine (ValueIdx.hostReduceAdd_apply ..).trans ?_
  refine (Ideal.hostReduceAdd_single _ red_SA _ _ _).trans ?_
  refine (congrArg₂ (fun x y : EReal => x + y) zero_bits (Finset.sum_congr rfl fun k _ =>
    (congrArg (refWeight V) (lift_SA (at1 r) k)).trans (ref_weight hV r k))).trans ?_
  exact (zero_add _).trans (coe_sum' Finset.univ (wt A r))

/-- A row's value divided into its entries. -/
theorem shared_apply (x : FVec Ideal S32x1000000 .f32) (t : FVec Ideal S32 .f32) (r : Fin 32) (c : Fin 1000000) :
    Host.divf x (broadcastInDim S32x1000000 ![0, 1] bcast_S32x1_S32x1000000_0_1 (broadcastInDim S32x1 ![0] bcast_S32_S32x1_0 t))
      (at2 r c) = Ideal.div (x (at2 r c)) (t (at1 r)) := by
  rw [hostDivf_apply, spread_host, col_host]

/-- The reference's probability of an entry. -/
theorem ref_prob (hV : V (Proc.devRef .tc main_arg0) = A) (r : Fin 32) (c : Fin 1000000) :
    refProbs V (at2 r c) = ((wt A r c * (1 / total A r) : ℝ) : EReal) := by
  refine (shared_apply (refWeight V) (refTotal V) r c).trans ?_
  rw [ref_weight hV, ref_total hV, Ideal.div_coe (total_pos r).ne', ← EReal.coe_mul]

end reference

end Cert.Alg

end
-- ==== Proof.Draws.lean ====
/- The exponential draws: the kernel's and the reference's of one word are the same positive real number, and the
   reference's score of an entry is the logarithm of its weight over its draw, less the row's logarithm of the sum. -/
module

public import proofs.«01_k».proof.Proof.RefValue

@[expose] public section

set_option maxRecDepth 16384

noncomputable section

namespace Cert.Alg

open Idealize.ShloMosaic Idealize.ShloMosaic.ValueIdx Cert.Roll

/-! ## A uniform from a word -/

/-- The word of a float in `[1, 2)` with the top bits of `b`. -/
def unitWord (b : BitVec 32) : BitVec 32 := IntOp.ori (IntOp.shrui .vector b 9#32) 1065353216#32

/-- The word spelled out. -/
theorem unitWord_eq (b : BitVec 32) : unitWord b = (b >>> 9) ||| 1065353216#32 := rfl

/-- A word moved down by nine bits has no bit from number 23 on. -/
theorem shifted_high (b : BitVec 32) {i : Nat} (hi : 23 ≤ i) : (b >>> 9).getLsbD i = false := by
  rw [BitVec.getLsbD_ushiftRight]
  exact BitVec.getLsbD_of_ge _ _ (by omega)

/-- The word's sign bit is clear. -/
theorem unitWord_sign (b : BitVec 32) : (unitWord b).extractLsb' 31 1 = 0#1 := by
  rw [unitWord_eq]
  refine BitVec.eq_of_getLsbD_eq fun i hi => ?_
  have h0 : i = 0 := by omega
  subst h0
  rw [BitVec.getLsbD_extractLsb', BitVec.getLsbD_or, shifted_high b (by omega)]
  decide

/-- The word's exponent is that of one. -/
theorem unitWord_exp (b : BitVec 32) : (unitWord b).extractLsb' 23 8 = 127#8 := by
  rw [unitWord_eq]
  refine BitVec.eq_of_getLsbD_eq fun i hi => ?_
  rw [BitVec.getLsbD_extractLsb', BitVec.getLsbD_or, shifted_high b (by omega)]
  have : ∀ i < 8, (decide (i < 8) && (false || (1065353216#32).getLsbD (23 + i))) = (127#8).getLsbD i := by decide
  exact this i hi

/-- The float of that word is one plus a number in `[0, 1 - 2⁻²³]`. -/
theorem unit_value (b : BitVec 32) :
    ∃ x : ℝ, 0 ≤ x ∧ x ≤ 1 - 2 ^ (-23 : ℤ) ∧ Ideal.ofBits .f32 (unitWord b) = ((1 + x : ℝ) : EReal) := by
  have hf : ((unitWord b).extractLsb' 0 23).toNat < 2 ^ 23 := BitVec.isLt _
  refine ⟨((unitWord b).extractLsb' 0 23).toNat * 2 ^ (-23 : ℤ), by positivity, ?_, ?_⟩
  · have h1 : (((unitWord b).extractLsb' 0 23).toNat : ℝ) ≤ 2 ^ 23 - 1 := by
      have : ((unitWord b).extractLsb' 0 23).toNat + 1 ≤ 2 ^ 23 := hf
      have h2 : ((((unitWord b).extractLsb' 0 23).toNat + 1 : ℕ) : ℝ) ≤ ((2 ^ 23 : ℕ) : ℝ) := Nat.cast_le.mpr this
      push_cast at h2
      linarith
    have := mul_le_mul_of_nonneg_right h1 (show (0 : ℝ) ≤ 2 ^ (-23 : ℤ) by positivity)
    refine this.trans (le_of_eq ?_)
    norm_num
  · show Ideal.ieee 8 23 (unitWord b) = _
    unfold Ideal.ieee
    rw [show 8 + 23 = 31 from rfl, unitWord_sign, unitWord_exp]
    generalize ((unitWord b).extractLsb' 0 23).toNat = n
    rw [if_neg (by decide), if_neg (by decide)]
    refine congrArg _ ?_
    push_cast
    norm_num
    ring

/-! ## The draw -/

/-- The least positive uniform. -/
def tiny : ℝ := 2 ^ (-126 : ℤ)

/-- The least normal number is positive. -/
theorem tiny_pos : 0 < tiny := by unfold tiny; positivity

/-- The least normal number is below the spacing of the uniforms. -/
theorem tiny_small : tiny < 2 ^ (-23 : ℤ) := by unfold tiny; exact zpow_lt_zpow_right₀ (by norm_num) (by norm_num)

/-- The word of the least normal number. -/
theorem tiny_val : Ideal.ofBits .f32 0x00800000#32 = (tiny : EReal) := by
  unfold tiny
  simp [Ideal.ofBits, Ideal.ieee, -EReal.coe_mul]; norm_num

/-- The word of one. -/
theorem one_val : Ideal.ofBits .f32 0x3F800000#32 = ((1 : ℝ) : EReal) := one_bits

/-- The uniform of a word. -/
def uniE (b : BitVec 32) : EReal :=
  max (Ideal.ofBits .f32 0x00800000#32)
    (Ideal.ofBits .f32 (unitWord b) - Ideal.ofBits .f32 0x3F800000#32 + Ideal.ofBits .f32 0x00800000#32)

/-- It is a real number strictly between zero and one. -/
theorem uniE_real (b : BitVec 32) : ∃ u : ℝ, 0 < u ∧ u < 1 ∧ uniE b = (u : EReal) := by
  obtain ⟨x, h0, h1, hx⟩ := unit_value b
  have ht := tiny_pos
  have hs := tiny_small
  refine ⟨max tiny (x + tiny), lt_max_of_lt_left ht, max_lt ?_ ?_, ?_⟩
  · exact hs.trans (by norm_num)
  · linarith
  · unfold uniE
    rw [hx, tiny_val, one_val, ← EReal.coe_sub, ← EReal.coe_add, show 1 + x - 1 = x by ring]
    exact (EReal.coe_strictMono.monotone.map_max).symm

/-- The uniform of a word as a real. -/
def uni (b : BitVec 32) : ℝ := Classical.choose (uniE_real b)

/-- A uniform is positive. -/
theorem uni_pos (b : BitVec 32) : 0 < uni b := (Classical.choose_spec (uniE_real b)).1

/-- A uniform is below one. -/
theorem uni_lt (b : BitVec 32) : uni b < 1 := (Classical.choose_spec (uniE_real b)).2.1

/-- A word's uniform is a real number. -/
theorem coe_uni (b : BitVec 32) : uniE b = (uni b : EReal) := (Classical.choose_spec (uniE_real b)).2.2

/-- The draw of a word. -/
def draw (b : BitVec 32) : ℝ := -Real.log (uni b)

/-- A draw is positive. -/
theorem draw_pos (b : BitVec 32) : 0 < draw b := neg_pos.mpr (Real.log_neg (uni_pos b) (uni_lt b))

/-- The logarithm of a positive real. -/
theorem log_real {x : ℝ} (h : 0 < x) : Ideal.log (x : EReal) = (Real.log x : EReal) := if_neg (not_le.mpr h)

/-- The logarithm of a uniform is minus the draw. -/
theorem log_uni (b : BitVec 32) : Ideal.log (uniE b) = ((-draw b : ℝ) : EReal) := by
  rw [coe_uni, log_real (uni_pos b)]
  unfold draw
  rw [neg_neg]

/-- The logarithm is taken entry by entry. -/
theorem log_apply {s : Shape} (x : FVec Ideal s .f32) (i : s.Idx) : log x i = Ideal.log (x i) := rfl

/-- Words are read as floats entry by entry. -/
theorem bitcast_apply {s : Shape} (x : IVec s 32) (i : s.Idx) :
    bitcastToFloat (F := Ideal) .f32 x i = Ideal.ofBits .f32 (x i) := rfl

/-- A scalar spread over a shape. -/
theorem splat_apply {s : Shape} {α : Type} (x : α) (i : s.Idx) : broadcast s x i = x := rfl

/-- The word of zero. -/
theorem zero_val : (Scalar.ofBits .f32 0x00000000#32 : Ideal .f32) = (0 : EReal) := zero_bits

/-- The kernel's draw at a lane. -/
theorem drawOf_real (bits : IVec SL 32) (i : SL.Idx) : drawOf (F := Ideal) bits i = (draw (bits i) : EReal) := by
  unfold drawOf
  rw [subf_apply, log_apply, maximumf_apply, addf_apply, subf_apply, bitcast_apply, splat_apply, splat_apply, splat_apply,
    zero_bits]
  refine (congrArg (fun x : EReal => 0 - x) (log_uni (bits i))).trans ?_
  rw [zero_sub, ← EReal.coe_neg, neg_neg]

/-- The word of an entry. -/
def word (r : Fin 32) (c : Fin 1000000) : BitVec 32 := mixS (BitVec.ofNat 32 (r.val * 1000000 + c.val + 1))

/-- An entry's weight over its draw. -/
def key (A : SA.Idx → Ideal .f32) (r : Fin 32) (c : Fin 1000000) : ℝ := wt A r c / draw (word r c)

/-- A weight over its draw is positive. -/
theorem key_pos {A : SA.Idx → Ideal .f32} (r : Fin 32) (c : Fin 1000000) : 0 < key A r c := div_pos (wt_pos r c) (draw_pos _)

section reference

open Cert.ReferenceIdeal Cert.ReferenceIdeal.Gen Cert.ReferenceIdeal.Value

/-- The reference's scores, as its run leaves them. -/
def refScore (V : Valuation τ sig (Elt Ideal)) : S32x1000000.Idx → Ideal .f32 := res_main_v210 V

/-- The host's negation, entry by entry. -/
theorem hostNegf_apply {s : Shape} (x : FVec Ideal s .f32) (i : s.Idx) : Host.negf x i = (-(x i) : EReal) := rfl

/-- The host's logarithm, entry by entry. -/
theorem hostLog_apply {s : Shape} (x : FVec Ideal s .f32) (i : s.Idx) : Host.log x i = Ideal.log (x i) := rfl

/-- The reference's score of one entry, from its word and its probability. -/
theorem score_shape (bits : IVec S32x1000000 32) (p : FVec Ideal S32x1000000 .f32) (i : S32x1000000.Idx) :
    addf (Host.negf (Host.log (Host.negf (Host.log
      (maximumf (broadcastInDim S32x1000000 ![] bcast_S_S32x1000000 (constant S_ .f32 0x00800000#32))
        (addf (mulf (subf (bitcastToFloat (F := Ideal) .f32
            (ori (Host.shrui bits (broadcastInDim S32x1000000 ![] bcast_S_S32x1000000 (constantI S_ 32 9#32)))
              (broadcastInDim S32x1000000 ![] bcast_S_S32x1000000 (constantI S_ 32 1065353216#32))))
            (broadcastInDim S32x1000000 ![] bcast_S_S32x1000000 (constant S_ .f32 0x3F800000#32)))
            (broadcastInDim S32x1000000 ![] bcast_S_S32x1000000 (constant S_ .f32 0x3F800000#32)))
          (broadcastInDim S32x1000000 ![] bcast_S_S32x1000000 (constant S_ .f32 0x00800000#32)))))))) (Host.log p) i
      = -Ideal.log (-Ideal.log (uniE (bits i))) + Ideal.log (p i) := by
  rw [hostShrui_eq_shrui, addf_apply, hostNegf_apply, hostLog_apply, hostNegf_apply, hostLog_apply, hostLog_apply,
    maximumf_apply, addf_apply, mulf_apply, subf_apply, bitcast_apply, broadcastInDim_scalar_apply, broadcastInDim_scalar_apply,
    constant_apply, constant_apply, one_val, EReal.coe_one, mul_one]
  unfold uniE
  rw [one_val, EReal.coe_one]
  rfl

variable {A : SA.Idx → Ideal .f32} {V : Valuation τ sig (Elt Ideal)}

/-- A score is the logarithm of the weight over the draw, less the row's own constant. -/
theorem score_eq (hV : V (Proc.devRef .tc main_arg0) = A) (r : Fin 32) (c : Fin 1000000) :
    refScore V (at2 r c) = ((Real.log (key A r c) - Real.log (total A r) : ℝ) : EReal) := by
  have hw : refBits V (at2 r c) = word r c := refBits_apply V (at2 r c)
  have hp : 0 < wt A r c * (1 / total A r) := mul_pos (wt_pos r c) (one_div_pos.mpr (total_pos r))
  refine (score_shape (refBits V) (refProbs V) (at2 r c)).trans ?_
  rw [hw, log_uni, ref_prob hV, log_real hp, ← EReal.coe_neg, neg_neg, log_real (draw_pos _), ← EReal.coe_neg, ← EReal.coe_add]
  refine congrArg _ ?_
  unfold key
  rw [Real.log_mul (wt_pos r c).ne' (one_div_pos.mpr (total_pos r)).ne', Real.log_div (wt_pos r c).ne' (draw_pos _).ne',
    one_div, Real.log_inv]
  ring

/-- Scores compare as the weights over the draws do. -/
theorem score_le (hV : V (Proc.devRef .tc main_arg0) = A) (r : Fin 32) (c c' : Fin 1000000) :
    (refScore V (at2 r c) : EReal) ≤ refScore V (at2 r c') ↔ key A r c ≤ key A r c' := by
  rw [score_eq hV, score_eq hV]
  refine EReal.coe_le_coe_iff.trans ?_
  rw [sub_le_sub_iff_right]
  exact Real.log_le_log_iff (key_pos r c) (key_pos r c')

end reference

end Cert.Alg

end
-- ==== Proof.BestWalk.lean ====
/- The sampling walk, lane by lane: after the blocks before column `b` a lane's best is the first of that lane's columns
   before `b` whose weight over its draw is the largest. -/
module

public import proofs.«01_k».proof.Proof.Draws

@[expose] public section

set_option maxRecDepth 16384

noncomputable section

namespace Cert.Alg

open Idealize.ShloMosaic Idealize.ShloMosaic.ValueIdx Cert.Roll

/-- Lane `l` of row `r`. -/
abbrev atL (r : Fin 32) (l : Fin 128) : SL.Idx := at2 (m := 32) (n := 128) r l

/-! ## One step at one lane -/

/-- Two conditions as one bit. -/
theorem and_ofBool (x y : Bool) : IntOp.andi (BitVec.ofBool x) (BitVec.ofBool y) = 1#1 ↔ x = true ∧ y = true := by
  cases x <;> cases y <;> decide

/-- Whether a lane changes its best. -/
def changes (b : Best Ideal) (c0 c1 : FVec Ideal SC .f32) (c : BitVec 32) (k : Nat) (v : Vec Ideal SL .f32) (i : SL.Idx) : Prop :=
  (b.p i * drawOf (F := Ideal) (mix (countOf c k)) i : EReal) < weightOf c0 c1 v i * b.w i
    ∧ (countOf c k i).ult (thrOf i) = true

section step

variable (b : Best Ideal) (c0 c1 : FVec Ideal SC .f32) (c : BitVec 32) (k : Nat) (v : Vec Ideal SL .f32) (i : SL.Idx)

/-- The mask of a step says whether the lane changes. -/
theorem mask_iff : andi (cmpf .ogt (mulf (weightOf c0 c1 v) b.w) (mulf b.p (drawOf (mix (countOf c k)))))
    (cmpi .ult (countOf c k) thrOf) i = 1#1 ↔ changes b c0 c1 c k v i := by
  have h : andi (cmpf .ogt (mulf (weightOf c0 c1 v) b.w) (mulf b.p (drawOf (mix (countOf c k)))))
      (cmpi .ult (countOf c k) thrOf) i
      = IntOp.andi (BitVec.ofBool (decide ((b.p i * drawOf (F := Ideal) (mix (countOf c k)) i : EReal) < weightOf c0 c1 v i * b.w i)))
          (BitVec.ofBool ((countOf c k i).ult (thrOf i))) := rfl
  rw [h, and_ofBool, decide_eq_true_eq]
  exact Iff.rfl

/-- A lane that changes takes the new column's weight, draw and count. -/
theorem step_new (h : changes b c0 c1 c k v i) :
    (b.step c0 c1 c k v).p i = weightOf c0 c1 v i ∧ (b.step c0 c1 c k v).w i = drawOf (F := Ideal) (mix (countOf c k)) i
      ∧ (b.step c0 c1 c k v).i i = countOf c k i :=
  ⟨if_pos ((mask_iff b c0 c1 c k v i).mpr h), if_pos ((mask_iff b c0 c1 c k v i).mpr h), if_pos ((mask_iff b c0 c1 c k v i).mpr h)⟩

/-- A lane that does not change keeps what it has. -/
theorem step_old (h : ¬ changes b c0 c1 c k v i) :
    (b.step c0 c1 c k v).p i = b.p i ∧ (b.step c0 c1 c k v).w i = b.w i ∧ (b.step c0 c1 c k v).i i = b.i i :=
  ⟨if_neg fun hc => h ((mask_iff b c0 c1 c k v i).mp hc), if_neg fun hc => h ((mask_iff b c0 c1 c k v i).mp hc),
    if_neg fun hc => h ((mask_iff b c0 c1 c k v i).mp hc)⟩

end step

/-! ## The walk -/

variable {A : SA.Idx → Ideal .f32}

/-- A lane's best is column `c` of row `r`. -/
structure Is (A : SA.Idx → Ideal .f32) (x : Best Ideal) (i : SL.Idx) (r : Fin 32) (c : Fin 1000000) : Prop where
  p : x.p i = (wt A r c : EReal)
  w : x.w i = (draw (word r c) : EReal)
  i : x.i i = BitVec.ofNat 32 (r.val * 1000000 + c.val + 1)

/-- Column `c` is the first of `s` whose weight over its draw is the largest. -/
structure Leads (A : SA.Idx → Ideal .f32) (r : Fin 32) (s : Finset (Fin 1000000)) (c : Fin 1000000) : Prop where
  mem : c ∈ s
  le : ∀ c' ∈ s, key A r c' ≤ key A r c
  first : ∀ c' ∈ s, key A r c' = key A r c → c ≤ c'

/-- What the lanes hold before column `b`: their start where they have met no column, and their first largest else. -/
structure Best.Holds (A : SA.Idx → Ideal .f32) (b : Nat) (x : Best Ideal) : Prop where
  al : b % 128 = 0
  at' : ∀ (r : Fin 32) (l : Fin 128), (lane l.val b = ∅ ∧ x.p (atL r l) = (0 : EReal) ∧ x.w (atL r l) = (1 : EReal))
    ∨ ∃ c, Leads A r (lane l.val b) c ∧ Is A x (atL r l) r c

/-- The comparison by products is the one of the weights over the draws. -/
theorem key_lt {r : Fin 32} {c c' : Fin 1000000} :
    ((wt A r c : EReal) * (draw (word r c') : EReal)) < (wt A r c' : EReal) * (draw (word r c) : EReal) ↔ key A r c < key A r c' := by
  rw [← EReal.coe_mul, ← EReal.coe_mul, EReal.coe_lt_coe_iff]
  unfold key
  rw [div_lt_div_iff₀ (draw_pos _) (draw_pos _)]

/-- A column after all of `s` leads once it beats the leader. -/
theorem Leads.beaten {r : Fin 32} {s : Finset (Fin 1000000)} {c n : Fin 1000000} (h : Leads A r s c) (hk : key A r c < key A r n) :
    Leads A r (insert n s) n := by
  refine ⟨Finset.mem_insert_self _ _, fun c' hc => ?_, fun c' hc he => ?_⟩
  · rcases Finset.mem_insert.mp hc with rfl | hc
    · exact le_rfl
    · exact (h.le c' hc).trans hk.le
  · rcases Finset.mem_insert.mp hc with rfl | hc
    · exact le_rfl
    · exact absurd he (ne_of_lt ((h.le c' hc).trans_lt hk))

/-- A leader stays against a later column that does not beat it. -/
theorem Leads.stays {r : Fin 32} {s : Finset (Fin 1000000)} {c n : Fin 1000000} (h : Leads A r s c) (hk : ¬ key A r c < key A r n)
    (hn : c ≤ n) : Leads A r (insert n s) c := by
  refine ⟨Finset.mem_insert_of_mem h.mem, fun c' hc => ?_, fun c' hc he => ?_⟩
  · rcases Finset.mem_insert.mp hc with rfl | hc
    · exact not_lt.mp hk
    · exact h.le c' hc
  · rcases Finset.mem_insert.mp hc with rfl | hc
    · exact hn
    · exact h.first c' hc he

/-- A lane's first column leads. -/
theorem Leads.alone {r : Fin 32} {n : Fin 1000000} : Leads A r (insert n ∅) n := by
  refine ⟨Finset.mem_insert_self _ _, fun c' hc => ?_, fun c' hc _ => ?_⟩
  all_goals rw [Finset.mem_insert, or_iff_left (Finset.notMem_empty _)] at hc; subst hc; exact le_rfl

/-- A step's draws are those of the columns it meets. -/
theorem mix_word {n k : Nat} {r : Fin 32} {l : Fin 128} (h : n * 32768 + 128 * k + l.val < 1000000) :
    drawOf (F := Ideal) (mix (countOf (BitVec.ofNat 32 n) k)) (atL r l) = (draw (word r ⟨n * 32768 + 128 * k + l.val, h⟩) : EReal) := by
  rw [drawOf_real, mix_apply, countOf_eq]
  refine congrArg (fun x => ((draw (mixS (BitVec.ofNat 32 x)) : ℝ) : EReal)) ?_
  show r.val * 1000000 + (n * 32768 + (128 * k + l.val)) + 1 = r.val * 1000000 + (n * 32768 + 128 * k + l.val) + 1
  rw [Nat.add_assoc (n * 32768)]

/-- A step's counts are those of the columns it meets. -/
theorem count_word {n k : Nat} {r : Fin 32} {l : Fin 128} (h : n * 32768 + 128 * k + l.val < 1000000) :
    countOf (BitVec.ofNat 32 n) k (atL r l)
      = BitVec.ofNat 32 (r.val * 1000000 + (⟨n * 32768 + 128 * k + l.val, h⟩ : Fin 1000000).val + 1) := by
  rw [countOf_eq]
  refine congrArg (BitVec.ofNat 32) ?_
  show r.val * 1000000 + (n * 32768 + (128 * k + l.val)) + 1 = r.val * 1000000 + (n * 32768 + 128 * k + l.val) + 1
  rw [Nat.add_assoc (n * 32768)]

/-- A step counts the columns inside the array. -/
theorem count_in {n k : Nat} (hn : n < 31) (hk : k < 256) (r : Fin 32) (l : Fin 128) :
    (countOf (BitVec.ofNat 32 n) k (atL r l)).ult (thrOf (atL r l)) = true ↔ n * 32768 + 128 * k + l.val < 1000000 := by
  rw [count_ult hn hk, decide_eq_true_eq, Nat.add_assoc]
  exact Iff.rfl

variable {S : SQ.Idx → Ideal .f32}

/-- One slice. -/
theorem Best.Holds.step {c0 c1 : FVec Ideal SC .f32}
    (h0 : ∀ r, c0 (at0 r) = ((-lo A r * inv A r * root : ℝ) : EReal)) (h1 : ∀ r, c1 (at0 r) = ((inv A r * root : ℝ) : EReal))
    {n k : Nat} (hn : n < 31) (hk : k < 256) {x : Best Ideal} (h : Best.Holds A (n * 32768 + 128 * k) x) :
    Best.Holds A (n * 32768 + 128 * k + 128) (x.step c0 c1 (BitVec.ofNat 32 n) k (sliceAt (blkOf A n) k hk)) := by
  refine ⟨(Nat.add_mod_right _ 128).trans h.al, fun r l => ?_⟩
  by_cases hi : n * 32768 + 128 * k + l.val < 1000000
  · have hw : weightOf c0 c1 (sliceAt (blkOf A n) k hk) (atL r l) = (wt A r ⟨n * 32768 + 128 * k + l.val, hi⟩ : EReal) :=
      weightOf_real (h0 r) (h1 r) _ l _ (slice_in hk (atL r l) hi)
    have hd := mix_word (r := r) hi
    have hc := count_word (r := r) hi
    rw [lane_step l.isLt h.al hi]
    revert hw hd hc
    generalize hm : (⟨n * 32768 + 128 * k + l.val, hi⟩ : Fin 1000000) = m
    intro hw hd hc
    have hnext : ∀ c ∈ lane l.val (n * 32768 + 128 * k), c ≤ m := fun c hc => by
      rw [← hm]
      exact Fin.le_def.mpr (Nat.le_trans (Nat.le_of_lt (mem_lane.mp hc).2) (Nat.le_add_right _ _))
    by_cases hch : changes x c0 c1 (BitVec.ofNat 32 n) k (sliceAt (blkOf A n) k hk) (atL r l)
    · obtain ⟨ep, ew, ei⟩ := step_new _ _ _ _ _ _ _ hch
      refine .inr ⟨m, ?_, ⟨ep.trans hw, ew.trans hd, ei.trans hc⟩⟩
      rcases h.at' r l with ⟨he, _, _⟩ | ⟨c, hl, hs⟩
      · rw [he]; exact Leads.alone
      · refine hl.beaten (key_lt.mp ?_)
        have := hch.1
        rw [hw, hd, hs.p, hs.w] at this
        exact this
    · obtain ⟨ep, ew, ei⟩ := step_old _ _ _ _ _ _ _ hch
      rcases h.at' r l with ⟨he, hp, hw1⟩ | ⟨c, hl, hs⟩
      · refine absurd ⟨?_, (count_in hn hk r l).mpr hi⟩ hch
        rw [hw, hp, hw1, zero_mul, mul_one]
        exact EReal.coe_pos.mpr (wt_pos r m)
      · refine .inr ⟨c, hl.stays (fun hlt => hch ⟨?_, (count_in hn hk r l).mpr hi⟩) (hnext c hl.mem),
          ⟨ep.trans hs.p, ew.trans hs.w, ei.trans hs.i⟩⟩
        rw [hw, hd, hs.p, hs.w]
        exact key_lt.mpr hlt
  · obtain ⟨ep, ew, ei⟩ := step_old x c0 c1 (BitVec.ofNat 32 n) k (sliceAt (blkOf A n) k hk) (atL r l)
      fun hch => hi ((count_in hn hk r l).mp hch.2)
    rw [lane_stop l.isLt h.al hi]
    rcases h.at' r l with ⟨he, hp, hw1⟩ | ⟨c, hl, hs⟩
    · exact .inl ⟨he, ep.trans hp, ew.trans hw1⟩
    · exact .inr ⟨c, hl, ⟨ep.trans hs.p, ew.trans hs.w, ei.trans hs.i⟩⟩

/-- The best a point starts from is the one the point before left. -/
theorem best_enter {n : Nat} (hn : n < 31) : Best.enter (BitVec.ofNat 32 n) (bestAt A S n) = bestAt A S n := by
  rcases Nat.eq_zero_or_pos n with rfl | h0
  · rfl
  · have hne : BitVec.ofNat 32 n ≠ 0#32 := fun he => by
      have := congrArg BitVec.toNat he
      rw [BitVec.toNat_ofNat, BitVec.toNat_ofNat] at this; omega
    unfold Best.enter
    rw [show Scalar.cmpi .eq (BitVec.ofNat 32 n) 0#32 = 0#1 from by
      simp only [Scalar.cmpi, IntOp.cmpi]; rw [beq_eq_false_iff_ne.mpr hne]; rfl]
    rfl

/-- Before the walk no lane has met a column. -/
theorem best_start : Best.Holds A 0 (bestAt A S 0) :=
  ⟨rfl, fun _ l => .inl ⟨lane_zero l.val, zero_bits, one_bits.trans EReal.coe_one⟩⟩

/-- What the lanes hold after the first `n` blocks. -/
theorem best_holds (h0 : ∀ r, colAt S 0 (by decide) (at0 r) = ((-lo A r * inv A r * root : ℝ) : EReal))
    (h1 : ∀ r, colAt S 1 (by decide) (at0 r) = ((inv A r * root : ℝ) : EReal)) :
    ∀ n : Nat, n ≤ 31 → Best.Holds A (n * 32768) (bestAt A S n)
  | 0, _ => best_start
  | n + 1, hn => by
    have ih := best_holds h0 h1 n (by omega)
    rw [Nat.succ_mul]
    show Best.Holds A _ (bestStep (BitVec.ofNat 32 n) S (blkOf A n) (bestAt A S n))
    unfold bestStep
    rw [best_enter (by omega)]
    exact sweep_inv (P := Best.Holds A) (b := n * 32768) (fun k hk x hx => hx.step h0 h1 (by omega) hk) 256 le_rfl _
      (by rw [Nat.sub_self, Nat.mul_zero, Nat.add_zero]; exact ih)

end Cert.Alg

end
-- ==== Proof.Least.lean ====
/- The least of a family of words; and the first column of a row whose weight over its draw is the largest. -/
module

public import proofs.«01_k».proof.Proof.BestWalk

@[expose] public section

set_option maxRecDepth 16384

noncomputable section

namespace Cert.Alg

open Idealize.ShloMosaic Idealize.ShloMosaic.ValueIdx Cert.Roll

/-! ## The least of a family of words -/

/-- The smaller of two small words. -/
theorem min_words {a b : Nat} (ha : a < 2 ^ 31) (hb : b < 2 ^ 31) :
    IntOp.minsi (BitVec.ofNat 32 a) (BitVec.ofNat 32 b) = BitVec.ofNat 32 (min a b) := by
  have hs : (BitVec.ofNat 32 a).slt (BitVec.ofNat 32 b) = decide (a < b) := by
    rw [BitVec.slt_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega), decide_eq_decide]
    exact Int.ofNat_lt
  unfold IntOp.minsi
  rw [hs]
  by_cases h : a < b
  · rw [decide_eq_true h, min_eq_left h.le]; rfl
  · rw [decide_eq_false h, min_eq_right (not_lt.mp h)]; rfl

/-- The least of a family of small words is the word of the least. -/
theorem fold_words {ι : Type} [DecidableEq ι] (s : Finset ι) (g : ι → Nat) (hg : ∀ k ∈ s, g k < 2 ^ 31) :
    s.fold IntOp.minsi 2147483647#32 (fun k => BitVec.ofNat 32 (g k)) = BitVec.ofNat 32 (s.fold min 2147483647 g)
      ∧ s.fold min 2147483647 g < 2 ^ 31 := by
  induction s using Finset.induction_on with
  | empty => exact ⟨rfl, by rw [Finset.fold_empty]; decide⟩
  | insert a s ha ih =>
    obtain ⟨h1, h2⟩ := ih fun k hk => hg k (Finset.mem_insert_of_mem hk)
    have h3 := hg a (Finset.mem_insert_self _ _)
    rw [Finset.fold_insert ha, Finset.fold_insert ha, h1, min_words h3 h2]
    exact ⟨rfl, (min_le_left _ _).trans_lt h3⟩

/-- The least of a family of words is the one that is attained and below all. -/
theorem least_word {n : Nat} (f : Fin n → BitVec 32) (g : Fin n → Nat) (hf : ∀ k, f k = BitVec.ofNat 32 (g k)) (k0 : Fin n)
    (h0 : g k0 < 2147483647) (hb : ∀ k, g k < 2 ^ 31) (hl : ∀ k, g k0 ≤ g k) :
    (Finset.univ : Finset (Fin n)).fold IntOp.minsi 2147483647#32 f = BitVec.ofNat 32 (g k0) := by
  rw [show f = fun k => BitVec.ofNat 32 (g k) from funext hf, (fold_words _ g fun k _ => hb k).1]
  refine congrArg _ (le_antisymm ?_ ?_)
  · exact (Finset.fold_min_le _).mpr (.inr ⟨k0, Finset.mem_univ _, le_rfl⟩)
  · exact (Finset.le_fold_min _).mpr ⟨h0.le, fun k _ => hl k⟩

/-! ## The column of each row -/

/-- A row has a first column whose weight over its draw is the largest. -/
theorem leader (A : SA.Idx → Ideal .f32) (r : Fin 32) : ∃ c, Leads A r Finset.univ c := by
  obtain ⟨c0, _, h0⟩ := Finset.exists_max_image (Finset.univ : Finset (Fin 1000000)) (key A r) ⟨0, Finset.mem_univ _⟩
  obtain ⟨c, hc, h1⟩ := Finset.exists_min_image (Finset.univ.filter fun c => key A r c = key A r c0) id
    ⟨c0, Finset.mem_filter.mpr ⟨Finset.mem_univ _, rfl⟩⟩
  have hk := (Finset.mem_filter.mp hc).2
  exact ⟨c, Finset.mem_univ _, fun c' _ => (h0 c' (Finset.mem_univ _)).trans hk.ge,
    fun c' _ he => h1 c' (Finset.mem_filter.mpr ⟨Finset.mem_univ _, he.trans hk⟩)⟩

end Cert.Alg

end
-- ==== Proof.Pick.lean ====
/- The column the kernel samples of each row: the first whose weight over its draw is the largest. -/
module

public import proofs.«01_k».proof.Proof.Least

@[expose] public section

set_option maxRecDepth 16384

noncomputable section

namespace Cert.Alg

open Idealize.ShloMosaic Idealize.ShloMosaic.ValueIdx Cert.Roll

variable {A : SA.Idx → Ideal .f32}

/-! ## The kernel's -/

/-- What a lane's best column gives once the walk is over. -/
theorem lane_ends {x : Best Ideal} {b : Nat} (h : Best.Holds A b x) (hb : 1000000 ≤ b) (r : Fin 32) (l : Fin 128) :
    ∃ c, Leads A r (lane l.val b) c ∧ Is A x (atL r l) r c := by
  rcases h.at' r l with ⟨he, _, _⟩ | h
  · have hm : (⟨l.val, by have := l.isLt; omega⟩ : Fin 1000000) ∈ lane l.val b :=
      (lane_all hb).mpr (Nat.mod_eq_of_lt l.isLt)
    rw [he] at hm
    exact absurd hm (Finset.notMem_empty _)
  · exact h

/-- The ratio of a weight and its draw. -/
theorem div_key (r : Fin 32) (c : Fin 1000000) :
    Ideal.div (wt A r c : EReal) (draw (word r c) : EReal) = ((key A r c : ℝ) : EReal) := by
  rw [Ideal.div_coe (draw_pos _).ne', ← EReal.coe_mul]
  unfold key
  rw [mul_one_div]

/-- A lane's ratio is that of its best column. -/
theorem ratio_at {x : Best Ideal} {r : Fin 32} {l : Fin 128} {c : Fin 1000000} (h : Is A x (atL r l) r c) :
    divf x.p x.w (atL r l) = ((key A r c : ℝ) : EReal) := by
  refine Eq.trans ?_ (div_key r c)
  exact congrArg₂ Ideal.div h.p h.w

/-- The largest ratio of a row's lanes is that of the row's leader. -/
theorem ratio_max {x : Best Ideal} {b : Nat} (h : Best.Holds A b x) (hb : 1000000 ≤ b) (r : Fin 32) {cs : Fin 1000000}
    (hs : Leads A r Finset.univ cs) : rowMax (divf x.p x.w) (at0 r) = ((key A r cs : ℝ) : EReal) := by
  rw [rowMax_apply]
  refine le_antisymm ((Finset.fold_max_le _).mpr ⟨bot_le, fun l _ => ?_⟩) ((Finset.le_fold_max _).mpr (.inr ⟨laneOf cs, Finset.mem_univ _, ?_⟩))
  · obtain ⟨c, _, hi⟩ := lane_ends h hb r l
    refine (ratio_at hi).le.trans ?_
    exact EReal.coe_le_coe_iff.mpr (hs.le c (Finset.mem_univ _))
  · obtain ⟨c, hl, hi⟩ := lane_ends h hb r (laneOf cs)
    refine le_trans ?_ (ratio_at hi).ge
    exact EReal.coe_le_coe_iff.mpr (hl.le cs (mem_laneOf hb cs))

/-- A word less one and less a part of it. -/
theorem sub_word (a c : Nat) : BitVec.ofNat 32 (a + c + 1) - 1#32 - BitVec.ofNat 32 a = BitVec.ofNat 32 c := by
  rw [BitVec.ofNat_add (a + c) 1, BitVec.ofNat_add a c, BitVec.add_sub_cancel, BitVec.add_comm, BitVec.add_sub_cancel]

/-- A count less one and less its row's start is the column. -/
theorem sub_count (r : Fin 32) (c : Fin 1000000) :
    BitVec.ofNat 32 (r.val * 1000000 + c.val + 1) - 1#32 - BitVec.ofNat 32 (r.val * 1000000) = BitVec.ofNat 32 c.val :=
  sub_word _ _

/-- The word a lane gives the pick: its best column where its ratio is the largest, one above every column elsewhere. -/
theorem pick_word {x : Best Ideal} (m : SC.Idx → Ideal .f32) {r : Fin 32} {l : Fin 128} {c : Fin 1000000} (h : Is A x (atL r l) r c)
    {q : ℝ} (hm : m (at0 r) = ((q : ℝ) : EReal)) :
    select (cmpf .oeq (divf x.p x.w) (broadcastTo SL m bc_SC)) (subi (subi x.i (broadcast SL 1#32)) rowBase)
        (broadcast SL 1000000#32) (atL r l)
      = BitVec.ofNat 32 (if key A r c = q then c.val else 1000000) := by
  have hc : cmpf .oeq (divf x.p x.w) (broadcastTo SL m bc_SC) (atL r l) = BitVec.ofBool (decide (key A r c = q)) := by
    have h1 : broadcastTo SL m bc_SC (atL r l) = ((q : ℝ) : EReal) := (spread_apply m (atL r l)).trans hm
    refine (congrArg₂ (Ideal.cmp .oeq) (ratio_at h) h1).trans ?_
    refine congrArg BitVec.ofBool (decide_eq_decide.mpr EReal.coe_eq_coe_iff)
  rw [select_apply, hc]
  by_cases hk : key A r c = q
  · rw [decide_eq_true hk, if_pos hk]
    refine (if_pos rfl).trans ?_
    refine Eq.trans ?_ (sub_count r c)
    show x.i (atL r l) - 1#32 - rowBase (atL r l) = _
    rw [h.i, rowBase_eq]
    rfl
  · rw [decide_eq_false hk, if_neg hk]
    exact if_neg (by decide)

/-- The kernel's column of a row is the row's leader. -/
theorem pick_leader {x : Best Ideal} {b : Nat} (h : Best.Holds A b x) (hb : 1000000 ≤ b) (r : Fin 32) {cs : Fin 1000000}
    (hs : Leads A r Finset.univ cs) : pick x (at0 r) = BitVec.ofNat 32 cs.val := by
  choose best hl hi using lane_ends h hb r
  have h0 : best (laneOf cs) = cs := by
    have hm := mem_laneOf hb cs
    have he : key A r (best (laneOf cs)) = key A r cs :=
      le_antisymm (hs.le _ (Finset.mem_univ _)) ((hl (laneOf cs)).le cs hm)
    exact le_antisymm ((hl (laneOf cs)).first cs hm he.symm) (hs.first _ (Finset.mem_univ _) he)
  unfold pick
  rw [col_apply]
  refine (multiReductionI_eq_fold ..).trans ((red_SL.fold_filter_drop_single _ _ _ _).trans ?_)
  refine (least_word _ (fun l => if key A r (best l) = key A r cs then (best l).val else 1000000) (fun l => ?_) (laneOf cs) ?_ ?_ ?_).trans ?_
  · exact (congrArg _ (lift_SL _ l)).trans (pick_word _ (hi l) (ratio_max h hb r hs))
  · rw [h0, if_pos rfl]; have := cs.isLt; omega
  · intro l; have := (best l).isLt; split <;> omega
  · intro l
    rw [h0, if_pos rfl]
    by_cases hk : key A r (best l) = key A r cs
    · rw [if_pos hk]; exact hs.first _ (Finset.mem_univ _) hk
    · rw [if_neg hk]; exact cs.isLt.le
  · rw [h0, if_pos rfl]

end Cert.Alg

end
-- ==== Proof.RefPick.lean ====
/- The column the reference samples of each row: the first whose weight over its draw is the largest, as the kernel's. -/
module

public import proofs.«01_k».proof.Proof.Pick
public import proofs.«01_k».proof.Proof.RefValue

@[expose] public section

set_option maxRecDepth 16384

noncomputable section

namespace Cert.Alg

open Idealize.ShloMosaic Idealize.ShloMosaic.ValueIdx Cert.Roll

variable {A : SA.Idx → Ideal .f32}

/-- The least of a row's columns as large as its leader, as a word, is the leader. -/
theorem least_column {r : Fin 32} {cs : Fin 1000000} (hs : Leads A r Finset.univ cs) :
    (Finset.univ : Finset (Fin 1000000)).fold IntOp.minsi 2147483647#32
      (fun c => BitVec.ofNat 32 (if key A r c = key A r cs then c.val else 1000000)) = BitVec.ofNat 32 cs.val := by
  refine (least_word _ (fun c => if key A r c = key A r cs then c.val else 1000000) (fun _ => rfl) cs ?_ ?_ ?_).trans ?_
  · rw [if_pos rfl]; have := cs.isLt; omega
  · intro c; have := c.isLt; split <;> omega
  · intro c
    rw [if_pos rfl]
    by_cases h : key A r c = key A r cs
    · rw [if_pos h]; exact hs.first _ (Finset.mem_univ _) h
    · rw [if_neg h]; exact cs.isLt.le
  · rw [if_pos rfl]

/-! ## The reference's -/

section reference

open Cert.ReferenceIdeal Cert.ReferenceIdeal.Gen Cert.ReferenceIdeal.Value

variable {V : Valuation τ sig (Elt Ideal)}

/-- The reference's largest score of each row. -/
def refBest (s : FVec Ideal S32x1000000 .f32) : FVec Ideal S32 .f32 :=
  Host.reduce FloatOps.maximumf s (constant S_ .f32 0xFF800000#32) reducesTo_S32x1000000_S32_d1 h_S_

/-- The reference's sampled columns, from its scores. -/
def refPick (s : FVec Ideal S32x1000000 .f32) : IVec S32 32 :=
  Host.reduce IntOp.minsi
    (select
      (cmpf .oeq s (broadcastInDim S32x1000000 ![0, 1] bcast_S32x1_S32x1000000_0_1 (broadcastInDim S32x1 ![0] bcast_S32_S32x1_0 (refBest s))))
      (iotaInDim S32x1000000 32 1) (broadcastInDim S32x1000000 ![] bcast_S_S32x1000000 (constantI S_ 32 1000000#32)))
    (constantI S_ 32 2147483647#32) reducesTo_S32x1000000_S32_d1 h_S_

/-- A row's largest score is that of a column no other exceeds. -/
theorem best_score (s : FVec Ideal S32x1000000 .f32) (r : Fin 32) (cs : Fin 1000000)
    (h : ∀ c, (s (at2 r c) : EReal) ≤ s (at2 r cs)) : refBest s (at1 r) = s (at2 r cs) := by
  unfold refBest
  refine (Host.reduce_eq_fold_single _ _ _ _ red_SA _ _).trans ?_
  refine (congrArg (fun z => Finset.fold _ z _ _) bot_bits).trans ?_
  refine (Finset.fold_congr (g := fun c : Fin 1000000 => (s (at2 r c) : EReal)) fun c _ => congrArg s (lift_SA (at1 r) c)).trans ?_
  exact le_antisymm ((Finset.fold_max_le _).mpr ⟨bot_le, fun c _ => h c⟩)
    ((Finset.le_fold_max _).mpr (.inr ⟨cs, Finset.mem_univ _, le_rfl⟩))

/-- What an entry gives the pick: its column where its score is the largest, one above every column elsewhere. -/
theorem score_word (s : FVec Ideal S32x1000000 .f32) (m : FVec Ideal S32 .f32) (r : Fin 32) (c : Fin 1000000) :
    select
      (cmpf .oeq s (broadcastInDim S32x1000000 ![0, 1] bcast_S32x1_S32x1000000_0_1 (broadcastInDim S32x1 ![0] bcast_S32_S32x1_0 m)))
      (iotaInDim S32x1000000 32 1) (broadcastInDim S32x1000000 ![] bcast_S_S32x1000000 (constantI S_ 32 1000000#32)) (at2 r c)
      = if (s (at2 r c) : EReal) = m (at1 r) then BitVec.ofNat 32 c.val else 1000000#32 := by
  have hc : cmpf .oeq s (broadcastInDim S32x1000000 ![0, 1] bcast_S32x1_S32x1000000_0_1 (broadcastInDim S32x1 ![0] bcast_S32_S32x1_0 m)) (at2 r c)
      = BitVec.ofBool (decide ((s (at2 r c) : EReal) = m (at1 r))) := by
    have h1 := (spread_host (broadcastInDim S32x1 ![0] bcast_S32_S32x1_0 m) r c).trans (col_host m r)
    exact congrArg (Ideal.cmp .oeq (s (at2 r c))) h1
  rw [select_apply, hc]
  by_cases hk : (s (at2 r c) : EReal) = m (at1 r)
  · rw [decide_eq_true hk, if_pos hk]
    refine (if_pos rfl).trans ?_
    rw [iotaInDim_apply]
    rfl
  · rw [decide_eq_false hk, if_neg hk]
    refine (if_neg (by decide)).trans ?_
    rw [broadcastInDim_scalar_apply]
    rfl

/-- The column of scores that are largest where the weights over the draws are is the row's leader. -/
theorem score_column (s : FVec Ideal S32x1000000 .f32) (r : Fin 32) {cs : Fin 1000000} (hs : Leads A r Finset.univ cs)
    (hl : ∀ c, (s (at2 r c) : EReal) ≤ s (at2 r cs)) (hk : ∀ c, (s (at2 r c) : EReal) = s (at2 r cs) ↔ key A r c = key A r cs) :
    refPick s (at1 r) = BitVec.ofNat 32 cs.val := by
  have hm : refBest s (at1 r) = s (at2 r cs) := best_score s r cs hl
  unfold refPick
  refine (Host.reduce_eq_fold_single _ _ _ _ red_SA _ _).trans ?_
  refine (Finset.fold_congr (g := fun c : Fin 1000000 => BitVec.ofNat 32 (if key A r c = key A r cs then c.val else 1000000))
    fun c _ => ?_).trans (least_column hs)
  refine (congrArg _ (lift_SA (at1 r) c)).trans ((score_word s _ r c).trans ?_)
  rw [hm]
  by_cases h : key A r c = key A r cs
  · rw [if_pos h, if_pos ((hk c).mpr h)]
  · rw [if_neg h, if_neg fun h' => h ((hk c).mp h')]

/-- The columns of scores that compare as the weights over the draws do are the rows' leaders. -/
theorem score_leader (s : FVec Ideal S32x1000000 .f32) (r : Fin 32)
    (h : ∀ c c', (s (at2 r c) : EReal) ≤ s (at2 r c') ↔ key A r c ≤ key A r c') {cs : Fin 1000000}
    (hs : Leads A r Finset.univ cs) : refPick s (at1 r) = BitVec.ofNat 32 cs.val :=
  score_column s r hs (fun c => (h c cs).mpr (hs.le c (Finset.mem_univ _))) fun c =>
    ⟨fun e => le_antisymm ((h c cs).mp e.le) ((h cs c).mp e.ge), fun e => le_antisymm ((h c cs).mpr e.le) ((h cs c).mpr e.ge)⟩

/-- The reference's column of a row is the row's leader. -/
theorem ref_leader (hV : V (Proc.devRef .tc main_arg0) = A) (r : Fin 32) {cs : Fin 1000000}
    (hs : Leads A r Finset.univ cs) : refPick (refScore V) (at1 r) = BitVec.ofNat 32 cs.val :=
  score_leader (refScore V) r (fun c c' => score_le hV r c c') hs

end reference

/-- Kernel and reference sample the same column of every row. -/
theorem pick_eq {V : Valuation Cert.ReferenceIdeal.τ Cert.ReferenceIdeal.sig (Elt Ideal)}
    (hV : V (Proc.devRef .tc Cert.ReferenceIdeal.main_arg0) = A) (r : Fin 32) :
    pick (bestAt A (stat (root : EReal) A) 31) (at0 r) = refPick (refScore V) (at1 r) := by
  obtain ⟨cs, hs⟩ := leader A r
  rw [ref_leader hV r hs]
  exact pick_leader (best_holds stat_offset stat_scale 31 le_rfl) (by decide) r hs

end Cert.Alg

end
-- ==== Proof.GuardedValue.lean ====
/- The reference with its guard, the small number added inside the logarithm: its random words and its probabilities are
   those of the reference without it. -/
module

public import proofs.«01_k».proof.Proof.RefPick
public import proofs.«01_k».proof.Proof.Gen.GuardedIdeal.Run

@[expose] public section

set_option maxRecDepth 16384

noncomputable section

namespace Cert.Alg

open Idealize.ShloMosaic Idealize.ShloMosaic.ValueIdx Cert.Roll
open Cert.GuardedIdeal Cert.GuardedIdeal.Gen Cert.GuardedIdeal.Value

/-- The guarded reference's counters. -/
theorem guarded_count {F : FTy → Type} [FloatOps F] (V : Valuation τ sig (Elt F)) (i : S32x1000000.Idx) :
    res_main_v33 V i = BitVec.ofNat 32 ((i 0).val * 1000000 + (i 1).val + 1) := by
  show BitVec.ofNat 32 (i 0).val * BitVec.ofNat 32 1000000 + BitVec.ofNat 32 (i 1).val + BitVec.ofNat 32 1 = _
  rw [← BitVec.ofNat_mul, ← BitVec.ofNat_add, ← BitVec.ofNat_add]

/-- The second word starts as the counter. -/
theorem guarded_count' {F : FTy → Type} [FloatOps F] (V : Valuation τ sig (Elt F)) (i : S32x1000000.Idx) :
    res_main_v34 V i = res_main_v33 V i := by
  show (0#32 + 0#32) + res_main_v33 V i = _
  rw [BitVec.add_zero, BitVec.zero_add]

/-- The guarded reference's words, as its run leaves them. -/
def guardedBits {F : FTy → Type} [FloatOps F] (V : Valuation τ sig (Elt F)) : IVec S32x1000000 32 :=
  xori (addi (res_main_v183 V) (broadcastInDim S32x1000000 ![] bcast_S_S32x1000000 (constantI S_ 32 466688987#32)))
    (addi (xori (res_main_v183 V) (ori (Host.shli (res_main_v182 V) (broadcastInDim S32x1000000 ![] bcast_S_S32x1000000 (constantI S_ 32 6#32)))
      (Host.shrui (res_main_v182 V) (broadcastInDim S32x1000000 ![] bcast_S_S32x1000000 (constantI S_ 32 26#32)))))
      (broadcastInDim S32x1000000 ![] bcast_S_S32x1000000 (constantI S_ 32 5#32)))

/-- The guarded reference's word at an entry is the generator's at that entry's counter. -/
theorem guardedBits_apply {F : FTy → Type} [FloatOps F] (V : Valuation τ sig (Elt F)) (i : S32x1000000.Idx) :
    guardedBits V i = mixS (BitVec.ofNat 32 ((i 0).val * 1000000 + (i 1).val + 1)) := by
  rw [← guarded_count V i]
  symm
  unfold mixS
  have t40 : res_main_v40 V i = turnS 13#32 19#32 (res_main_v33 V i) (res_main_v33 V i) :=
    (turn_host _ _ _ _ i).trans (by rw [guarded_count'])
  have t41 : res_main_v41 V i = IntOp.addi (res_main_v33 V i) (res_main_v40 V i) := by
    rw [← guarded_count']; rfl
  rw [← t40]
  refine (roundS_eq (c := res_main_v41 V i) (d := res_main_v47 V i) t41 (turn_host _ _ _ _ i)).trans ?_
  refine (roundS_eq (c := res_main_v48 V i) (d := res_main_v54 V i) rfl (turn_host _ _ _ _ i)).trans ?_
  refine (roundS_eq (c := res_main_v55 V i) rfl rfl).trans ?_
  refine (injectS_eq (d := res_main_v65 V i) rfl (congrArg (IntOp.addi · _) (turn_host _ _ _ _ i))).trans ?_
  refine (roundS_eq (c := res_main_v66 V i) (d := res_main_v72 V i) rfl (turn_host _ _ _ _ i)).trans ?_
  refine (roundS_eq (c := res_main_v73 V i) (d := res_main_v79 V i) rfl (turn_host _ _ _ _ i)).trans ?_
  refine (roundS_eq (c := res_main_v80 V i) (d := res_main_v86 V i) rfl (turn_host _ _ _ _ i)).trans ?_
  refine (roundS_eq (c := res_main_v87 V i) rfl rfl).trans ?_
  refine (injectS_eq (d := res_main_v97 V i) rfl (congrArg (IntOp.addi · _) (turn_host _ _ _ _ i))).trans ?_
  refine (roundS_eq (c := res_main_v98 V i) (d := res_main_v104 V i) rfl (turn_host _ _ _ _ i)).trans ?_
  refine (roundS_eq (c := res_main_v105 V i) (d := res_main_v111 V i) rfl (turn_host _ _ _ _ i)).trans ?_
  refine (roundS_eq (c := res_main_v112 V i) (d := res_main_v118 V i) rfl (turn_host _ _ _ _ i)).trans ?_
  refine (roundS_eq (c := res_main_v119 V i) rfl rfl).trans ?_
  refine (injectS_eq (d := res_main_v129 V i) rfl (congrArg (IntOp.addi · _) (turn_host _ _ _ _ i))).trans ?_
  refine (roundS_eq (c := res_main_v130 V i) (d := res_main_v136 V i) rfl (turn_host _ _ _ _ i)).trans ?_
  refine (roundS_eq (c := res_main_v137 V i) (d := res_main_v143 V i) rfl (turn_host _ _ _ _ i)).trans ?_
  refine (roundS_eq (c := res_main_v144 V i) (d := res_main_v150 V i) rfl (turn_host _ _ _ _ i)).trans ?_
  refine (roundS_eq (c := res_main_v151 V i) rfl rfl).trans ?_
  refine (injectS_eq (d := res_main_v161 V i) rfl (congrArg (IntOp.addi · _) (turn_host _ _ _ _ i))).trans ?_
  refine (roundS_eq (c := res_main_v162 V i) (d := res_main_v168 V i) rfl (turn_host _ _ _ _ i)).trans ?_
  refine (roundS_eq (c := res_main_v169 V i) (d := res_main_v175 V i) rfl (turn_host _ _ _ _ i)).trans ?_
  refine (roundS_eq (c := res_main_v176 V i) (d := res_main_v182 V i) rfl (turn_host _ _ _ _ i)).trans ?_
  refine (roundS_eq (c := res_main_v183 V i) rfl rfl).trans ?_
  exact (injectS_eq rfl
    (congrArg (IntOp.addi · 5#32) (turn_host 6#32 26#32 (res_main_v182 V) (res_main_v183 V) i))).trans rfl

/-! ## The probabilities -/

variable {A : SA.Idx → Ideal .f32} {V : Valuation τ sig (Elt Ideal)}

/-- The guarded reference's magnitudes, least and largest magnitudes, scaled magnitudes and weights, as its run leaves them. -/
def guardedAbs (V : Valuation τ sig (Elt Ideal)) : SA.Idx → EReal := res_main_v0 V
def guardedMin (V : Valuation τ sig (Elt Ideal)) : SC.Idx → EReal := res_main_v2 V
def guardedMax (V : Valuation τ sig (Elt Ideal)) : SC.Idx → EReal :=
  broadcastInDim S32x1 ![0] bcast_S32_S32x1_0 (Host.reduce (α := Ideal .f32) FloatOps.maximumf (res_main_v0 V)
    (constant S_ .f32 0xFF800000#32) reducesTo_S32x1000000_S32_d1 h_S_)
def guardedUnit (V : Valuation τ sig (Elt Ideal)) : SA.Idx → EReal := res_main_v11 V
def guardedWeight (V : Valuation τ sig (Elt Ideal)) : SA.Idx → EReal := res_main_v16 V

/-- The guarded reference's magnitudes. -/
theorem guarded_abs (hV : V (Proc.devRef .tc main_arg0) = A) (r : Fin 32) (c : Fin 1000000) :
    guardedAbs V (at2 r c) = mag A r c := by
  subst hV; rfl

/-- The guarded reference's least magnitudes. -/
theorem guarded_min (hV : V (Proc.devRef .tc main_arg0) = A) (r : Fin 32) : guardedMin V (at0 r) = gmin A r := by
  unfold guardedMin res_main_v2
  refine (col_host _ r).trans ?_
  refine (Host.reduce_eq_fold_single _ _ _ _ red_SA _ _).trans ?_
  refine (congrArg (fun z => Finset.fold _ z _ _) top_bits).trans ?_
  exact Finset.fold_congr fun k _ => (congrArg (guardedAbs V) (lift_SA (at1 r) k)).trans (guarded_abs hV r k)

/-- The guarded reference's largest magnitudes. -/
theorem guarded_max (hV : V (Proc.devRef .tc main_arg0) = A) (r : Fin 32) : guardedMax V (at0 r) = gmax A r := by
  unfold guardedMax
  refine (col_host _ r).trans ?_
  refine (Host.reduce_eq_fold_single _ _ _ _ red_SA _ _).trans ?_
  refine (congrArg (fun z => Finset.fold _ z _ _) bot_bits).trans ?_
  exact Finset.fold_congr fun k _ => (congrArg (guardedAbs V) (lift_SA (at1 r) k)).trans (guarded_abs hV r k)

/-- A scaled magnitude from the row's least and largest. -/
theorem guarded_unit_apply (r : Fin 32) (c : Fin 1000000) : guardedUnit V (at2 r c)
    = Ideal.div (guardedAbs V (at2 r c) - guardedMin V (at0 r))
      (guardedMax V (at0 r) - guardedMin V (at0 r) + Ideal.ofBits .f32 0x2B8CBCCC#32) :=
  scaled_apply (res_main_v0 V) (res_main_v2 V) (guardedMax V) 0x2B8CBCCC#32 r c

/-- A scaled magnitude as a real. -/
theorem guarded_unit (hV : V (Proc.devRef .tc main_arg0) = A) (r : Fin 32) (c : Fin 1000000) :
    guardedUnit V (at2 r c) = (((mg A r c - lo A r) * inv A r : ℝ) : EReal) := by
  rw [guarded_unit_apply, guarded_abs hV, guarded_min hV, guarded_max hV, eps_val]
  exact div_den fun h => by rw [coe_mg h, coe_lo h, ← EReal.coe_sub]

/-- A weight from the scaled magnitude. -/
theorem guarded_weight_apply (i : SA.Idx) : guardedWeight V i
    = guardedUnit V i * guardedUnit V i * Ideal.ofBits .f32 0x3F666666#32 + Ideal.ofBits .f32 0x3DCCCCCD#32 :=
  squared_apply (res_main_v11 V) 0x3F666666#32 0x3DCCCCCD#32 i

/-- The guarded reference's weights. -/
theorem guarded_weight (hV : V (Proc.devRef .tc main_arg0) = A) (r : Fin 32) (c : Fin 1000000) :
    guardedWeight V (at2 r c) = (wt A r c : EReal) := by
  rw [guarded_weight_apply, guarded_unit hV, span_val, floor_val, ← EReal.coe_mul, ← EReal.coe_mul, ← EReal.coe_add]
  rfl

/-- The guarded reference's sums of weights, as its run leaves them. -/
def guardedTotal (V : Valuation τ sig (Elt Ideal)) : S32.Idx → Ideal .f32 :=
  Host.reduceAdd (res_main_v16 V) (constant S_ .f32 0x00000000#32) reducesTo_S32x1000000_S32_d1 h_S_

/-- The guarded reference's probabilities, as its run leaves them. -/
def guardedProbs (V : Valuation τ sig (Elt Ideal)) : S32x1000000.Idx → Ideal .f32 :=
  Host.divf (res_main_v16 V) (broadcastInDim S32x1000000 ![0, 1] bcast_S32x1_S32x1000000_0_1
    (broadcastInDim S32x1 ![0] bcast_S32_S32x1_0
      (guardedTotal V)))

/-- The guarded reference's sums of weights. -/
theorem guarded_total (hV : V (Proc.devRef .tc main_arg0) = A) (r : Fin 32) :
    guardedTotal V (at1 r) = (total A r : EReal) := by
  refine (ValueIdx.hostReduceAdd_apply ..).trans ?_
  refine (Ideal.hostReduceAdd_single _ red_SA _ _ _).trans ?_
  refine (congrArg₂ (fun x y : EReal => x + y) zero_bits (Finset.sum_congr rfl fun k _ =>
    (congrArg (guardedWeight V) (lift_SA (at1 r) k)).trans (guarded_weight hV r k))).trans ?_
  exact (zero_add _).trans (coe_sum' Finset.univ (wt A r))

/-- The guarded reference's probability of an entry. -/
theorem guarded_prob (hV : V (Proc.devRef .tc main_arg0) = A) (r : Fin 32) (c : Fin 1000000) :
    guardedProbs V (at2 r c) = ((wt A r c * (1 / total A r) : ℝ) : EReal) := by
  refine (shared_apply (guardedWeight V) (guardedTotal V) r c).trans ?_
  rw [guarded_weight hV, guarded_total hV, Ideal.div_coe (total_pos r).ne', ← EReal.coe_mul]

end Cert.Alg

end
-- ==== Proof.Clear.lean ====
/- What the precondition says: where an entry's score comes close to the row's largest, its probability is one number. -/
module

public import proofs.«01_k».proof.Pre_clear
public import proofs.«01_k».proof.Proof.GuardedValue

@[expose] public section

set_option maxRecDepth 16384

noncomputable section

namespace Cert.Alg

open Idealize.ShloMosaic Idealize.ShloMosaic.ValueIdx Cert.Roll
open Cert.GuardedIdeal Cert.GuardedIdeal.Gen Cert.GuardedIdeal.Value

/-- The precondition's shape relations. -/
theorem clearFacts : Cert.Pre_clear.Facts :=
  ⟨by decide, by decide, by decide, by decide, by decide, by decide⟩

variable {V : Valuation τ sig (Elt Ideal)}

/-- The guarded reference's scores, as its run leaves them. -/
def guardedScore (V : Valuation τ sig (Elt Ideal)) : S32x1000000.Idx → Ideal .f32 := res_main_v212 V

/-- The guarded reference's logarithms, as its run leaves them. -/
def guardedLogs (V : Valuation τ sig (Elt Ideal)) : S32x1000000.Idx → Ideal .f32 :=
  Host.log (addf (guardedProbs V) (broadcastInDim S32x1000000 ![] bcast_S_S32x1000000 (constant S_ .f32 0x0DA24260#32)))

/-- The floats in `[1, 2)` of words. -/
def floatsOf (b : IVec S32x1000000 32) : FVec Ideal S32x1000000 .f32 :=
  bitcastToFloat (F := Ideal) .f32 (ori (Host.shrui b (broadcastInDim S32x1000000 ![] bcast_S_S32x1000000 (constantI S_ 32 9#32)))
    (broadcastInDim S32x1000000 ![] bcast_S_S32x1000000 (constantI S_ 32 1065353216#32)))

/-- Which scores are behind their row's largest by more than the margin. -/
def behindOf (s : FVec Ideal S32x1000000 .f32) : IVec S32x1000000 1 :=
  cmpf .olt s (broadcastInDim S32x1000000 ![0, 1] bcast_S32x1_S32x1000000_0_1
    (subf (broadcastInDim S32x1 ![0] bcast_S32_S32x1_0 (refBest s)) (broadcastInDim S32x1 ![] bcast_S_S32x1 (constant S_ .f32 0x1E3CE508#32))))

/-- The largest probability of each row among the scores that are not behind. -/
def topOf (p : FVec Ideal S32x1000000 .f32) (b : IVec S32x1000000 1) : FVec Ideal S32 .f32 :=
  Host.reduce FloatOps.maximumf (select b (broadcastInDim S32x1000000 ![] bcast_S_S32x1000000 (constant S_ .f32 0x00000000#32)) p)
    (constant S_ .f32 0xFF800000#32) reducesTo_S32x1000000_S32_d1 h_S_

/-- The precondition, of probabilities and scores. -/
def clearOf (p s : FVec Ideal S32x1000000 .f32) : IVec S32x1000000 1 :=
  ori (behindOf s) (cmpf .oeq p (broadcastInDim S32x1000000 ![0, 1] bcast_S32x1_S32x1000000_0_1
    (broadcastInDim S32x1 ![0] bcast_S32_S32x1_0 (topOf p (behindOf s)))))

section pre

variable [Cert.Pre_clear.Facts]

/-! The precondition computes the guarded reference's probabilities and scores as that reference does, part by part. -/

theorem clear_part0 : Cert.Pre_clear.fn (F := Ideal) (V (Proc.devRef .tc main_arg0))
    = Cert.Pre_clear.fn_part1 (F := Ideal) (res_main_v16 V) (guardedTotal V) := rfl

theorem clear_part1 : Cert.Pre_clear.fn_part1 (F := Ideal) (res_main_v16 V) (guardedTotal V)
    = Cert.Pre_clear.fn_part2 (F := Ideal) (guardedProbs V) (guardedLogs V) (res_main_v33 V) (res_main_v34 V) (broadcastInDim S32x1000000 ![] bcast_S_S32x1000000 (constantI S_ 32 13#32)) := rfl

theorem clear_part2 : Cert.Pre_clear.fn_part2 (F := Ideal) (guardedProbs V) (guardedLogs V) (res_main_v33 V) (res_main_v34 V) (broadcastInDim S32x1000000 ![] bcast_S_S32x1000000 (constantI S_ 32 13#32))
    = Cert.Pre_clear.fn_part3 (F := Ideal) (guardedProbs V) (guardedLogs V) (res_main_v48 V) (res_main_v54 V) := rfl

theorem clear_part3 : Cert.Pre_clear.fn_part3 (F := Ideal) (guardedProbs V) (guardedLogs V) (res_main_v48 V) (res_main_v54 V)
    = Cert.Pre_clear.fn_part4 (F := Ideal) (guardedProbs V) (guardedLogs V) (res_main_v66 V) (res_main_v72 V) := rfl

theorem clear_part4 : Cert.Pre_clear.fn_part4 (F := Ideal) (guardedProbs V) (guardedLogs V) (res_main_v66 V) (res_main_v72 V)
    = Cert.Pre_clear.fn_part5 (F := Ideal) (guardedProbs V) (guardedLogs V) (res_main_v86 V) (res_main_v87 V) (Host.shli (res_main_v86 V) (broadcastInDim S32x1000000 ![] bcast_S_S32x1000000 (constantI S_ 32 24#32))) (broadcastInDim S32x1000000 ![] bcast_S_S32x1000000 (constantI S_ 32 8#32)) := rfl

theorem clear_part5 : Cert.Pre_clear.fn_part5 (F := Ideal) (guardedProbs V) (guardedLogs V) (res_main_v86 V) (res_main_v87 V) (Host.shli (res_main_v86 V) (broadcastInDim S32x1000000 ![] bcast_S_S32x1000000 (constantI S_ 32 24#32))) (broadcastInDim S32x1000000 ![] bcast_S_S32x1000000 (constantI S_ 32 8#32))
    = Cert.Pre_clear.fn_part6 (F := Ideal) (guardedProbs V) (guardedLogs V) (res_main_v104 V) (res_main_v105 V) (Host.shli (res_main_v104 V) (broadcastInDim S32x1000000 ![] bcast_S_S32x1000000 (constantI S_ 32 15#32))) (broadcastInDim S32x1000000 ![] bcast_S_S32x1000000 (constantI S_ 32 17#32)) := rfl

theorem clear_part6 : Cert.Pre_clear.fn_part6 (F := Ideal) (guardedProbs V) (guardedLogs V) (res_main_v104 V) (res_main_v105 V) (Host.shli (res_main_v104 V) (broadcastInDim S32x1000000 ![] bcast_S_S32x1000000 (constantI S_ 32 15#32))) (broadcastInDim S32x1000000 ![] bcast_S_S32x1000000 (constantI S_ 32 17#32))
    = Cert.Pre_clear.fn_part7 (F := Ideal) (guardedProbs V) (guardedLogs V) (xori (res_main_v119 V) (ori (Host.shli (res_main_v118 V) (broadcastInDim S32x1000000 ![] bcast_S_S32x1000000 (constantI S_ 32 6#32))) (Host.shrui (res_main_v118 V) (broadcastInDim S32x1000000 ![] bcast_S_S32x1000000 (constantI S_ 32 26#32))))) (addi (res_main_v119 V) (broadcastInDim S32x1000000 ![] bcast_S_S32x1000000 (constantI S_ 32 0#32))) := rfl

theorem clear_part7 : Cert.Pre_clear.fn_part7 (F := Ideal) (guardedProbs V) (guardedLogs V) (xori (res_main_v119 V) (ori (Host.shli (res_main_v118 V) (broadcastInDim S32x1000000 ![] bcast_S_S32x1000000 (constantI S_ 32 6#32))) (Host.shrui (res_main_v118 V) (broadcastInDim S32x1000000 ![] bcast_S_S32x1000000 (constantI S_ 32 26#32))))) (addi (res_main_v119 V) (broadcastInDim S32x1000000 ![] bcast_S_S32x1000000 (constantI S_ 32 0#32)))
    = Cert.Pre_clear.fn_part8 (F := Ideal) (guardedProbs V) (guardedLogs V) (res_main_v143 V) (res_main_v144 V) (broadcastInDim S32x1000000 ![] bcast_S_S32x1000000 (constantI S_ 32 16#32)) := rfl

theorem clear_part8 : Cert.Pre_clear.fn_part8 (F := Ideal) (guardedProbs V) (guardedLogs V) (res_main_v143 V) (res_main_v144 V) (broadcastInDim S32x1000000 ![] bcast_S_S32x1000000 (constantI S_ 32 16#32))
    = Cert.Pre_clear.fn_part9 (F := Ideal) (guardedProbs V) (guardedLogs V) (res_main_v161 V) (res_main_v162 V) (broadcastInDim S32x1000000 ![] bcast_S_S32x1000000 (constantI S_ 32 13#32)) := rfl

theorem clear_part9 : Cert.Pre_clear.fn_part9 (F := Ideal) (guardedProbs V) (guardedLogs V) (res_main_v161 V) (res_main_v162 V) (broadcastInDim S32x1000000 ![] bcast_S_S32x1000000 (constantI S_ 32 13#32))
    = Cert.Pre_clear.fn_part10 (F := Ideal) (guardedProbs V) (guardedLogs V) (res_main_v176 V) (res_main_v182 V) := rfl

theorem clear_part10 : Cert.Pre_clear.fn_part10 (F := Ideal) (guardedProbs V) (guardedLogs V) (res_main_v176 V) (res_main_v182 V)
    = Cert.Pre_clear.fn_part11 (F := Ideal) (guardedProbs V) (guardedLogs V) (floatsOf (guardedBits V)) (constant S_ .f32 0x3F800000#32) := rfl

/-- The precondition, of the guarded reference's probabilities and scores. -/
theorem clear_fn : Cert.Pre_clear.fn (F := Ideal) (V (Proc.devRef .tc main_arg0))
    = clearOf (guardedProbs V) (guardedScore V) :=
  clear_part0.trans <| clear_part1.trans <| clear_part2.trans <| clear_part3.trans <| clear_part4.trans <| clear_part5.trans <| clear_part6.trans <| clear_part7.trans <| clear_part8.trans <| clear_part9.trans <| clear_part10.trans <| rfl

end pre

end Cert.Alg

end
-- ==== Proof.Margin.lean ====
/- Why the guard inside the logarithm changes no column where the precondition holds: it raises every score by less than the
   margin, and scores of equal probabilities by the same. -/
module

public import proofs.«01_k».proof.Proof.Draws

@[expose] public section

noncomputable section

namespace Cert.Alg

open Idealize.ShloMosaic Idealize.ShloMosaic.ValueIdx Cert.Roll

/-- The small number added inside the logarithm. -/
def guard : ℝ := 10633824 * 2 ^ (-123 : ℤ)

/-- How far behind a score must be. -/
def margin : ℝ := 12379400 * 2 ^ (-90 : ℤ)

/-- The guard is positive. -/
theorem guard_pos : 0 < guard := by unfold guard; positivity

/-- The word of the guard. -/
theorem guard_bits : Ideal.ofBits .f32 0x0DA24260#32 = (guard : EReal) := by
  unfold guard
  simp [Ideal.ofBits, Ideal.ieee, -EReal.coe_mul]

/-- The word of the margin. -/
theorem margin_bits : Ideal.ofBits .f32 0x1E3CE508#32 = (margin : EReal) := by
  unfold margin
  simp [Ideal.ofBits, Ideal.ieee, -EReal.coe_mul]

variable {A : SA.Idx → Ideal .f32}

/-- A weight is at most the span and the floor together. -/
theorem wt_le (r : Fin 32) (c : Fin 1000000) : wt A r c ≤ span + floor := by
  have h : 0 ≤ (mg A r c - lo A r) * inv A r ∧ (mg A r c - lo A r) * inv A r ≤ 1 := by
    by_cases hf : Finite A r
    · have hd := den_pos hf
      have h0 : lo A r ≤ mg A r c := by
        have := gmin_le (A := A) r c
        rw [coe_mg hf, coe_lo hf] at this
        exact EReal.coe_le_coe_iff.mp this
      have h1 : mg A r c ≤ hi A r := by
        have := le_gmax (A := A) r c
        rw [coe_mg hf, coe_hi hf] at this
        exact EReal.coe_le_coe_iff.mp this
      have he := eps_pos
      unfold inv
      rw [if_pos hf, mul_one_div]
      exact ⟨div_nonneg (sub_nonneg.mpr h0) hd.le, (div_le_one hd).mpr (by linarith)⟩
    · rw [inv_top hf, mul_zero]; exact ⟨le_rfl, zero_le_one⟩
  have hs := span_pos
  unfold wt
  have := mul_le_one₀ h.2 h.1 h.2
  nlinarith

/-- An entry's probability. -/
def prob (A : SA.Idx → Ideal .f32) (r : Fin 32) (c : Fin 1000000) : ℝ := wt A r c * (1 / total A r)

/-- A probability is positive. -/
theorem prob_pos (r : Fin 32) (c : Fin 1000000) : 0 < prob A r c := mul_pos (wt_pos r c) (one_div_pos.mpr (total_pos r))

/-- The guard is a small part of a probability. -/
theorem guard_part (r : Fin 32) (c : Fin 1000000) : guard / prob A r c < margin := by
  have ht : total A r ≤ 1000000 * (span + floor) := by
    unfold total
    refine (Finset.sum_le_card_nsmul _ _ (span + floor) fun c _ => wt_le r c).trans (le_of_eq ?_)
    rw [Finset.card_univ, Fintype.card_fin, nsmul_eq_mul]
    norm_num
  have hf : floor ≤ wt A r c := by
    unfold wt
    have := mul_nonneg (mul_self_nonneg ((mg A r c - lo A r) * inv A r)) span_pos.le
    linarith
  have h0 := total_pos (A := A) r
  have hm : 0 < margin := by unfold margin; positivity
  rw [div_lt_iff₀ (prob_pos r c)]
  unfold prob
  rw [mul_one_div, ← mul_div_assoc, lt_div_iff₀ h0]
  have h1 : guard * total A r ≤ guard * (1000000 * (span + floor)) := mul_le_mul_of_nonneg_left ht guard_pos.le
  have h2 : margin * floor ≤ margin * wt A r c := mul_le_mul_of_nonneg_left hf hm.le
  have h3 : guard * (1000000 * (span + floor)) < margin * floor := by
    unfold guard margin span floor; norm_num
  linarith

/-- By how much the guard raises a logarithm. -/
def raise (p : ℝ) : ℝ := Real.log (p + guard) - Real.log p

/-- The guard lowers no logarithm. -/
theorem raise_nonneg {p : ℝ} (h : 0 < p) : 0 ≤ raise p :=
  sub_nonneg.mpr (Real.log_le_log h (by have := guard_pos; linarith))

/-- The guard raises no score by the margin. -/
theorem raise_lt (r : Fin 32) (c : Fin 1000000) : raise (prob A r c) < margin := by
  have hp := prob_pos (A := A) r c
  have hg := guard_pos
  unfold raise
  rw [← Real.log_div (by linarith) hp.ne', show (prob A r c + guard) / prob A r c = guard / prob A r c + 1 by
    rw [add_div, div_self hp.ne', add_comm]]
  have hq : 0 < guard / prob A r c + 1 := by positivity
  have := Real.log_le_sub_one_of_pos hq
  have := guard_part (A := A) r c
  linarith

/-- Scores raised by less than a margin, and equally where they come within it of the largest, keep their largest. -/
theorem keep {ι : Type} {s d : ι → ℝ} {e : ℝ} (h0 : ∀ c, 0 ≤ d c) (he : ∀ c, d c < e) {j : ι}
    (hj : ∀ c, s c + d c ≤ s j + d j) (hd : ∀ c, s j + d j - e ≤ s c + d c → d c = d j) (c : ι) :
    s c ≤ s j ∧ (s c + d c = s j + d j ↔ s c = s j) := by
  have hc := hj c
  have h1 := h0 c
  have h2 := h0 j
  have h3 := he j
  by_cases h : s j + d j - e ≤ s c + d c
  · have h4 := hd c h
    exact ⟨by linarith, fun h => by linarith, fun h => by linarith⟩
  · have h4 := not_le.mp h
    exact ⟨by linarith, fun h => by linarith, fun h => by linarith⟩

end Cert.Alg

end
-- ==== Proof.GuardedPick.lean ====
/- The column the reference with its guard samples of each row: the kernel's, where the precondition holds. -/
module

public import proofs.«01_k».proof.Proof.Clear
public import proofs.«01_k».proof.Proof.Margin

@[expose] public section

set_option maxRecDepth 16384

noncomputable section

namespace Cert.Alg

open Idealize.ShloMosaic Idealize.ShloMosaic.ValueIdx Cert.Roll
open Cert.GuardedIdeal Cert.GuardedIdeal.Gen Cert.GuardedIdeal.Value

variable {A : SA.Idx → Ideal .f32} {V : Valuation τ sig (Elt Ideal)}

/-! ## What the precondition says -/

/-- The host's comparison, entry by entry. -/
theorem less_apply (x y : FVec Ideal S32x1000000 .f32) (i : S32x1000000.Idx) :
    cmpf .olt x y i = BitVec.ofBool (decide ((x i : EReal) < y i)) := rfl

/-- The host's test for equality, entry by entry. -/
theorem same_apply (x y : FVec Ideal S32x1000000 .f32) (i : S32x1000000.Idx) :
    cmpf .oeq x y i = BitVec.ofBool (decide ((x i : EReal) = y i)) := rfl

/-- Which scores are behind. -/
theorem behind_apply (s : FVec Ideal S32x1000000 .f32) (r : Fin 32) (c : Fin 1000000) :
    behindOf s (at2 r c) = BitVec.ofBool (decide ((s (at2 r c) : EReal) < refBest s (at1 r) - (margin : EReal))) := by
  unfold behindOf
  refine (less_apply s _ _).trans (congrArg (fun y : EReal => BitVec.ofBool (decide ((s (at2 r c) : EReal) < y))) ?_)
  refine (spread_host _ r c).trans ?_
  refine (subf_apply _ _ _).trans ?_
  refine congrArg₂ (fun x y : EReal => x - y) (col_host (refBest s) r) ?_
  exact (broadcastInDim_scalar_apply ..).trans ((constant_apply ..).trans margin_bits)

/-- The precondition at an entry. -/
theorem clear_apply (p s : FVec Ideal S32x1000000 .f32) (r : Fin 32) (c : Fin 1000000) :
    clearOf p s (at2 r c)
      = BitVec.ofBool (decide ((s (at2 r c) : EReal) < refBest s (at1 r) - (margin : EReal)))
        ||| BitVec.ofBool (decide ((p (at2 r c) : EReal) = topOf p (behindOf s) (at1 r))) := by
  unfold clearOf
  refine congrArg₂ (fun x y : BitVec 1 => x ||| y) (behind_apply s r c) ?_
  exact (same_apply p _ _).trans (congrArg (fun y : EReal => BitVec.ofBool (decide ((p (at2 r c) : EReal) = y)))
    ((spread_host _ r c).trans (col_host _ r)))

/-- A score that is not behind has the row's one probability. -/
theorem clear_says {p s : FVec Ideal S32x1000000 .f32} (h : clearOf p s = fun _ => 1#1) (r : Fin 32) (c : Fin 1000000)
    (hc : (refBest s (at1 r) - (margin : EReal) : EReal) ≤ s (at2 r c)) : (p (at2 r c) : EReal) = topOf p (behindOf s) (at1 r) := by
  have hi := (clear_apply p s r c).symm.trans (congrFun h (at2 r c))
  rw [decide_eq_false (not_lt.mpr hc)] at hi
  by_contra hn
  rw [decide_eq_false hn] at hi
  exact absurd hi (by decide)

/-! ## The scores -/

/-- An entry's score without the guard. -/
def plain (A : SA.Idx → Ideal .f32) (r : Fin 32) (c : Fin 1000000) : ℝ := Real.log (key A r c) - Real.log (total A r)

/-- The score as the noise and the logarithm of the probability. -/
theorem plain_eq (r : Fin 32) (c : Fin 1000000) : plain A r c = -Real.log (draw (word r c)) + Real.log (prob A r c) := by
  unfold plain key prob
  rw [Real.log_mul (wt_pos r c).ne' (one_div_pos.mpr (total_pos r)).ne', Real.log_div (wt_pos r c).ne' (draw_pos _).ne',
    one_div, Real.log_inv]
  ring

/-- Scores compare as the weights over the draws do. -/
theorem plain_le (r : Fin 32) (c c' : Fin 1000000) : plain A r c ≤ plain A r c' ↔ key A r c ≤ key A r c' := by
  unfold plain
  rw [sub_le_sub_iff_right]
  exact Real.log_le_log_iff (key_pos r c) (key_pos r c')

/-- Scores are equal where the weights over the draws are. -/
theorem plain_same (r : Fin 32) (c c' : Fin 1000000) : plain A r c = plain A r c' ↔ key A r c = key A r c' := by
  rw [le_antisymm_iff, le_antisymm_iff, plain_le, plain_le]

/-- The guard is added entry by entry. -/
theorem guarded_log_apply (p : FVec Ideal S32x1000000 .f32) (i : S32x1000000.Idx) :
    addf p (broadcastInDim S32x1000000 ![] bcast_S_S32x1000000 (constant S_ .f32 0x0DA24260#32)) i = (p i + (guard : EReal) : EReal) := by
  rw [addf_apply, broadcastInDim_scalar_apply, constant_apply]
  exact congrArg (fun x : EReal => (p i : EReal) + x) guard_bits

/-- The guarded reference's score of an entry: the score without the guard and what the guard adds. -/
theorem guarded_score (hV : V (Proc.devRef .tc main_arg0) = A) (r : Fin 32) (c : Fin 1000000) :
    guardedScore V (at2 r c) = ((plain A r c + raise (prob A r c) : ℝ) : EReal) := by
  have hw : guardedBits V (at2 r c) = word r c := guardedBits_apply V (at2 r c)
  have hp : (addf (guardedProbs V) (broadcastInDim S32x1000000 ![] bcast_S_S32x1000000 (constant S_ .f32 0x0DA24260#32))) (at2 r c)
      = ((prob A r c + guard : ℝ) : EReal) := by
    rw [guarded_log_apply, guarded_prob hV, ← EReal.coe_add]
    rfl
  have hg : 0 < prob A r c + guard := add_pos (prob_pos r c) guard_pos
  refine (score_shape (guardedBits V)
    (addf (guardedProbs V) (broadcastInDim S32x1000000 ![] bcast_S_S32x1000000 (constant S_ .f32 0x0DA24260#32))) (at2 r c)).trans ?_
  rw [hw, log_uni, hp, log_real hg, ← EReal.coe_neg, neg_neg, log_real (draw_pos _), ← EReal.coe_neg, ← EReal.coe_add]
  refine congrArg _ ?_
  rw [plain_eq]
  unfold raise
  ring

/-! ## The columns -/

/-- Scores without the guard raised by it have their column at the row's leader, where the precondition holds. -/
theorem clear_column {p s : FVec Ideal S32x1000000 .f32} (h : clearOf p s = fun _ => 1#1) (r : Fin 32)
    (hp : ∀ c, p (at2 r c) = (prob A r c : EReal)) (hsc : ∀ c, s (at2 r c) = ((plain A r c + raise (prob A r c) : ℝ) : EReal))
    {cs : Fin 1000000} (hs : Leads A r Finset.univ cs) : refPick s (at1 r) = BitVec.ofNat 32 cs.val := by
  obtain ⟨j, -, hj⟩ := Finset.exists_max_image (Finset.univ : Finset (Fin 1000000)) (fun c => plain A r c + raise (prob A r c))
    ⟨cs, Finset.mem_univ _⟩
  have hj' : ∀ c, plain A r c + raise (prob A r c) ≤ plain A r j + raise (prob A r j) := fun c => hj c (Finset.mem_univ _)
  have hb : refBest s (at1 r) = ((plain A r j + raise (prob A r j) : ℝ) : EReal) :=
    (best_score s r j fun c => by rw [hsc, hsc]; exact EReal.coe_le_coe_iff.mpr (hj' c)).trans (hsc j)
  have ht : ∀ c, plain A r j + raise (prob A r j) - margin ≤ plain A r c + raise (prob A r c) →
      (prob A r c : EReal) = topOf p (behindOf s) (at1 r) := fun c hc => by
    rw [← hp c]
    refine clear_says h r c ?_
    rw [hb, hsc, ← EReal.coe_sub]
    exact EReal.coe_le_coe_iff.mpr hc
  have hm : 0 < margin := (raise_nonneg (prob_pos (A := A) r j)).trans_lt (raise_lt r j)
  have hk := keep (s := plain A r) (d := fun c => raise (prob A r c)) (e := margin) (j := j)
    (fun c => raise_nonneg (prob_pos r c)) (fun c => raise_lt r c) hj' fun c hc => by
      have e := (ht c hc).trans (ht j (by linarith)).symm
      exact congrArg raise (EReal.coe_injective e)
  have hcs : plain A r cs = plain A r j := le_antisymm (hk cs).1 ((plain_le r j cs).mpr (hs.le j (Finset.mem_univ _)))
  have hgs := (hk cs).2.mpr hcs
  refine score_column s r hs (fun c => ?_) fun c => ?_
  · rw [hsc, hsc]
    exact EReal.coe_le_coe_iff.mpr ((hj' c).trans hgs.ge)
  · rw [hsc, hsc, ← plain_same r c cs]
    refine EReal.coe_eq_coe_iff.trans ?_
    exact ⟨fun e => ((hk c).2.mp (e.trans hgs)).trans hcs.symm, fun e => ((hk c).2.mpr (e.trans hcs)).trans hgs.symm⟩

/-- Kernel and guarded reference sample the same column of every row. -/
theorem guarded_pick_eq [Cert.Pre_clear.Facts] (hV : V (Proc.devRef .tc main_arg0) = A)
    (h : Cert.Pre_clear.fn (F := Ideal) A = fun _ => 1#1) (r : Fin 32) :
    pick (bestAt A (stat (root : EReal) A) 31) (at0 r) = refPick (guardedScore V) (at1 r) := by
  obtain ⟨cs, hs⟩ := leader A r
  have hc : clearOf (guardedProbs V) (guardedScore V) = fun _ => 1#1 :=
    (clear_fn (V := V)).symm.trans ((congrArg (fun x => Cert.Pre_clear.fn (F := Ideal) x) hV).trans h)
  rw [clear_column hc r (fun c => guarded_prob hV r c) (fun c => guarded_score hV r c) hs]
  exact pick_leader (best_holds stat_offset stat_scale 31 le_rfl) (by decide) r hs

end Cert.Alg

end
-- ==== Proof.Frames.lean ====
/- Each program runs to its end, leaves its argument alone and every semaphore at zero; and the one constant the ideal
   program names is the real it is said to be. -/
module

public import proofs.«01_k».proof.Defs
public import proofs.«01_k».proof.Proof.KernelRun
public import proofs.«01_k».proof.Proof.KernelIdealRun
public import proofs.«01_k».proof.Proof.Gen.ReferenceIdeal.Run
public import proofs.«01_k».proof.Proof.Gen.GuardedIdeal.Run

@[expose] public section

noncomputable section

namespace Cert.Frames

open Idealize.ShloMosaic Idealize.ShloMosaic.TcCoe Idealize.SL.Sem Idealize.ShloMosaic.StableHlo

/-- The kernel runs and keeps its argument. -/
theorem kernel (m : (ℓ : Loc Cert.Kernel.nD Cert.Kernel.τ Cert.Kernel.sig) → Buf (Elt Bits) ℓ)
    (g : Dev Cert.Kernel.nD → PrngReg) :
    θ_run (Cert.Kernel.defs (F := Bits)) (onTc (τ := Cert.Kernel.τ) (Cert.Kernel.main (F := Bits))) ⟨m, fun _ => 0, g⟩
      (fun r => (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)) ∧ r.2.sem = fun _ => 0) :=
  (θ_run _ _ _).mono
    (fun _ h => ⟨fun c => (h.1 c Cert.Kernel.main_arg0
      (Finset.mem_filter.mpr ⟨StableHlo.devRef_mem_tcRefs Cert.Kernel.main_arg0, by decide⟩)).trans
        (Cert.Kernel.Gen.V3_main_arg0 m _ c), h.2⟩)
    (Cert.Kernel.Own.run m g)

/-- The kernel over the reals runs and keeps its argument. -/
theorem kernelIdeal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run _ _ _).mono
    (fun _ h => ⟨fun c => (h.1 c Cert.KernelIdeal.main_arg0
      (Finset.mem_filter.mpr ⟨StableHlo.devRef_mem_tcRefs Cert.KernelIdeal.main_arg0, by decide⟩)).trans
        (Cert.KernelIdeal.Gen.V3_main_arg0 m _ c), h.2⟩)
    (Cert.KernelIdeal.Own.run m g)

/-- The reference over the reals runs and keeps its argument: its operations signal nothing. -/
theorem referenceIdeal
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2.2, sem_eq_zero_of_no_sems (by decide) r.2⟩)
    (Cert.ReferenceIdeal.Value.run m g)

/-- The reference with its guard, over the reals, runs and keeps its argument: its operations signal nothing. -/
theorem guardedIdeal
    (m : (ℓ : Loc Cert.GuardedIdeal.nD Cert.GuardedIdeal.τ Cert.GuardedIdeal.sig) → Buf (Elt Ideal) ℓ)
    (g : Dev Cert.GuardedIdeal.nD → PrngReg) :
    θ_run (Cert.GuardedIdeal.defs (F := Ideal))
      (onTc (τ := Cert.GuardedIdeal.τ) (Cert.GuardedIdeal.main (F := Ideal))) ⟨m, fun _ => 0, g⟩
      (fun r => (∀ c : Dev Cert.GuardedIdeal.nD,
        r.2.mem ((c.tc : Thread Cert.GuardedIdeal.nD Cert.GuardedIdeal.τ).loc Cert.GuardedIdeal.main_arg0)
          = m ((c.tc : Thread Cert.GuardedIdeal.nD Cert.GuardedIdeal.τ).loc Cert.GuardedIdeal.main_arg0))
        ∧ r.2.sem = fun _ => 0) :=
  (θ_run _ _ _).mono (fun r h => ⟨fun c => (h c).2.2, sem_eq_zero_of_no_sems (by decide) r.2⟩)
    (Cert.GuardedIdeal.Value.run m g)

/-- The named constant is the square root it stands for. -/
theorem preserves : Cert.preserves_Kernel_KernelIdeal :=
  IdealRules.named_const.statement Cert.KernelIdeal.κ "root_span" .f32 0x3F72DCE8#32
    ((Real.sqrt (7549747 / 8388608) : ℝ) : EReal) rfl

end Cert.Frames

end
-- ==== Proof.Algebraic.lean ====
/- Over the reals kernel and reference leave the same probabilities and sample the same columns. -/
module

public import proofs.«01_k».proof.Proof.RefPick
public import proofs.«01_k».proof.Proof.Frames

@[expose] public section

set_option maxRecDepth 16384

noncomputable section

namespace Cert.Alg

open Idealize.ShloMosaic Idealize.ShloMosaic.TcCoe Idealize.ShloMosaic.ValueIdx Idealize.SL.Sem Cert.Roll

/-- The named constant is the square root. -/
theorem root_named : Cert.KernelIdeal.Own.root (F := Ideal) = (root : EReal) := by
  refine (IdealRules.named_const.ideal_named_scalar _ _ _ _ rfl).trans ?_
  unfold root span
  rfl

/-- Kernel and reference leave the same probabilities. -/
theorem probs_eq {A : SA.Idx → Ideal .f32} {V : Valuation Cert.ReferenceIdeal.τ Cert.ReferenceIdeal.sig (Elt Ideal)}
    (hV : V (Proc.devRef .tc Cert.ReferenceIdeal.main_arg0) = A) :
    Cert.KernelIdeal.Own.probAll A (stat (F := Ideal) (root : EReal) A) = refProbs V := by
  funext i
  rw [show i = at2 (m := 32) (n := 1000000) (i 0) (i 1) from idx_ext (m := 32) (n := 1000000) rfl rfl]
  exact (probAll_real (i 0) (i 1)).trans (ref_prob hV (i 0) (i 1)).symm

/-- Kernel and reference sample the same columns. -/
theorem picks_eq {A : SA.Idx → Ideal .f32} {V : Valuation Cert.ReferenceIdeal.τ Cert.ReferenceIdeal.sig (Elt Ideal)}
    (hV : V (Proc.devRef .tc Cert.ReferenceIdeal.main_arg0) = A) :
    (fun i : SR.Idx => pick (bestAt A (stat (F := Ideal) (root : EReal) A) 31) (at2 (m := 32) (n := 1) (i 0) 0)) = refPick (refScore V) := by
  funext i
  refine (pick_eq hV (i 0)).trans (congrArg (refPick (refScore V)) ?_)
  funext a
  match a with
  | ⟨0, _⟩ => rfl

section runs

variable (m : (ℓ : Loc Cert.KernelIdeal.nD Cert.KernelIdeal.τ Cert.KernelIdeal.sig) → Buf (Elt Ideal) ℓ)

/-- The kernel's argument on a device. -/
abbrev arg (c : Dev Cert.KernelIdeal.nD) : SA.Idx → Ideal .f32 :=
  m ((c.tc : Thread Cert.KernelIdeal.nD Cert.KernelIdeal.τ).loc Cert.KernelIdeal.main_arg0)

/-- The probabilities the kernel leaves, from its argument. -/
theorem kernel_probs (c : Dev Cert.KernelIdeal.nD) :
    Cert.KernelIdeal.Gen.V3 m (Cert.KernelIdeal.Own.outs m) c Cert.KernelIdeal.main_v1_0
      = Cert.KernelIdeal.Own.probAll (arg m c)
          (stat (F := Ideal) (root : EReal) (arg m c)) := by
  rw [Cert.KernelIdeal.Own.V3_probs, Cert.KernelIdeal.Own.probOut_eq, Cert.KernelIdeal.Own.statOut_eq, root_named]

/-- The columns the kernel leaves, from its argument. -/
theorem kernel_picks (c : Dev Cert.KernelIdeal.nD) :
    Cert.KernelIdeal.Gen.V3 m (Cert.KernelIdeal.Own.outs m) c Cert.KernelIdeal.main_v2
      = fun i : SR.Idx => pick (bestAt (arg m c)
          (stat (F := Ideal) (root : EReal) (arg m c)) 31) (at2 (m := 32) (n := 1) (i 0) 0) := by
  rw [Cert.KernelIdeal.Own.V3_idx, Cert.KernelIdeal.Own.idxOut_eq, Cert.KernelIdeal.Own.statOut_eq, root_named]

end runs

/-- Both run, leave equal results and their argument alone. -/
theorem algebraic : Cert.algebraic_KernelIdeal_ReferenceIdeal (hKernelIdeal := Cert.KernelIdeal.Gen.facts)
    (hReferenceIdeal := Cert.ReferenceIdeal.Gen.facts) := by
  intro m g m' g' _ harg
  refine ⟨fun c => Cert.KernelIdeal.Gen.V3 m (Cert.KernelIdeal.Own.outs m) c Cert.KernelIdeal.main_v1_0,
    fun c => Cert.KernelIdeal.Gen.V3 m (Cert.KernelIdeal.Own.outs m) c Cert.KernelIdeal.main_v2, ?_, ?_⟩
  · refine (θ_run _ _ _).mono (fun r h c => ⟨?_, ?_, ?_⟩) (Cert.KernelIdeal.Own.run m g)
    · exact h.1 c Cert.KernelIdeal.main_v1_0
        (Finset.mem_filter.mpr ⟨StableHlo.devRef_mem_tcRefs Cert.KernelIdeal.main_v1_0, by decide⟩)
    · exact h.1 c Cert.KernelIdeal.main_v2
        (Finset.mem_filter.mpr ⟨StableHlo.devRef_mem_tcRefs Cert.KernelIdeal.main_v2, by decide⟩)
    · exact (h.1 c Cert.KernelIdeal.main_arg0
        (Finset.mem_filter.mpr ⟨StableHlo.devRef_mem_tcRefs Cert.KernelIdeal.main_arg0, by decide⟩)).trans
          (Cert.KernelIdeal.Gen.V3_main_arg0 m _ c)
  · refine (θ_run _ _ _).mono (fun r h c => ⟨?_, ?_, (h c).2.2⟩) (Cert.ReferenceIdeal.Value.run m' g')
    · exact (h c).1.trans ((probs_eq (harg c)).symm.trans (kernel_probs m c).symm)
    · exact (h c).2.1.trans ((picks_eq (harg c)).symm.trans (kernel_picks m c).symm)

end Cert.Alg

end
-- ==== Proof.Guarded.lean ====
/- Over the reals kernel and reference with its guard leave the same probabilities, and where the precondition holds they
   sample the same columns. -/
module

public import proofs.«01_k».proof.Proof.GuardedPick
public import proofs.«01_k».proof.Proof.Algebraic

@[expose] public section

set_option maxRecDepth 16384

noncomputable section

namespace Cert.Alg

open Idealize.ShloMosaic Idealize.ShloMosaic.TcCoe Idealize.ShloMosaic.ValueIdx Idealize.SL.Sem Cert.Roll

/-- Kernel and guarded reference leave the same probabilities. -/
theorem guarded_probs_eq {A : SA.Idx → Ideal .f32} {V : Valuation Cert.GuardedIdeal.τ Cert.GuardedIdeal.sig (Elt Ideal)}
    (hV : V (Proc.devRef .tc Cert.GuardedIdeal.main_arg0) = A) :
    Cert.KernelIdeal.Own.probAll A (stat (F := Ideal) (root : EReal) A) = guardedProbs V := by
  funext i
  rw [show i = at2 (m := 32) (n := 1000000) (i 0) (i 1) from idx_ext (m := 32) (n := 1000000) rfl rfl]
  exact (probAll_real (i 0) (i 1)).trans (guarded_prob hV (i 0) (i 1)).symm

/-- Kernel and guarded reference sample the same columns, where the precondition holds. -/
theorem guarded_picks_eq [Cert.Pre_clear.Facts] {A : SA.Idx → Ideal .f32}
    {V : Valuation Cert.GuardedIdeal.τ Cert.GuardedIdeal.sig (Elt Ideal)}
    (hV : V (Proc.devRef .tc Cert.GuardedIdeal.main_arg0) = A) (h : Cert.Pre_clear.fn (F := Ideal) A = fun _ => 1#1) :
    (fun i : SR.Idx => pick (bestAt A (stat (F := Ideal) (root : EReal) A) 31) (at2 (m := 32) (n := 1) (i 0) 0))
      = refPick (guardedScore V) := by
  funext i
  refine (guarded_pick_eq hV h (i 0)).trans (congrArg (refPick (guardedScore V)) ?_)
  funext a
  match a with
  | ⟨0, _⟩ => rfl

/-- Where the precondition holds both run, leave equal results and their argument alone. -/
theorem guarded : Cert.algebraic_KernelIdeal_GuardedIdeal_pre_clear (hKernelIdeal := Cert.KernelIdeal.Gen.facts)
    (hGuardedIdeal := Cert.GuardedIdeal.Gen.facts) (hPre_clear := clearFacts) := by
  intro m g m' g' hpre harg
  refine ⟨fun c => Cert.KernelIdeal.Gen.V3 m (Cert.KernelIdeal.Own.outs m) c Cert.KernelIdeal.main_v1_0,
    fun c => Cert.KernelIdeal.Gen.V3 m (Cert.KernelIdeal.Own.outs m) c Cert.KernelIdeal.main_v2, ?_, ?_⟩
  · refine (θ_run _ _ _).mono (fun r h c => ⟨?_, ?_, ?_⟩) (Cert.KernelIdeal.Own.run m g)
    · exact h.1 c Cert.KernelIdeal.main_v1_0
        (Finset.mem_filter.mpr ⟨StableHlo.devRef_mem_tcRefs Cert.KernelIdeal.main_v1_0, by decide⟩)
    · exact h.1 c Cert.KernelIdeal.main_v2
        (Finset.mem_filter.mpr ⟨StableHlo.devRef_mem_tcRefs Cert.KernelIdeal.main_v2, by decide⟩)
    · exact (h.1 c Cert.KernelIdeal.main_arg0
        (Finset.mem_filter.mpr ⟨StableHlo.devRef_mem_tcRefs Cert.KernelIdeal.main_arg0, by decide⟩)).trans
          (Cert.KernelIdeal.Gen.V3_main_arg0 m _ c)
  · refine (θ_run _ _ _).mono (fun r h c => ⟨?_, ?_, (h c).2.2⟩) (Cert.GuardedIdeal.Value.run m' g')
    · exact (h c).1.trans ((guarded_probs_eq (harg c)).symm.trans (kernel_probs m c).symm)
    · exact (h c).2.1.trans ((@guarded_picks_eq clearFacts _ _ (harg c) (hpre c)).symm.trans (kernel_picks m c).symm)

end Cert.Alg

end
-- ==== Proof.lean ====
/- The claims about the sampling kernel, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.GuardedIdeal
public import proofs.«01_k».proof.Proof.Guarded
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every program runs, keeps its argument and ends quiet; the named constant is its real; over the reals kernel and
    reference without its guard give the same probabilities and the same columns for every input; and so do kernel and
    reference with its guard where no score of another probability comes close to a row's largest. -/
theorem claim : Cert.Claim := ⟨Cert.Kernel.Gen.facts, Cert.KernelIdeal.Gen.facts, Cert.ReferenceIdeal.Gen.facts,
  Cert.GuardedIdeal.Gen.facts, Cert.Alg.clearFacts,
  fun m g _ => Cert.Frames.kernel m g, fun m g _ => Cert.Frames.kernelIdeal m g, fun m g _ => Cert.Frames.kernelIdeal m g,
  fun m g _ => Cert.Frames.referenceIdeal m g, fun m g _ => Cert.Frames.guardedIdeal m g,
  fun m g _ => Cert.Frames.guardedIdeal m g, Cert.Frames.preserves, Cert.Alg.algebraic, Cert.Alg.guarded⟩

end Cert.Proof

end
